-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2 = (fun _ => 1#1)

def Pre_MlaRef (m : (ℓ : Loc Cert.MlaRef.nD Cert.MlaRef.τ Cert.MlaRef.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_da_finite [hPre_da_finite : Cert.Pre_da_finite.Facts] (m : (ℓ : Loc Cert.DaIdeal.nD Cert.DaIdeal.τ Cert.DaIdeal.sig) → Buf (Elt Ideal) ℓ) : Prop :=
  ∀ c : Dev Cert.DaIdeal.nD,
    (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))).1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))).2.1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))).2.2.1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))).2.2.2.1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))).2.2.2.2.1 = (fun _ => 1#1)
    ∧ (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))).2.2.2.2.2 = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_da_finite [hPre_da_finite : Cert.Pre_da_finite.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))).1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))).2.1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))).2.2.1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))).2.2.2.1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))).2.2.2.2.1 = (fun _ => 1#1)
    ∧ (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))).2.2.2.2.2 = (fun _ => 1#1)

def Pre_DaRef (m : (ℓ : Loc Cert.DaRef.nD Cert.DaRef.τ Cert.DaRef.sig) → Buf (Elt Bits) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRef [hMlaRef : Cert.MlaRef.Facts] : Prop :=
  ∀ (m : (ℓ : Loc Cert.MlaRef.nD Cert.MlaRef.τ Cert.MlaRef.sig) → Buf (Elt Bits) ℓ) (g : Dev Cert.MlaRef.nD → PrngReg), Pre_MlaRef m →
    θ_run (Cert.MlaRef.defs (F := Bits)) (onTc (τ := Cert.MlaRef.τ) (Cert.MlaRef.main (F := Bits))) ⟨m, fun _ => 0, g⟩ (fun r => (∀ c : Dev Cert.MlaRef.nD,
      r.2.mem ((c.tc : Thread Cert.MlaRef.nD Cert.MlaRef.τ).loc Cert.MlaRef.main_arg0) = m ((c.tc : Thread Cert.MlaRef.nD Cert.MlaRef.τ).loc Cert.MlaRef.main_arg0)
      ∧ r.2.mem ((c.tc : Thread Cert.MlaRef.nD Cert.MlaRef.τ).loc Cert.MlaRef.main_arg1) = m ((c.tc : Thread Cert.MlaRef.nD Cert.MlaRef.τ).loc Cert.MlaRef.main_arg1)
      ∧ r.2.mem ((c.tc : Thread Cert.MlaRef.nD Cert.MlaRef.τ).loc Cert.MlaRef.main_arg2) = m ((c.tc : Thread Cert.MlaRef.nD Cert.MlaRef.τ).loc Cert.MlaRef.main_arg2)
      ∧ r.2.mem ((c.tc : Thread Cert.MlaRef.nD Cert.MlaRef.τ).loc Cert.MlaRef.main_arg3) = m ((c.tc : Thread Cert.MlaRef.nD Cert.MlaRef.τ).loc Cert.MlaRef.main_arg3)
      ∧ r.2.mem ((c.tc : Thread Cert.MlaRef.nD Cert.MlaRef.τ).loc Cert.MlaRef.main_arg4) = m ((c.tc : Thread Cert.MlaRef.nD Cert.MlaRef.τ).loc Cert.MlaRef.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5)
      ∧ r.2.mem ((c.tc : Thread Cert.Da.nD Cert.Da.τ).loc Cert.Da.main_arg6) = m ((c.tc : Thread Cert.Da.nD Cert.Da.τ).loc Cert.Da.main_arg6))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5)
      ∧ r.2.mem ((c.tc : Thread Cert.DaIdeal.nD Cert.DaIdeal.τ).loc Cert.DaIdeal.main_arg6) = m ((c.tc : Thread Cert.DaIdeal.nD Cert.DaIdeal.τ).loc Cert.DaIdeal.main_arg6))
      ∧ r.2.sem = fun _ => 0)

def quiescent_DaIdeal_pre_da_finite [hDaIdeal : Cert.DaIdeal.Facts] [hPre_da_finite : Cert.Pre_da_finite.Facts] : Prop :=
  ∀ (m : (ℓ : Loc Cert.DaIdeal.nD Cert.DaIdeal.τ Cert.DaIdeal.sig) → Buf (Elt Ideal) ℓ) (g : Dev Cert.DaIdeal.nD → PrngReg), Pre_DaIdeal_da_finite m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5)
      ∧ r.2.mem ((c.tc : Thread Cert.DaIdeal.nD Cert.DaIdeal.τ).loc Cert.DaIdeal.main_arg6) = m ((c.tc : Thread Cert.DaIdeal.nD Cert.DaIdeal.τ).loc Cert.DaIdeal.main_arg6))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5)
      ∧ r.2.mem ((c.tc : Thread Cert.DaRefIdeal.nD Cert.DaRefIdeal.τ).loc Cert.DaRefIdeal.main_arg6) = m ((c.tc : Thread Cert.DaRefIdeal.nD Cert.DaRefIdeal.τ).loc Cert.DaRefIdeal.main_arg6))
      ∧ r.2.sem = fun _ => 0)

def quiescent_DaRefIdeal_pre_da_finite [hDaRefIdeal : Cert.DaRefIdeal.Facts] [hPre_da_finite : Cert.Pre_da_finite.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_da_finite m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5)
      ∧ r.2.mem ((c.tc : Thread Cert.DaRefIdeal.nD Cert.DaRefIdeal.τ).loc Cert.DaRefIdeal.main_arg6) = m ((c.tc : Thread Cert.DaRefIdeal.nD Cert.DaRefIdeal.τ).loc Cert.DaRefIdeal.main_arg6))
      ∧ r.2.sem = fun _ => 0)

def quiescent_DaRef [hDaRef : Cert.DaRef.Facts] : Prop :=
  ∀ (m : (ℓ : Loc Cert.DaRef.nD Cert.DaRef.τ Cert.DaRef.sig) → Buf (Elt Bits) ℓ) (g : Dev Cert.DaRef.nD → PrngReg), Pre_DaRef m →
    θ_run (Cert.DaRef.defs (F := Bits)) (onTc (τ := Cert.DaRef.τ) (Cert.DaRef.main (F := Bits))) ⟨m, fun _ => 0, g⟩ (fun r => (∀ c : Dev Cert.DaRef.nD,
      r.2.mem ((c.tc : Thread Cert.DaRef.nD Cert.DaRef.τ).loc Cert.DaRef.main_arg0) = m ((c.tc : Thread Cert.DaRef.nD Cert.DaRef.τ).loc Cert.DaRef.main_arg0)
      ∧ r.2.mem ((c.tc : Thread Cert.DaRef.nD Cert.DaRef.τ).loc Cert.DaRef.main_arg1) = m ((c.tc : Thread Cert.DaRef.nD Cert.DaRef.τ).loc Cert.DaRef.main_arg1)
      ∧ r.2.mem ((c.tc : Thread Cert.DaRef.nD Cert.DaRef.τ).loc Cert.DaRef.main_arg2) = m ((c.tc : Thread Cert.DaRef.nD Cert.DaRef.τ).loc Cert.DaRef.main_arg2)
      ∧ r.2.mem ((c.tc : Thread Cert.DaRef.nD Cert.DaRef.τ).loc Cert.DaRef.main_arg3) = m ((c.tc : Thread Cert.DaRef.nD Cert.DaRef.τ).loc Cert.DaRef.main_arg3)
      ∧ r.2.mem ((c.tc : Thread Cert.DaRef.nD Cert.DaRef.τ).loc Cert.DaRef.main_arg4) = m ((c.tc : Thread Cert.DaRef.nD Cert.DaRef.τ).loc Cert.DaRef.main_arg4)
      ∧ r.2.mem ((c.tc : Thread Cert.DaRef.nD Cert.DaRef.τ).loc Cert.DaRef.main_arg5) = m ((c.tc : Thread Cert.DaRef.nD Cert.DaRef.τ).loc Cert.DaRef.main_arg5)
      ∧ r.2.mem ((c.tc : Thread Cert.DaRef.nD Cert.DaRef.τ).loc Cert.DaRef.main_arg6) = m ((c.tc : Thread Cert.DaRef.nD Cert.DaRef.τ).loc Cert.DaRef.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14)
      ∧ r.2.mem ((c.tc : Thread Cert.Inproj.nD Cert.Inproj.τ).loc Cert.Inproj.main_arg15) = m ((c.tc : Thread Cert.Inproj.nD Cert.Inproj.τ).loc Cert.Inproj.main_arg15))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15))
      ∧ r.2.sem = fun _ => 0)

def preserves_Mla_MlaIdeal : Prop :=
  True

def preserves_MlaRef_MlaRefIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v7)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v7) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v24) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v75) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Da_DaIdeal : Prop :=
  True

def preserves_DaRef_DaRefIdeal : Prop :=
  True

def algebraic_DaIdeal_DaRefIdeal_pre_da_finite [hDaIdeal : Cert.DaIdeal.Facts] [hDaRefIdeal : Cert.DaRefIdeal.Facts] [hPre_da_finite : Cert.Pre_da_finite.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal_da_finite m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)
      ∧ m' ((c.tc : Thread Cert.DaRefIdeal.nD Cert.DaRefIdeal.τ).loc Cert.DaRefIdeal.main_arg6) = m ((c.tc : Thread Cert.DaIdeal.nD Cert.DaIdeal.τ).loc Cert.DaIdeal.main_arg6)) →
    ∃ (v0 : (c : Dev Cert.DaIdeal.nD) → Buf (Elt Ideal) ((c.tc : Thread Cert.DaIdeal.nD Cert.DaIdeal.τ).loc Cert.DaIdeal.main_v7)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v7) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5)
          ∧ r.2.mem ((c.tc : Thread Cert.DaIdeal.nD Cert.DaIdeal.τ).loc Cert.DaIdeal.main_arg6) = m ((c.tc : Thread Cert.DaIdeal.nD Cert.DaIdeal.τ).loc Cert.DaIdeal.main_arg6))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v63) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5)
          ∧ r.2.mem ((c.tc : Thread Cert.DaRefIdeal.nD Cert.DaRefIdeal.τ).loc Cert.DaRefIdeal.main_arg6) = m' ((c.tc : Thread Cert.DaRefIdeal.nD Cert.DaRefIdeal.τ).loc Cert.DaRefIdeal.main_arg6))

def preserves_Inproj_InprojIdeal : Prop :=
  IdealRules.named_const.Statement Cert.InprojIdeal.κ "da_scale" .f32 0x3E38AA3B#32 (((Real.sqrt 64)⁻¹ * (Real.log 2)⁻¹ : ℝ) : EReal)
  ∧ IdealRules.named_const.Statement Cert.InprojIdeal.κ "mla_scale" .f32 0x3DD53B95#32 (((Real.sqrt 192)⁻¹ * (Real.log 2)⁻¹ : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)
      ∧ m' ((c.tc : Thread Cert.InprojRefIdeal.nD Cert.InprojRefIdeal.τ).loc Cert.InprojRefIdeal.main_arg15) = m ((c.tc : Thread Cert.InprojIdeal.nD Cert.InprojIdeal.τ).loc Cert.InprojIdeal.main_arg15)) →
    ∃ (v0 : (c : Dev Cert.InprojIdeal.nD) → Buf (Elt Ideal) ((c.tc : Thread Cert.InprojIdeal.nD Cert.InprojIdeal.τ).loc Cert.InprojIdeal.main_v8_0)) (v1 : (c : Dev Cert.InprojIdeal.nD) → Buf (Elt Ideal) ((c.tc : Thread Cert.InprojIdeal.nD Cert.InprojIdeal.τ).loc Cert.InprojIdeal.main_v8_1)) (v2 : (c : Dev Cert.InprojIdeal.nD) → Buf (Elt Ideal) ((c.tc : Thread Cert.InprojIdeal.nD Cert.InprojIdeal.τ).loc Cert.InprojIdeal.main_v8_2)) (v3 : (c : Dev Cert.InprojIdeal.nD) → Buf (Elt Ideal) ((c.tc : Thread Cert.InprojIdeal.nD Cert.InprojIdeal.τ).loc Cert.InprojIdeal.main_v8_3)) (v4 : (c : Dev Cert.InprojIdeal.nD) → Buf (Elt Ideal) ((c.tc : Thread Cert.InprojIdeal.nD Cert.InprojIdeal.τ).loc Cert.InprojIdeal.main_v8_4)) (v5 : (c : Dev Cert.InprojIdeal.nD) → Buf (Elt Ideal) ((c.tc : Thread Cert.InprojIdeal.nD Cert.InprojIdeal.τ).loc Cert.InprojIdeal.main_v8_5)) (v6 : (c : Dev Cert.InprojIdeal.nD) → Buf (Elt Ideal) ((c.tc : Thread Cert.InprojIdeal.nD Cert.InprojIdeal.τ).loc Cert.InprojIdeal.main_v8_6)) (v7 : (c : Dev Cert.InprojIdeal.nD) → Buf (Elt Ideal) ((c.tc : Thread Cert.InprojIdeal.nD Cert.InprojIdeal.τ).loc Cert.InprojIdeal.main_v8_7)) (v8 : (c : Dev Cert.InprojIdeal.nD) → Buf (Elt Ideal) ((c.tc : Thread Cert.InprojIdeal.nD Cert.InprojIdeal.τ).loc Cert.InprojIdeal.main_v8_8)) (v9 : (c : Dev Cert.InprojIdeal.nD) → Buf (Elt Ideal) ((c.tc : Thread Cert.InprojIdeal.nD Cert.InprojIdeal.τ).loc Cert.InprojIdeal.main_v8_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8_0) = v0 c
          ∧ r.2.mem ((c.tc : Thread Cert.InprojIdeal.nD Cert.InprojIdeal.τ).loc Cert.InprojIdeal.main_v8_1) = v1 c
          ∧ r.2.mem ((c.tc : Thread Cert.InprojIdeal.nD Cert.InprojIdeal.τ).loc Cert.InprojIdeal.main_v8_2) = v2 c
          ∧ r.2.mem ((c.tc : Thread Cert.InprojIdeal.nD Cert.InprojIdeal.τ).loc Cert.InprojIdeal.main_v8_3) = v3 c
          ∧ r.2.mem ((c.tc : Thread Cert.InprojIdeal.nD Cert.InprojIdeal.τ).loc Cert.InprojIdeal.main_v8_4) = v4 c
          ∧ r.2.mem ((c.tc : Thread Cert.InprojIdeal.nD Cert.InprojIdeal.τ).loc Cert.InprojIdeal.main_v8_5) = v5 c
          ∧ r.2.mem ((c.tc : Thread Cert.InprojIdeal.nD Cert.InprojIdeal.τ).loc Cert.InprojIdeal.main_v8_6) = v6 c
          ∧ r.2.mem ((c.tc : Thread Cert.InprojIdeal.nD Cert.InprojIdeal.τ).loc Cert.InprojIdeal.main_v8_7) = v7 c
          ∧ r.2.mem ((c.tc : Thread Cert.InprojIdeal.nD Cert.InprojIdeal.τ).loc Cert.InprojIdeal.main_v8_8) = v8 c
          ∧ r.2.mem ((c.tc : Thread Cert.InprojIdeal.nD Cert.InprojIdeal.τ).loc Cert.InprojIdeal.main_v8_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
          ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v183) = v0 c
          ∧ r.2.mem ((c.tc : Thread Cert.InprojRefIdeal.nD Cert.InprojRefIdeal.τ).loc Cert.InprojRefIdeal.main_v184) = v1 c
          ∧ r.2.mem ((c.tc : Thread Cert.InprojRefIdeal.nD Cert.InprojRefIdeal.τ).loc Cert.InprojRefIdeal.main_v84) = v2 c
          ∧ r.2.mem ((c.tc : Thread Cert.InprojRefIdeal.nD Cert.InprojRefIdeal.τ).loc Cert.InprojRefIdeal.main_v85) = v3 c
          ∧ r.2.mem ((c.tc : Thread Cert.InprojRefIdeal.nD Cert.InprojRefIdeal.τ).loc Cert.InprojRefIdeal.main_v86) = v4 c
          ∧ r.2.mem ((c.tc : Thread Cert.InprojRefIdeal.nD Cert.InprojRefIdeal.τ).loc Cert.InprojRefIdeal.main_v185) = v5 c
          ∧ r.2.mem ((c.tc : Thread Cert.InprojRefIdeal.nD Cert.InprojRefIdeal.τ).loc Cert.InprojRefIdeal.main_v186) = v6 c
          ∧ r.2.mem ((c.tc : Thread Cert.InprojRefIdeal.nD Cert.InprojRefIdeal.τ).loc Cert.InprojRefIdeal.main_v189) = v7 c
          ∧ r.2.mem ((c.tc : Thread Cert.InprojRefIdeal.nD Cert.InprojRefIdeal.τ).loc Cert.InprojRefIdeal.main_v187) = v8 c
          ∧ r.2.mem ((c.tc : Thread Cert.InprojRefIdeal.nD Cert.InprojRefIdeal.τ).loc Cert.InprojRefIdeal.main_v188) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14)
          ∧ r.2.mem ((c.tc : Thread Cert.InprojRefIdeal.nD Cert.InprojRefIdeal.τ).loc Cert.InprojRefIdeal.main_arg15) = m' ((c.tc : Thread Cert.InprojRefIdeal.nD Cert.InprojRefIdeal.τ).loc Cert.InprojRefIdeal.main_arg15))

def Claim : Prop :=
  ∃ (hMla : Cert.Mla.Facts) (hMlaIdeal : Cert.MlaIdeal.Facts) (hMlaRefIdeal : Cert.MlaRefIdeal.Facts) (hMlaRef : Cert.MlaRef.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hDa : Cert.Da.Facts) (hDaIdeal : Cert.DaIdeal.Facts) (hDaRefIdeal : Cert.DaRefIdeal.Facts) (hDaRef : Cert.DaRef.Facts) (hInproj : Cert.Inproj.Facts) (hInprojIdeal : Cert.InprojIdeal.Facts) (hInprojRefIdeal : Cert.InprojRefIdeal.Facts) (hPre_mla_finite : Cert.Pre_mla_finite.Facts) (hPre_da_finite : Cert.Pre_da_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_MlaRef (hMlaRef := hMlaRef)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Da (hDa := hDa)
    ∧ quiescent_DaIdeal (hDaIdeal := hDaIdeal)
    ∧ quiescent_DaIdeal_pre_da_finite (hDaIdeal := hDaIdeal) (hPre_da_finite := hPre_da_finite)
    ∧ quiescent_DaRefIdeal (hDaRefIdeal := hDaRefIdeal)
    ∧ quiescent_DaRefIdeal_pre_da_finite (hDaRefIdeal := hDaRefIdeal) (hPre_da_finite := hPre_da_finite)
    ∧ quiescent_DaRef (hDaRef := hDaRef)
    ∧ quiescent_Inproj (hInproj := hInproj)
    ∧ quiescent_InprojIdeal (hInprojIdeal := hInprojIdeal)
    ∧ quiescent_InprojRefIdeal (hInprojRefIdeal := hInprojRefIdeal)
    ∧ preserves_Mla_MlaIdeal
    ∧ preserves_MlaRef_MlaRefIdeal
    ∧ algebraic_MlaIdeal_MlaRefIdeal_pre_mla_finite (hMlaIdeal := hMlaIdeal) (hMlaRefIdeal := hMlaRefIdeal) (hPre_mla_finite := hPre_mla_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Da_DaIdeal
    ∧ preserves_DaRef_DaRefIdeal
    ∧ algebraic_DaIdeal_DaRefIdeal_pre_da_finite (hDaIdeal := hDaIdeal) (hDaRefIdeal := hDaRefIdeal) (hPre_da_finite := hPre_da_finite)
    ∧ preserves_Inproj_InprojIdeal
    ∧ algebraic_InprojIdeal_InprojRefIdeal (hInprojIdeal := hInprojIdeal) (hInprojRefIdeal := hInprojRefIdeal)
-- ==== Pre_da_finite.lean ====
abbrev S4x8192x512 : Shape := ⟨3, ![4, 8192, 512]⟩
abbrev S4x4x256x128 : Shape := ⟨4, ![4, 4, 256, 128]⟩
abbrev S4x512x256 : Shape := ⟨3, ![4, 512, 256]⟩
abbrev S4x4x8192x128 : Shape := ⟨4, ![4, 4, 8192, 128]⟩
abbrev S4x512x8192 : Shape := ⟨3, ![4, 512, 8192]⟩
abbrev S1x1 : Shape := ⟨2, ![1, 1]⟩
abbrev S128x1 : Shape := ⟨2, ![128, 1]⟩
abbrev S_ : Shape := ⟨0, ![]⟩

class Facts : Prop where
  bcast_S_S4x8192x512 : S_.BroadcastsInDim S4x8192x512 (![] : Fin 0 → Fin S4x8192x512.rank)
  bcast_S_S4x4x256x128 : S_.BroadcastsInDim S4x4x256x128 (![] : Fin 0 → Fin S4x4x256x128.rank)
  bcast_S_S4x4x8192x128 : S_.BroadcastsInDim S4x4x8192x128 (![] : Fin 0 → Fin S4x4x8192x128.rank)
  bcast_S_S4x512x256 : S_.BroadcastsInDim S4x512x256 (![] : Fin 0 → Fin S4x512x256.rank)
  bcast_S_S4x512x8192 : S_.BroadcastsInDim S4x512x8192 (![] : Fin 0 → Fin S4x512x8192.rank)
  bcast_S_S1x1 : S_.BroadcastsInDim S1x1 (![] : Fin 0 → Fin S1x1.rank)

variable [Facts]

def fn {F : FTy → Type} [FloatOps F] (main_arg0 : FVec F S4x8192x512 .f32) (main_arg1 : FVec F S4x4x256x128 .bf16) (main_arg2 : FVec F S4x512x256 .bf16) (main_arg3 : FVec F S4x4x8192x128 .bf16) (main_arg4 : FVec F S4x512x8192 .bf16) (main_arg5 : FVec F S1x1 .f32) (main_arg6 : FVec F S128x1 .f32) : IVec S4x8192x512 1 × IVec S4x4x256x128 1 × IVec S4x4x8192x128 1 × IVec S4x512x256 1 × IVec S4x512x8192 1 × IVec S1x1 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x4x256x128 .bf16 := Host.absf main_arg1
  let main_cst_0 : FVec F S_ .bf16 := constant S_ .bf16 0x7F80#16
  let main_v4 : FVec F S4x4x256x128 .bf16 := broadcastInDim S4x4x256x128 ![] bcast_S_S4x4x256x128 main_cst_0
  let main_v5 : IVec S4x4x256x128 1 := cmpf .olt main_v3 main_v4
  let main_v6 : FVec F S4x4x8192x128 .bf16 := Host.absf main_arg3
  let main_cst_1 : FVec F S_ .bf16 := constant S_ .bf16 0x7F80#16
  let main_v7 : FVec F S4x4x8192x128 .bf16 := broadcastInDim S4x4x8192x128 ![] bcast_S_S4x4x8192x128 main_cst_1
  let main_v8 : IVec S4x4x8192x128 1 := cmpf .olt main_v6 main_v7
  let main_v9 : FVec F S4x512x256 .bf16 := Host.absf main_arg2
  let main_cst_2 : FVec F S_ .bf16 := constant S_ .bf16 0x7F80#16
  let main_v10 : FVec F S4x512x256 .bf16 := broadcastInDim S4x512x256 ![] bcast_S_S4x512x256 main_cst_2
  let main_v11 : IVec S4x512x256 1 := cmpf .olt main_v9 main_v10
  let main_v12 : FVec F S4x512x8192 .bf16 := Host.absf main_arg4
  let main_cst_3 : FVec F S_ .bf16 := constant S_ .bf16 0x7F80#16
  let main_v13 : FVec F S4x512x8192 .bf16 := broadcastInDim S4x512x8192 ![] bcast_S_S4x512x8192 main_cst_3
  let main_v14 : IVec S4x512x8192 1 := cmpf .olt main_v12 main_v13
  let main_v15 : FVec F S1x1 .f32 := Host.absf main_arg5
  let main_cst_4 : FVec F S_ .f32 := constant S_ .f32 0x7F800000#32
  let main_v16 : FVec F S1x1 .f32 := broadcastInDim S1x1 ![] bcast_S_S1x1 main_cst_4
  let main_v17 : IVec S1x1 1 := cmpf .olt main_v15 main_v16
  (main_v2, main_v5, main_v8, main_v11, main_v14, main_v17)
-- ==== Pre_mla_finite.lean ====
abbrev S4x8192x1024 : Shape := ⟨3, ![4, 8192, 1024]⟩
abbrev S4x4x256x256 : Shape := ⟨4, ![4, 4, 256, 256]⟩
abbrev S4x512x256 : Shape := ⟨3, ![4, 512, 256]⟩
abbrev S4x4x8192x256 : Shape := ⟨4, ![4, 4, 8192, 256]⟩
abbrev S4x512x8192 : Shape := ⟨3, ![4, 512, 8192]⟩
abbrev S_ : Shape := ⟨0, ![]⟩

class Facts : Prop where
  bcast_S_S4x8192x1024 : S_.BroadcastsInDim S4x8192x1024 (![] : Fin 0 → Fin S4x8192x1024.rank)
  bcast_S_S4x4x256x256 : S_.BroadcastsInDim S4x4x256x256 (![] : Fin 0 → Fin S4x4x256x256.rank)
  bcast_S_S4x4x8192x256 : S_.BroadcastsInDim S4x4x8192x256 (![] : Fin 0 → Fin S4x4x8192x256.rank)

variable [Facts]

def fn {F : FTy → Type} [FloatOps F] (main_arg0 : FVec F S4x8192x1024 .f32) (main_arg1 : FVec F S4x4x256x256 .bf16) (main_arg2 : FVec F S4x512x256 .bf16) (main_arg3 : FVec F S4x4x8192x256 .bf16) (main_arg4 : FVec F S4x512x8192 .bf16) : IVec S4x8192x1024 1 × IVec S4x4x256x256 1 × IVec S4x4x8192x256 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x4x256x256 .bf16 := Host.absf main_arg1
  let main_cst_0 : FVec F S_ .bf16 := constant S_ .bf16 0x7F80#16
  let main_v4 : FVec F S4x4x256x256 .bf16 := broadcastInDim S4x4x256x256 ![] bcast_S_S4x4x256x256 main_cst_0
  let main_v5 : IVec S4x4x256x256 1 := cmpf .olt main_v3 main_v4
  let main_v6 : FVec F S4x4x8192x256 .bf16 := Host.absf main_arg3
  let main_cst_1 : FVec F S_ .bf16 := constant S_ .bf16 0x7F80#16
  let main_v7 : FVec F S4x4x8192x256 .bf16 := broadcastInDim S4x4x8192x256 ![] bcast_S_S4x4x8192x256 main_cst_1
  let main_v8 : IVec S4x4x8192x256 1 := cmpf .olt main_v6 main_v7
  (main_v2, main_v5, main_v8)
-- ==== Mla.lean ====
abbrev S4x8192x1024 : Shape := ⟨3, ![4, 8192, 1024]⟩
abbrev S4x4x256x256 : Shape := ⟨4, ![4, 4, 256, 256]⟩
abbrev S4x512x256 : Shape := ⟨3, ![4, 512, 256]⟩
abbrev S4x4x8192x256 : Shape := ⟨4, ![4, 4, 8192, 256]⟩
abbrev S4x512x8192 : Shape := ⟨3, ![4, 512, 8192]⟩
abbrev S_ : Shape := ⟨0, ![]⟩
abbrev S4x8192x512 : Shape := ⟨3, ![4, 8192, 512]⟩
abbrev S1x1024x256 : Shape := ⟨3, ![1, 1024, 256]⟩
abbrev S1x1x256x256 : Shape := ⟨4, ![1, 1, 256, 256]⟩
abbrev S1x128x256 : Shape := ⟨3, ![1, 128, 256]⟩
abbrev S1x1x2048x256 : Shape := ⟨4, ![1, 1, 2048, 256]⟩
abbrev S1x128x2048 : Shape := ⟨3, ![1, 128, 2048]⟩
abbrev S1x1024x128 : Shape := ⟨3, ![1, 1024, 128]⟩
abbrev S1x1x1024 : Shape := ⟨3, ![1, 1, 1024]⟩
abbrev S1x128x1024 : Shape := ⟨3, ![1, 128, 1024]⟩
abbrev S1024x256 : Shape := ⟨2, ![1024, 256]⟩
abbrev S256x256 : Shape := ⟨2, ![256, 256]⟩
abbrev S128x256 : Shape := ⟨2, ![128, 256]⟩
abbrev S256x1024 : Shape := ⟨2, ![256, 1024]⟩
abbrev S1024 : Shape := ⟨1, ![1024]⟩
abbrev S1x1024 : Shape := ⟨2, ![1, 1024]⟩
abbrev S128x1024 : Shape := ⟨2, ![128, 1024]⟩
abbrev S2048x256 : Shape := ⟨2, ![2048, 256]⟩
abbrev S128x2048 : Shape := ⟨2, ![128, 2048]⟩
abbrev S2048x1024 : Shape := ⟨2, ![2048, 1024]⟩
abbrev S1 : Shape := ⟨1, ![1]⟩
abbrev S1x1x1 : Shape := ⟨3, ![1, 1, 1]⟩
abbrev S1024x128 : Shape := ⟨2, ![1024, 128]⟩

abbrev nBuf : Space → Nat
  | .hbm => 16
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x4x256x256, .bf16⟩
  | .hbm, ⟨2, _⟩ => ⟨S4x512x256, .bf16⟩
  | .hbm, ⟨3, _⟩ => ⟨S4x4x8192x256, .bf16⟩
  | .hbm, ⟨4, _⟩ => ⟨S4x512x8192, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S4x8192x1024, .bf16⟩
  | .hbm, ⟨15, _⟩ => ⟨S4x8192x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x1x2048x256, .bf16⟩
  | .local _ .vmem, ⟨7, _⟩ => ⟨S1x1x2048x256, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1x1024, .f32⟩
  | .local _ .vmem, ⟨13, _⟩ => ⟨S1x1x1024, .f32⟩
  | .local _ .vmem, ⟨14, _⟩ => ⟨S1x128x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 4, 8, 4], ![false, false, false, false]⟩

def k0_cond4 (i : grid0.Coords) : BitVec 1 :=
  let arg3 : BitVec 32 := BitVec.ofNat 32 (i 3).val
  let c3_i32 : BitVec 32 := 3#32
  let v29 : BitVec 1 := Scalar.cmpi .eq arg3 c3_i32
  let v30 : BitVec 32 := Scalar.extui v29
  let c0_i32_19 : BitVec 32 := 0#32
  let v31 : BitVec 1 := Scalar.cmpi .ne v30 c0_i32_19
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== MlaRef.lean ====
abbrev S4x8192x1024 : Shape := ⟨3, ![4, 8192, 1024]⟩
abbrev S4x4x256x256 : Shape := ⟨4, ![4, 4, 256, 256]⟩
abbrev S4x512x256 : Shape := ⟨3, ![4, 512, 256]⟩
abbrev S4x4x8192x256 : Shape := ⟨4, ![4, 4, 8192, 256]⟩
abbrev S4x512x8192 : Shape := ⟨3, ![4, 512, 8192]⟩
abbrev S4x4x8448x256 : Shape := ⟨4, ![4, 4, 8448, 256]⟩
abbrev S4x512x8448 : Shape := ⟨3, ![4, 512, 8448]⟩
abbrev S4x4x128x8448 : Shape := ⟨4, ![4, 4, 128, 8448]⟩
abbrev S4x8192x4x256 : Shape := ⟨4, ![4, 8192, 4, 256]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4x128 : Shape := ⟨4, ![4, 8192, 4, 128]⟩
abbrev S4x8192x512 : Shape := ⟨3, ![4, 8192, 512]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x4x256x256, .bf16⟩
  | .hbm, ⟨2, _⟩ => ⟨S4x512x256, .bf16⟩
  | .hbm, ⟨3, _⟩ => ⟨S4x4x8192x256, .bf16⟩
  | .hbm, ⟨4, _⟩ => ⟨S4x512x8192, .bf16⟩
  | .hbm, ⟨5, _⟩ => ⟨S4x4x8448x256, .bf16⟩
  | .hbm, ⟨6, _⟩ => ⟨S4x4x8448x256, .f32⟩
  | .hbm, ⟨7, _⟩ => ⟨S4x512x8448, .bf16⟩
  | .hbm, ⟨8, _⟩ => ⟨S4x512x8448, .f32⟩
  | .hbm, ⟨9, _⟩ => ⟨S4x4x128x8448, .f32⟩
  | .hbm, ⟨10, _⟩ => ⟨S4x8192x4x256, .f32⟩
  | .hbm, ⟨11, _⟩ => ⟨S4x4x8192x8448, .f32⟩
  | .hbm, ⟨12, _⟩ => ⟨S_, .f32⟩
  | .hbm, ⟨13, _⟩ => ⟨S_, .f32⟩
  | .hbm, ⟨14, _⟩ => ⟨S4x4x8192x8448, .f32⟩
  | .hbm, ⟨15, _⟩ => ⟨S4x4x8192x8448, .f32⟩
  | .hbm, ⟨16, _⟩ => ⟨S_, .f32⟩
  | .hbm, ⟨17, _⟩ => ⟨S4x4x8192, .f32⟩
  | .hbm, ⟨18, _⟩ => ⟨S_, .f32⟩
  | .hbm, ⟨19, _⟩ => ⟨S4x4x8192, .f32⟩
  | .hbm, ⟨20, _⟩ => ⟨S4x4x8192, .f32⟩
  | .hbm, ⟨21, _⟩ => ⟨S4x4x8192x1, .f32⟩
  | .hbm, ⟨22, _⟩ => ⟨S4x4x8192x8448, .f32⟩
  | .hbm, ⟨23, _⟩ => ⟨S4x4x8192x8448, .f32⟩
  | .hbm, ⟨24, _⟩ => ⟨S4x4x8192x8448, .f32⟩
  | .hbm, ⟨25, _⟩ => ⟨S_, .f32⟩
  | .hbm, ⟨26, _⟩ => ⟨S4x4x8192, .f32⟩
  | .hbm, ⟨27, _⟩ => ⟨S4x4x8192x1, .f32⟩
  | .hbm, ⟨28, _⟩ => ⟨S4x4x8192x8448, .f32⟩
  | .hbm, ⟨29, _⟩ => ⟨S4x4x8192x8448, .f32⟩
  | .hbm, ⟨30, _⟩ => ⟨S4x4x128x8192, .f32⟩
  | .hbm, ⟨31, _⟩ => ⟨S4x8192x4x128, .f32⟩
  | .hbm, ⟨32, _⟩ => ⟨S4x8192x512, .f32⟩
  | .hbm, ⟨33, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Ffn.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x2816 : Shape := ⟨2, ![1024, 2816]⟩
abbrev S2816x1024 : Shape := ⟨2, ![2816, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1x1024, .f32⟩
  | .hbm, ⟨8, _⟩ => ⟨S4x1x1024, .f32⟩
  | .hbm, ⟨9, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1x1024, .f32⟩
  | .hbm, ⟨8, _⟩ => ⟨S4x1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S_, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x1024, .f32⟩
  | .hbm, ⟨49, _⟩ => ⟨S1024, .f32⟩
  | .hbm, ⟨50, _⟩ => ⟨S4x8192x1024, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x8192x1, .f32⟩
  | .hbm, ⟨61, _⟩ => ⟨S4x8192x1024, .f32⟩
  | .hbm, ⟨62, _⟩ => ⟨S4x8192x1024, .f32⟩
  | .hbm, ⟨63, _⟩ => ⟨S1x1x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Merge.lean ====
abbrev S4x8192x1024 : Shape := ⟨3, ![4, 8192, 1024]⟩
abbrev S1x1024 : Shape := ⟨2, ![1, 1024]⟩
abbrev S4x1x1024 : Shape := ⟨3, ![4, 1, 1024]⟩
abbrev S4x8192x512 : Shape := ⟨3, ![4, 8192, 512]⟩
abbrev S1024x4096 : Shape := ⟨2, ![1024, 4096]⟩
abbrev S4x512x1024 : Shape := ⟨3, ![4, 512, 1024]⟩
abbrev S1024x1024 : Shape := ⟨2, ![1024, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x8192x512, .bf16⟩
  | .hbm, ⟨5, _⟩ => ⟨S4x8192x512, .bf16⟩
  | .hbm, ⟨6, _⟩ => ⟨S4x8192x512, .bf16⟩
  | .hbm, ⟨7, _⟩ => ⟨S4x8192x512, .f32⟩
  | .hbm, ⟨8, _⟩ => ⟨S1024x4096, .bf16⟩
  | .hbm, ⟨9, _⟩ => ⟨S4x512x1024, .bf16⟩
  | .hbm, ⟨10, _⟩ => ⟨S1024x1024, .bf16⟩
  | .hbm, ⟨11, _⟩ => ⟨S1x1024, .f32⟩
  | .hbm, ⟨12, _⟩ => ⟨S4x1x1024, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1024x4096, .bf16⟩
  | .local _ .vmem, ⟨16, _⟩ => ⟨S4x512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x512x1024, .f32⟩
  | .local _ .vmem, ⟨22, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S4x8192x1024 : Shape := ⟨3, ![4, 8192, 1024]⟩
abbrev S1x1024 : Shape := ⟨2, ![1, 1024]⟩
abbrev S4x1x1024 : Shape := ⟨3, ![4, 1, 1024]⟩
abbrev S4x8192x512 : Shape := ⟨3, ![4, 8192, 512]⟩
abbrev S1024x4096 : Shape := ⟨2, ![1024, 4096]⟩
abbrev S4x512x1024 : Shape := ⟨3, ![4, 512, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S1x512x1024 : Shape := ⟨3, ![1, 512, 1024]⟩
abbrev S512x1024 : Shape := ⟨2, ![512, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x8192x512, .bf16⟩
  | .hbm, ⟨5, _⟩ => ⟨S4x8192x512, .bf16⟩
  | .hbm, ⟨6, _⟩ => ⟨S4x8192x512, .bf16⟩
  | .hbm, ⟨7, _⟩ => ⟨S4x8192x512, .f32⟩
  | .hbm, ⟨8, _⟩ => ⟨S1024x4096, .bf16⟩
  | .hbm, ⟨9, _⟩ => ⟨S4x512x1024, .bf16⟩
  | .hbm, ⟨10, _⟩ => ⟨S1024x1024, .bf16⟩
  | .hbm, ⟨11, _⟩ => ⟨S1x1024, .f32⟩
  | .hbm, ⟨12, _⟩ => ⟨S4x1x1024, .f32⟩
  | .hbm, ⟨13, _⟩ => ⟨S1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S1024x4096, .f32⟩
  | .hbm, ⟨38, _⟩ => ⟨S4x8192x4096, .f32⟩
  | .hbm, ⟨39, _⟩ => ⟨S4x8192x4096, .f32⟩
  | .hbm, ⟨40, _⟩ => ⟨S4x8192x4096, .f32⟩
  | .hbm, ⟨41, _⟩ => ⟨S_, .f32⟩
  | .hbm, ⟨42, _⟩ => ⟨S4x8192x4096, .f32⟩
  | .hbm, ⟨43, _⟩ => ⟨S4x8192x4096, .f32⟩
  | .hbm, ⟨44, _⟩ => ⟨S_, .f32⟩
  | .hbm, ⟨45, _⟩ => ⟨S4x8192x4096, .f32⟩
  | .hbm, ⟨46, _⟩ => ⟨S4x8192x4096, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x512, .f32⟩
  | .hbm, ⟨52, _⟩ => ⟨S4x8192x512, .f32⟩
  | .hbm, ⟨53, _⟩ => ⟨S4x8192x512, .f32⟩
  | .hbm, ⟨54, _⟩ => ⟨S4x512x1024, .f32⟩
  | .hbm, ⟨55, _⟩ => ⟨S1x512x1024, .f32⟩
  | .hbm, ⟨56, _⟩ => ⟨S512x1024, .f32⟩
  | .hbm, ⟨57, _⟩ => ⟨S1x512x1024, .f32⟩
  | .hbm, ⟨58, _⟩ => ⟨S512x1024, .f32⟩
  | .hbm, ⟨59, _⟩ => ⟨S1x512x1024, .f32⟩
  | .hbm, ⟨60, _⟩ => ⟨S512x1024, .f32⟩
  | .hbm, ⟨61, _⟩ => ⟨S1x512x1024, .f32⟩
  | .hbm, ⟨62, _⟩ => ⟨S512x1024, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S1024x1024, .f32⟩
  | .hbm, ⟨78, _⟩ => ⟨S4x8192x1024, .f32⟩
  | .hbm, ⟨79, _⟩ => ⟨S1024, .f32⟩
  | .hbm, ⟨80, _⟩ => ⟨S4x8192x1024, .f32⟩
  | .hbm, ⟨81, _⟩ => ⟨S_, .f32⟩
  | .hbm, ⟨82, _⟩ => ⟨S4x8192, .f32⟩
  | .hbm, ⟨83, _⟩ => ⟨S4x8192x1, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Da.lean ====
abbrev S4x8192x512 : Shape := ⟨3, ![4, 8192, 512]⟩
abbrev S4x4x256x128 : Shape := ⟨4, ![4, 4, 256, 128]⟩
abbrev S4x512x256 : Shape := ⟨3, ![4, 512, 256]⟩
abbrev S4x4x8192x128 : Shape := ⟨4, ![4, 4, 8192, 128]⟩
abbrev S4x512x8192 : Shape := ⟨3, ![4, 512, 8192]⟩
abbrev S1x1 : Shape := ⟨2, ![1, 1]⟩
abbrev S128x1 : Shape := ⟨2, ![128, 1]⟩
abbrev S_ : Shape := ⟨0, ![]⟩
abbrev S1x1024x128 : Shape := ⟨3, ![1, 1024, 128]⟩
abbrev S1x1x256x128 : Shape := ⟨4, ![1, 1, 256, 128]⟩
abbrev S1x128x256 : Shape := ⟨3, ![1, 128, 256]⟩
abbrev S1x1x2048x128 : Shape := ⟨4, ![1, 1, 2048, 128]⟩
abbrev S1x128x2048 : Shape := ⟨3, ![1, 128, 2048]⟩
abbrev S2x1x1024 : Shape := ⟨3, ![2, 1, 1024]⟩
abbrev S2x128x1024 : Shape := ⟨3, ![2, 128, 1024]⟩
abbrev S1024x128 : Shape := ⟨2, ![1024, 128]⟩
abbrev S256x128 : Shape := ⟨2, ![256, 128]⟩
abbrev S128x256 : Shape := ⟨2, ![128, 256]⟩
abbrev S256x1024 : Shape := ⟨2, ![256, 1024]⟩
abbrev S1024 : Shape := ⟨1, ![1024]⟩
abbrev S1x1024 : Shape := ⟨2, ![1, 1024]⟩
abbrev S1x1x1024 : Shape := ⟨3, ![1, 1, 1024]⟩
abbrev S128x1024 : Shape := ⟨2, ![128, 1024]⟩
abbrev S1x128x1024 : Shape := ⟨3, ![1, 128, 1024]⟩
abbrev S2048x128 : Shape := ⟨2, ![2048, 128]⟩
abbrev S128x2048 : Shape := ⟨2, ![128, 2048]⟩
abbrev S2048x1024 : Shape := ⟨2, ![2048, 1024]⟩
abbrev S1 : Shape := ⟨1, ![1]⟩
abbrev S1x1x1 : Shape := ⟨3, ![1, 1, 1]⟩

abbrev nBuf : Space → Nat
  | .hbm => 18
  | .vmem => 17
  | .smem => 0
  | _ => 0

abbrev bufTy : (tb : Table) → Fin (tcTables nBuf tb) → BufTy
  | .hbm, ⟨0, _⟩ => ⟨S4x8192x512, .f32⟩
  | .hbm, ⟨1, _⟩ => ⟨S4x4x256x128, .bf16⟩
  | .hbm, ⟨2, _⟩ => ⟨S4x512x256, .bf16⟩
  | .hbm, ⟨3, _⟩ => ⟨S4x4x8192x128, .bf16⟩
  | .hbm, ⟨4, _⟩ => ⟨S4x512x8192, .bf16⟩
  | .hbm, ⟨5, _⟩ => ⟨S1x1, .f32⟩
  | .hbm, ⟨6, _⟩ => ⟨S128x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x8192x512, .f32⟩
  | .hbm, ⟨15, _⟩ => ⟨S4x8192x512, .f32⟩
  | .hbm, ⟨16, _⟩ => ⟨S4x8192x512, .bf16⟩
  | .hbm, ⟨17, _⟩ => ⟨S4x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x128x256, .bf16⟩
  | .local _ .vmem, ⟨5, _⟩ => ⟨S1x128x256, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x1, .f32⟩
  | .local _ .vmem, ⟨11, _⟩ => ⟨S128x1, .f32⟩
  | .local _ .vmem, ⟨12, _⟩ => ⟨S1x1024x128, .bf16⟩
  | .local _ .vmem, ⟨13, _⟩ => ⟨S1x1024x128, .bf16⟩
  | .local _ .vmem, ⟨14, _⟩ => ⟨S2x1x1024, .f32⟩
  | .local _ .vmem, ⟨15, _⟩ => ⟨S2x1x1024, .f32⟩
  | .local _ .vmem, ⟨16, _⟩ => ⟨S2x128x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨4, ![4, 4, 8, 4], ![false, false, false, false]⟩

def k0_cond6 (i : grid0.Coords) : BitVec 1 :=
  let arg3 : BitVec 32 := BitVec.ofNat 32 (i 3).val
  let c3_i32 : BitVec 32 := 3#32
  let v55 : BitVec 1 := Scalar.cmpi .eq arg3 c3_i32
  let v56 : BitVec 32 := Scalar.extui v55
  let c0_i32_30 : BitVec 32 := 0#32
  let v57 : BitVec 1 := Scalar.cmpi .ne v56 c0_i32_30
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]
-- ==== DaRef.lean ====
abbrev S4x8192x512 : Shape := ⟨3, ![4, 8192, 512]⟩
abbrev S4x4x256x128 : Shape := ⟨4, ![4, 4, 256, 128]⟩
abbrev S4x512x256 : Shape := ⟨3, ![4, 512, 256]⟩
abbrev S4x4x8192x128 : Shape := ⟨4, ![4, 4, 8192, 128]⟩
abbrev S4x512x8192 : Shape := ⟨3, ![4, 512, 8192]⟩
abbrev S1x1 : Shape := ⟨2, ![1, 1]⟩
abbrev S128x1 : Shape := ⟨2, ![128, 1]⟩
abbrev S4x4x8448x128 : Shape := ⟨4, ![4, 4, 8448, 128]⟩
abbrev S4x512x8448 : Shape := ⟨3, ![4, 512, 8448]⟩
abbrev S4x4x128x8448 : Shape := ⟨4, ![4, 4, 128, 8448]⟩
abbrev S4x8192x4x128 : Shape := ⟨4, ![4, 8192, 4, 128]⟩
abbrev S4x8192x4x64 : Shape := ⟨4, ![4, 8192, 4, 64]⟩
abbrev S4x4x8448x64 : Shape := ⟨4, ![4, 4, 8448, 64]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S1x1x1x1 : Shape := ⟨4, ![1, 1, 1, 1]⟩
abbrev S4x4x128x8192 : Shape := ⟨4, ![4, 4, 128, 8192]⟩
abbrev S128 : Shape := ⟨1, ![128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x4x256x128, .bf16⟩
  | .hbm, ⟨2, _⟩ => ⟨S4x512x256, .bf16⟩
  | .hbm, ⟨3, _⟩ => ⟨S4x4x8192x128, .bf16⟩
  | .hbm, ⟨4, _⟩ => ⟨S4x512x8192, .bf16⟩
  | .hbm, ⟨5, _⟩ => ⟨S1x1, .f32⟩
  | .hbm, ⟨6, _⟩ => ⟨S128x1, .f32⟩
  | .hbm, ⟨7, _⟩ => ⟨S4x4x8448x128, .bf16⟩
  | .hbm, ⟨8, _⟩ => ⟨S4x4x8448x128, .f32⟩
  | .hbm, ⟨9, _⟩ => ⟨S4x512x8448, .bf16⟩
  | .hbm, ⟨10, _⟩ => ⟨S4x512x8448, .f32⟩
  | .hbm, ⟨11, _⟩ => ⟨S4x4x128x8448, .f32⟩
  | .hbm, ⟨12, _⟩ => ⟨S4x8192x4x128, .f32⟩
  | .hbm, ⟨13, _⟩ => ⟨S4x8192x4x64, .f32⟩
  | .hbm, ⟨14, _⟩ => ⟨S4x8192x4x64, .f32⟩
  | .hbm, ⟨15, _⟩ => ⟨S4x4x8448x64, .f32⟩
  | .hbm, ⟨16, _⟩ => ⟨S4x4x8448x64, .f32⟩
  | .hbm, ⟨17, _⟩ => ⟨S4x4x8192x8448, .f32⟩
  | .hbm, ⟨18, _⟩ => ⟨S_, .f32⟩
  | .hbm, ⟨19, _⟩ => ⟨S_, .f32⟩
  | .hbm, ⟨20, _⟩ => ⟨S4x4x8192x8448, .f32⟩
  | .hbm, ⟨21, _⟩ => ⟨S4x4x8192x8448, .f32⟩
  | .hbm, ⟨22, _⟩ => ⟨S_, .f32⟩
  | .hbm, ⟨23, _⟩ => ⟨S4x4x8192, .f32⟩
  | .hbm, ⟨24, _⟩ => ⟨S_, .f32⟩
  | .hbm, ⟨25, _⟩ => ⟨S4x4x8192, .f32⟩
  | .hbm, ⟨26, _⟩ => ⟨S4x4x8192, .f32⟩
  | .hbm, ⟨27, _⟩ => ⟨S4x4x8192x1, .f32⟩
  | .hbm, ⟨28, _⟩ => ⟨S4x4x8192x8448, .f32⟩
  | .hbm, ⟨29, _⟩ => ⟨S4x4x8192x8448, .f32⟩
  | .hbm, ⟨30, _⟩ => ⟨S4x4x8192x8448, .f32⟩
  | .hbm, ⟨31, _⟩ => ⟨S_, .f32⟩
  | .hbm, ⟨32, _⟩ => ⟨S4x4x8192, .f32⟩
  | .hbm, ⟨33, _⟩ => ⟨S4x4x8192x1, .f32⟩
  | .hbm, ⟨34, _⟩ => ⟨S4x4x8192x8448, .f32⟩
  | .hbm, ⟨35, _⟩ => ⟨S4x4x8192x8448, .f32⟩
  | .hbm, ⟨36, _⟩ => ⟨S4x4x8192x8448, .f32⟩
  | .hbm, ⟨37, _⟩ => ⟨S_, .f32⟩
  | .hbm, ⟨38, _⟩ => ⟨S_, .f32⟩
  | .hbm, ⟨39, _⟩ => ⟨S4x4x8192x8448, .f32⟩
  | .hbm, ⟨40, _⟩ => ⟨S4x4x8192x8448, .f32⟩
  | .hbm, ⟨41, _⟩ => ⟨S_, .f32⟩
  | .hbm, ⟨42, _⟩ => ⟨S4x4x8192, .f32⟩
  | .hbm, ⟨43, _⟩ => ⟨S_, .f32⟩
  | .hbm, ⟨44, _⟩ => ⟨S4x4x8192, .f32⟩
  | .hbm, ⟨45, _⟩ => ⟨S4x4x8192, .f32⟩
  | .hbm, ⟨46, _⟩ => ⟨S4x4x8192x1, .f32⟩
  | .hbm, ⟨47, _⟩ => ⟨S4x4x8192x8448, .f32⟩
  | .hbm, ⟨48, _⟩ => ⟨S4x4x8192x8448, .f32⟩
  | .hbm, ⟨49, _⟩ => ⟨S4x4x8192x8448, .f32⟩
  | .hbm, ⟨50, _⟩ => ⟨S_, .f32⟩
  | .hbm, ⟨51, _⟩ => ⟨S4x4x8192, .f32⟩
  | .hbm, ⟨52, _⟩ => ⟨S4x4x8192x1, .f32⟩
  | .hbm, ⟨53, _⟩ => ⟨S4x4x8192x8448, .f32⟩
  | .hbm, ⟨54, _⟩ => ⟨S4x4x8192x8448, .f32⟩
  | .hbm, ⟨55, _⟩ => ⟨S1x1x1x1, .f32⟩
  | .hbm, ⟨56, _⟩ => ⟨S4x4x8192x8448, .f32⟩
  | .hbm, ⟨57, _⟩ => ⟨S4x4x8192x8448, .f32⟩
  | .hbm, ⟨58, _⟩ => ⟨S4x4x8192x8448, .f32⟩
  | .hbm, ⟨59, _⟩ => ⟨S4x4x128x8192, .f32⟩
  | .hbm, ⟨60, _⟩ => ⟨S4x8192x4x128, .f32⟩
  | .hbm, ⟨61, _⟩ => ⟨S128, .f32⟩
  | .hbm, ⟨62, _⟩ => ⟨S4x8192x4x128, .f32⟩
  | .hbm, ⟨63, _⟩ => ⟨S_, .f32⟩
  | .hbm, ⟨64, _⟩ => ⟨S4x8192x4, .f32⟩
  | .hbm, ⟨65, _⟩ => ⟨S4x8192x4x1, .f32⟩
  | .hbm, ⟨66, _⟩ => ⟨S_, .f32⟩
  | .hbm, ⟨67, _⟩ => ⟨S4x8192x4x1, .f32⟩
  | .hbm, ⟨68, _⟩ => ⟨S4x8192x4x1, .f32⟩
  | .hbm, ⟨69, _⟩ => ⟨S_, .f32⟩
  | .hbm, ⟨70, _⟩ => ⟨S4x8192x4x1, .f32⟩
  | .hbm, ⟨71, _⟩ => ⟨S4x8192x4x1, .f32⟩
  | .hbm, ⟨72, _⟩ => ⟨S4x8192x4x1, .f32⟩
  | .hbm, ⟨73, _⟩ => ⟨S4x8192x4x128, .f32⟩
  | .hbm, ⟨74, _⟩ => ⟨S4x8192x4x128, .f32⟩
  | .hbm, ⟨75, _⟩ => ⟨S1x1x1x128, .f32⟩
  | .hbm, ⟨76, _⟩ => ⟨S4x8192x4x128, .f32⟩
  | .hbm, ⟨77, _⟩ => ⟨S4x8192x4x128, .f32⟩
  | .hbm, ⟨78, _⟩ => ⟨S_, .f32⟩
  | .hbm, ⟨79, _⟩ => ⟨S4x8192x4x128, .f32⟩
  | .hbm, ⟨80, _⟩ => ⟨S4x8192x4x128, .f32⟩
  | .hbm, ⟨81, _⟩ => ⟨S4x8192x512, .f32⟩
  | .hbm, ⟨82, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Inproj.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x1024 : Shape := ⟨2, ![1024, 1024]⟩
abbrev S512x1024 : Shape := ⟨2, ![512, 1024]⟩
abbrev S1024x1664 : Shape := ⟨2, ![1024, 1664]⟩
abbrev S1024x768 : Shape := ⟨2, ![1024, 768]⟩
abbrev S1x384 : Shape := ⟨2, ![1, 384]⟩
abbrev S384x1024 : Shape := ⟨2, ![384, 1024]⟩
abbrev S1x256 : Shape := ⟨2, ![1, 256]⟩
abbrev S256x512 : Shape := ⟨2, ![256, 512]⟩
abbrev S512x256 : Shape := ⟨2, ![512, 256]⟩
abbrev S1024x1536 : Shape := ⟨2, ![1024, 1536]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S4x8192x512 : Shape := ⟨3, ![4, 8192, 512]⟩
abbrev S4x4x8192x128 : Shape := ⟨4, ![4, 4, 8192, 128]⟩
abbrev S4x8192x128 : Shape := ⟨3, ![4, 8192, 128]⟩
abbrev S4x4x8192x256 : Shape := ⟨4, ![4, 4, 8192, 256]⟩
abbrev S4x8192x1536 : Shape := ⟨3, ![4, 8192, 1536]⟩
abbrev S4x512x8192 : Shape := ⟨3, ![4, 512, 8192]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x4x512x128 : Shape := ⟨4, ![1, 4, 512, 128]⟩
abbrev S1x512x128 : Shape := ⟨3, ![1, 512, 128]⟩
abbrev S1x4x512x256 : Shape := ⟨4, ![1, 4, 512, 256]⟩
abbrev S1x512x1536 : Shape := ⟨3, ![1, 512, 1536]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x1x512x128 : Shape := ⟨4, ![1, 1, 512, 128]⟩
abbrev S1024x128 : Shape := ⟨2, ![1024, 128]⟩
abbrev S512x768 : Shape := ⟨2, ![512, 768]⟩
abbrev S512x384 : Shape := ⟨2, ![512, 384]⟩

abbrev nBuf : Space → Nat
  | .hbm => 34
  | .vmem => 41
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x1024, .bf16⟩
  | .hbm, ⟨5, _⟩ => ⟨S512x1024, .bf16⟩
  | .hbm, ⟨6, _⟩ => ⟨S1024x1664, .bf16⟩
  | .hbm, ⟨7, _⟩ => ⟨S1024x768, .bf16⟩
  | .hbm, ⟨8, _⟩ => ⟨S1x384, .f32⟩
  | .hbm, ⟨9, _⟩ => ⟨S384x1024, .bf16⟩
  | .hbm, ⟨10, _⟩ => ⟨S1x256, .f32⟩
  | .hbm, ⟨11, _⟩ => ⟨S256x512, .bf16⟩
  | .hbm, ⟨12, _⟩ => ⟨S512x256, .bf16⟩
  | .hbm, ⟨13, _⟩ => ⟨S1024x1536, .bf16⟩
  | .hbm, ⟨14, _⟩ => ⟨S8192x32, .f32⟩
  | .hbm, ⟨15, _⟩ => ⟨S8192x32, .f32⟩
  | .hbm, ⟨16, _⟩ => ⟨S1x8192x1x32, .f32⟩
  | .hbm, ⟨17, _⟩ => ⟨S1x8192x4x32, .f32⟩
  | .hbm, ⟨18, _⟩ => ⟨S8192x128, .f32⟩
  | .hbm, ⟨19, _⟩ => ⟨S8192x32, .f32⟩
  | .hbm, ⟨20, _⟩ => ⟨S8192x64, .f32⟩
  | .hbm, ⟨21, _⟩ => ⟨S1x8192x1x64, .f32⟩
  | .hbm, ⟨22, _⟩ => ⟨S1x8192x2x64, .f32⟩
  | .hbm, ⟨23, _⟩ => ⟨S8192x128, .f32⟩
  | .hbm, ⟨24, _⟩ => ⟨S4x8192x512, .bf16⟩
  | .hbm, ⟨25, _⟩ => ⟨S4x4x8192x128, .bf16⟩
  | .hbm, ⟨26, _⟩ => ⟨S4x8192x512, .f32⟩
  | .hbm, ⟨27, _⟩ => ⟨S4x8192x1024, .f32⟩
  | .hbm, ⟨28, _⟩ => ⟨S4x8192x128, .f32⟩
  | .hbm, ⟨29, _⟩ => ⟨S4x8192x1024, .bf16⟩
  | .hbm, ⟨30, _⟩ => ⟨S4x4x8192x256, .bf16⟩
  | .hbm, ⟨31, _⟩ => ⟨S4x8192x1536, .f32⟩
  | .hbm, ⟨32, _⟩ => ⟨S4x512x8192, .bf16⟩
  | .hbm, ⟨33, _⟩ => ⟨S4x512x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S512x1024, .bf16⟩
  | .local _ .vmem, ⟨9, _⟩ => ⟨S1024x1664, .bf16⟩
  | .local _ .vmem, ⟨10, _⟩ => ⟨S1024x768, .bf16⟩
  | .local _ .vmem, ⟨11, _⟩ => ⟨S1x384, .f32⟩
  | .local _ .vmem, ⟨12, _⟩ => ⟨S384x1024, .bf16⟩
  | .local _ .vmem, ⟨13, _⟩ => ⟨S1x256, .f32⟩
  | .local _ .vmem, ⟨14, _⟩ => ⟨S256x512, .bf16⟩
  | .local _ .vmem, ⟨15, _⟩ => ⟨S512x256, .bf16⟩
  | .local _ .vmem, ⟨16, _⟩ => ⟨S1024x1536, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x512x512, .bf16⟩
  | .local _ .vmem, ⟨22, _⟩ => ⟨S1x512x512, .bf16⟩
  | .local _ .vmem, ⟨23, _⟩ => ⟨S1x4x512x128, .bf16⟩
  | .local _ .vmem, ⟨24, _⟩ => ⟨S1x4x512x128, .bf16⟩
  | .local _ .vmem, ⟨25, _⟩ => ⟨S1x512x512, .f32⟩
  | .local _ .vmem, ⟨26, _⟩ => ⟨S1x512x512, .f32⟩
  | .local _ .vmem, ⟨27, _⟩ => ⟨S1x512x1024, .f32⟩
  | .local _ .vmem, ⟨28, _⟩ => ⟨S1x512x1024, .f32⟩
  | .local _ .vmem, ⟨29, _⟩ => ⟨S1x512x128, .f32⟩
  | .local _ .vmem, ⟨30, _⟩ => ⟨S1x512x128, .f32⟩
  | .local _ .vmem, ⟨31, _⟩ => ⟨S1x512x1024, .bf16⟩
  | .local _ .vmem, ⟨32, _⟩ => ⟨S1x512x1024, .bf16⟩
  | .local _ .vmem, ⟨33, _⟩ => ⟨S1x4x512x256, .bf16⟩
  | .local _ .vmem, ⟨34, _⟩ => ⟨S1x4x512x256, .bf16⟩
  | .local _ .vmem, ⟨35, _⟩ => ⟨S1x512x1536, .f32⟩
  | .local _ .vmem, ⟨36, _⟩ => ⟨S1x512x1536, .f32⟩
  | .local _ .vmem, ⟨37, _⟩ => ⟨S1x512x512, .bf16⟩
  | .local _ .vmem, ⟨38, _⟩ => ⟨S1x512x512, .bf16⟩
  | .local _ .vmem, ⟨39, _⟩ => ⟨S1x512x512, .bf16⟩
  | .local _ .vmem, ⟨40, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_v8_6 : Ref sig .tc := ⟨.hbm, 30, rfl⟩
abbrev main_v8_7 : Ref sig .tc := ⟨.hbm, 31, rfl⟩
abbrev main_v8_8 : Ref sig .tc := ⟨.hbm, 32, rfl⟩
abbrev main_v8_9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1536 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== InprojIdeal.lean ====
variable {F : FTy → Type} [FloatOps F] [Named F]
def κ : String → Option EReal := fun
  | "da_scale" => some (((Real.sqrt 64)⁻¹ * (Real.log 2)⁻¹ : ℝ) : EReal)
  | "mla_scale" => some (((Real.sqrt 192)⁻¹ * (Real.log 2)⁻¹ : ℝ) : EReal)
  | _ => none
-- ==== InprojRefIdeal.lean ====
abbrev S4x8192x1024 : Shape := ⟨3, ![4, 8192, 1024]⟩
abbrev S1x1024 : Shape := ⟨2, ![1, 1024]⟩
abbrev S4x1x1024 : Shape := ⟨3, ![4, 1, 1024]⟩
abbrev S1024x1024 : Shape := ⟨2, ![1024, 1024]⟩
abbrev S512x1024 : Shape := ⟨2, ![512, 1024]⟩
abbrev S1024x1664 : Shape := ⟨2, ![1024, 1664]⟩
abbrev S1024x768 : Shape := ⟨2, ![1024, 768]⟩
abbrev S1x384 : Shape := ⟨2, ![1, 384]⟩
abbrev S384x1024 : Shape := ⟨2, ![384, 1024]⟩
abbrev S1x256 : Shape := ⟨2, ![1, 256]⟩
abbrev S256x512 : Shape := ⟨2, ![256, 512]⟩
abbrev S512x256 : Shape := ⟨2, ![512, 256]⟩
abbrev S1024x1536 : Shape := ⟨2, ![1024, 1536]⟩
abbrev S8192x32 : Shape := ⟨2, ![8192, 32]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x512 : Shape := ⟨3, ![4, 8192, 512]⟩
abbrev S4x8192x8x64 : Shape := ⟨4, ![4, 8192, 8, 64]⟩
abbrev S4x8192x8x32 : Shape := ⟨4, ![4, 8192, 8, 32]⟩
abbrev S8192x1x32 : Shape := ⟨3, ![8192, 1, 32]⟩
abbrev S1x8192x1x32 : Shape := ⟨4, ![1, 8192, 1, 32]⟩
abbrev S4x8192x4x128 : Shape := ⟨4, ![4, 8192, 4, 128]⟩
abbrev S4x4x8192x128 : Shape := ⟨4, ![4, 4, 8192, 128]⟩
abbrev S4x512x8192 : Shape := ⟨3, ![4, 512, 8192]⟩
abbrev S4x8192x1664 : Shape := ⟨3, ![4, 8192, 1664]⟩
abbrev S4x8192x128 : Shape := ⟨3, ![4, 8192, 128]⟩
abbrev S4x8192x768 : Shape := ⟨3, ![4, 8192, 768]⟩
abbrev S4x8192x384 : Shape := ⟨3, ![4, 8192, 384]⟩
abbrev S4x8192x256 : Shape := ⟨3, ![4, 8192, 256]⟩
abbrev S256 : Shape := ⟨1, ![256]⟩
abbrev S1x1x256 : Shape := ⟨3, ![1, 1, 256]⟩
abbrev S384 : Shape := ⟨1, ![384]⟩
abbrev S1x1x384 : Shape := ⟨3, ![1, 1, 384]⟩
abbrev S4x8192x4x256 : Shape := ⟨4, ![4, 8192, 4, 256]⟩
abbrev S4x8192x2x64 : Shape := ⟨4, ![4, 8192, 2, 64]⟩
abbrev S4x8192x2x32 : Shape := ⟨4, ![4, 8192, 2, 32]⟩
abbrev S4x1x8192x128 : Shape := ⟨4, ![4, 1, 8192, 128]⟩
abbrev S4x4x8192x256 : Shape := ⟨4, ![4, 4, 8192, 256]⟩
abbrev S4x8192x1536 : Shape := ⟨3, ![4, 8192, 1536]⟩

abbrev nBuf : Space → Nat
  | .hbm => 220
  | .vmem => 0
  | .smem => 0
  | _ => 0

abbrev hbmTy0_0 (i : Nat) : BufTy := match i % 128 with
  | 0 => ⟨S4x8192x1024, .f32⟩
  | 1 => ⟨S1x1024, .f32⟩
  | 2 => ⟨S4x1x1024, .f32⟩
  | 3 => ⟨S4x1x1024, .f32⟩
  | 4 => ⟨S1024x1024, .bf16⟩
  | 5 => ⟨S512x1024, .bf16⟩
  | 6 => ⟨S1024x1664, .bf16⟩
  | 7 => ⟨S1024x768, .bf16⟩
  | 8 => ⟨S1x384, .f32⟩
  | 9 => ⟨S384x1024, .bf16⟩
  | 10 => ⟨S1x256, .f32⟩
  | 11 => ⟨S256x512, .bf16⟩
  | 12 => ⟨S512x256, .bf16⟩
  | 13 => ⟨S1024x1536, .bf16⟩
  | 14 => ⟨S8192x32, .f32⟩
  | 15 => ⟨S8192x32, .f32⟩
  | 16 => ⟨S1024x1024, .f32⟩
  | 17 => ⟨S512x1024, .f32⟩
  | 18 => ⟨S1024x1664, .f32⟩
  | 19 => ⟨S1024x768, .f32⟩
  | 20 => ⟨S384x1024, .f32⟩
  | 21 => ⟨S256x512, .f32⟩
  | 22 => ⟨S512x256, .f32⟩
  | 23 => ⟨S1024x1536, .f32⟩
  | 24 => ⟨S1024, .f32⟩
  | 25 => ⟨S4x8192x1024, .f32⟩
  | 26 => ⟨S_, .f32⟩
  | 27 => ⟨S4x8192, .f32⟩
  | 28 => ⟨S4x8192x1, .f32⟩
  | 29 => ⟨S_, .f32⟩
  | 30 => ⟨S4x8192x1, .f32⟩
  | 31 => ⟨S4x8192x1, .f32⟩
  | 32 => ⟨S_, .f32⟩
  | 33 => ⟨S4x8192x1, .f32⟩
  | 34 => ⟨S4x8192x1, .f32⟩
  | 35 => ⟨S4x8192x1, .f32⟩
  | 36 => ⟨S4x8192x1024, .f32⟩
  | 37 => ⟨S4x8192x1024, .f32⟩
  | 38 => ⟨S1x1x1024, .f32⟩
  | 39 => ⟨S4x8192x1024, .f32⟩
  | 40 => ⟨S4x8192x1024, .f32⟩
  | 41 => ⟨S_, .f32⟩
  | 42 => ⟨S4x1x1024, .f32⟩
  | 43 => ⟨S4x1x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S4x8192x1024, .f32⟩
  | 49 => ⟨S4x8192x512, .f32⟩
  | 50 => ⟨S4x8192x512, .f32⟩
  | 51 => ⟨S4x8192x8x64, .f32⟩
  | 52 => ⟨S4x8192x8x32, .f32⟩
  | 53 => ⟨S4x8192x8x32, .f32⟩
  | 54 => ⟨S8192x1x32, .f32⟩
  | 55 => ⟨S8192x1x32, .f32⟩
  | 56 => ⟨S1x8192x1x32, .f32⟩
  | 57 => ⟨S4x8192x8x32, .f32⟩
  | 58 => ⟨S4x8192x8x32, .f32⟩
  | 59 => ⟨S1x8192x1x32, .f32⟩
  | 60 => ⟨S4x8192x8x32, .f32⟩
  | 61 => ⟨S4x8192x8x32, .f32⟩
  | 62 => ⟨S4x8192x8x32, .f32⟩
  | 63 => ⟨S1x8192x1x32, .f32⟩
  | 64 => ⟨S4x8192x8x32, .f32⟩
  | 65 => ⟨S4x8192x8x32, .f32⟩
  | 66 => ⟨S1x8192x1x32, .f32⟩
  | 67 => ⟨S4x8192x8x32, .f32⟩
  | 68 => ⟨S4x8192x8x32, .f32⟩
  | 69 => ⟨S4x8192x8x32, .f32⟩
  | 70 => ⟨S4x8192x8x64, .f32⟩
  | 71 => ⟨S4x8192x512, .f32⟩
  | 72 => ⟨S_, .f32⟩
  | 73 => ⟨S_, .f32⟩
  | 74 => ⟨S4x8192x512, .f32⟩
  | 75 => ⟨S4x8192x512, .f32⟩
  | 76 => ⟨S_, .f32⟩
  | 77 => ⟨S_, .f32⟩
  | 78 => ⟨S4x8192x512, .f32⟩
  | 79 => ⟨S4x8192x512, .f32⟩
  | 80 => ⟨S4x8192x8x64, .f32⟩
  | 81 => ⟨S4x8192x8x32, .f32⟩
  | 82 => ⟨S4x8192x8x32, .f32⟩
  | 83 => ⟨S8192x1x32, .f32⟩
  | 84 => ⟨S8192x1x32, .f32⟩
  | 85 => ⟨S1x8192x1x32, .f32⟩
  | 86 => ⟨S4x8192x8x32, .f32⟩
  | 87 => ⟨S4x8192x8x32, .f32⟩
  | 88 => ⟨S1x8192x1x32, .f32⟩
  | 89 => ⟨S4x8192x8x32, .f32⟩
  | 90 => ⟨S4x8192x8x32, .f32⟩
  | 91 => ⟨S4x8192x8x32, .f32⟩
  | 92 => ⟨S1x8192x1x32, .f32⟩
  | 93 => ⟨S4x8192x8x32, .f32⟩
  | 94 => ⟨S4x8192x8x32, .f32⟩
  | 95 => ⟨S1x8192x1x32, .f32⟩
  | 96 => ⟨S4x8192x8x32, .f32⟩
  | 97 => ⟨S4x8192x8x32, .f32⟩
  | 98 => ⟨S4x8192x8x32, .f32⟩
  | 99 => ⟨S4x8192x8x64, .f32⟩
  | 100 => ⟨S4x8192x512, .f32⟩
  | 101 => ⟨S4x8192x4x128, .f32⟩
  | 102 => ⟨S4x4x8192x128, .f32⟩
  | 103 => ⟨S4x8192x512, .f32⟩
  | 104 => ⟨S4x512x8192, .f32⟩
  | 105 => ⟨S4x8192x1664, .f32⟩
  | 106 => ⟨S4x8192x512, .f32⟩
  | 107 => ⟨S4x8192x1024, .f32⟩
  | 108 => ⟨S4x8192x128, .f32⟩
  | 109 => ⟨S4x8192x768, .f32⟩
  | 110 => ⟨S4x8192x384, .f32⟩
  | 111 => ⟨S4x8192x256, .f32⟩
  | 112 => ⟨S4x8192x128, .f32⟩
  | 113 => ⟨S256, .f32⟩
  | 114 => ⟨S4x8192x256, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S_, .f32⟩
  | 122 => ⟨S4x8192x1, .f32⟩
  | 123 => ⟨S4x8192x1, .f32⟩
  | 124 => ⟨S4x8192x1, .f32⟩
  | 125 => ⟨S4x8192x256, .f32⟩
  | 126 => ⟨S4x8192x256, .f32⟩
  | 127 => ⟨S1x1x256, .f32⟩
  | _ => ⟨S4x8192x1024, .f32⟩

abbrev hbmTy0_1 (i : Nat) : BufTy := match i % 128 with
  | 0 => ⟨S4x8192x256, .f32⟩
  | 1 => ⟨S4x8192x256, .f32⟩
  | 2 => ⟨S384, .f32⟩
  | 3 => ⟨S4x8192x384, .f32⟩
  | 4 => ⟨S_, .f32⟩
  | 5 => ⟨S4x8192, .f32⟩
  | 6 => ⟨S4x8192x1, .f32⟩
  | 7 => ⟨S_, .f32⟩
  | 8 => ⟨S4x8192x1, .f32⟩
  | 9 => ⟨S4x8192x1, .f32⟩
  | 10 => ⟨S_, .f32⟩
  | 11 => ⟨S4x8192x1, .f32⟩
  | 12 => ⟨S4x8192x1, .f32⟩
  | 13 => ⟨S4x8192x1, .f32⟩
  | 14 => ⟨S4x8192x384, .f32⟩
  | 15 => ⟨S4x8192x384, .f32⟩
  | 16 => ⟨S1x1x384, .f32⟩
  | 17 => ⟨S4x8192x384, .f32⟩
  | 18 => ⟨S4x8192x384, .f32⟩
  | 19 => ⟨S4x8192x1024, .f32⟩
  | 20 => ⟨S4x8192x4x256, .f32⟩
  | 21 => ⟨S4x8192x4x128, .f32⟩
  | 22 => ⟨S4x8192x4x128, .f32⟩
  | 23 => ⟨S4x8192x512, .f32⟩
  | 24 => ⟨S4x8192x8x64, .f32⟩
  | 25 => ⟨S4x8192x8x32, .f32⟩
  | 26 => ⟨S4x8192x8x32, .f32⟩
  | 27 => ⟨S8192x1x32, .f32⟩
  | 28 => ⟨S8192x1x32, .f32⟩
  | 29 => ⟨S1x8192x1x32, .f32⟩
  | 30 => ⟨S4x8192x8x32, .f32⟩
  | 31 => ⟨S4x8192x8x32, .f32⟩
  | 32 => ⟨S1x8192x1x32, .f32⟩
  | 33 => ⟨S4x8192x8x32, .f32⟩
  | 34 => ⟨S4x8192x8x32, .f32⟩
  | 35 => ⟨S4x8192x8x32, .f32⟩
  | 36 => ⟨S1x8192x1x32, .f32⟩
  | 37 => ⟨S4x8192x8x32, .f32⟩
  | 38 => ⟨S4x8192x8x32, .f32⟩
  | 39 => ⟨S1x8192x1x32, .f32⟩
  | 40 => ⟨S4x8192x8x32, .f32⟩
  | 41 => ⟨S4x8192x8x32, .f32⟩
  | 42 => ⟨S4x8192x8x32, .f32⟩
  | 43 => ⟨S4x8192x8x64, .f32⟩
  | 44 => ⟨S4x8192x512, .f32⟩
  | 45 => ⟨S4x8192x4x128, .f32⟩
  | 46 => ⟨S4x8192x4x256, .f32⟩
  | 47 => ⟨S4x8192x1024, .f32⟩
  | 48 => ⟨S_, .f32⟩
  | 49 => ⟨S_, .f32⟩
  | 50 => ⟨S4x8192x1024, .f32⟩
  | 51 => ⟨S4x8192x1024, .f32⟩
  | 52 => ⟨S_, .f32⟩
  | 53 => ⟨S_, .f32⟩
  | 54 => ⟨S4x8192x1024, .f32⟩
  | 55 => ⟨S4x8192x1024, .f32⟩
  | 56 => ⟨S4x8192x512, .f32⟩
  | 57 => ⟨S4x8192x4x128, .f32⟩
  | 58 => ⟨S4x4x8192x128, .f32⟩
  | 59 => ⟨S4x8192x2x64, .f32⟩
  | 60 => ⟨S4x8192x2x32, .f32⟩
  | 61 => ⟨S4x8192x2x32, .f32⟩
  | 62 => ⟨S8192x1x32, .f32⟩
  | 63 => ⟨S8192x1x32, .f32⟩
  | 64 => ⟨S1x8192x1x32, .f32⟩
  | 65 => ⟨S4x8192x2x32, .f32⟩
  | 66 => ⟨S4x8192x2x32, .f32⟩
  | 67 => ⟨S1x8192x1x32, .f32⟩
  | 68 => ⟨S4x8192x2x32, .f32⟩
  | 69 => ⟨S4x8192x2x32, .f32⟩
  | 70 => ⟨S4x8192x2x32, .f32⟩
  | 71 => ⟨S1x8192x1x32, .f32⟩
  | 72 => ⟨S4x8192x2x32, .f32⟩
  | 73 => ⟨S4x8192x2x32, .f32⟩
  | 74 => ⟨S1x8192x1x32, .f32⟩
  | 75 => ⟨S4x8192x2x32, .f32⟩
  | 76 => ⟨S4x8192x2x32, .f32⟩
  | 77 => ⟨S4x8192x2x32, .f32⟩
  | 78 => ⟨S4x8192x2x64, .f32⟩
  | 79 => ⟨S4x8192x128, .f32⟩
  | 80 => ⟨S4x1x8192x128, .f32⟩
  | 81 => ⟨S4x4x8192x128, .f32⟩
  | 82 => ⟨S4x4x8192x256, .f32⟩
  | 83 => ⟨S4x8192x512, .f32⟩
  | 84 => ⟨S4x512x8192, .f32⟩
  | 85 => ⟨S4x8192x512, .bf16⟩
  | 86 => ⟨S4x4x8192x128, .bf16⟩
  | 87 => ⟨S4x8192x1024, .bf16⟩
  | 88 => ⟨S4x4x8192x256, .bf16⟩
  | 89 => ⟨S4x512x8192, .bf16⟩
  | 90 => ⟨S4x512x8192, .bf16⟩
  | 91 => ⟨S4x8192x1536, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_5 : Ref sig .tc := ⟨.hbm, 115, rfl⟩
abbrev main_v93 : Ref sig .tc := ⟨.hbm, 116, rfl⟩
abbrev main_v94 : Ref sig .tc := ⟨.hbm, 117, rfl⟩
abbrev main_cst_6 : Ref sig .tc := ⟨.hbm, 118, rfl⟩
abbrev main_v95 : Ref sig .tc := ⟨.hbm, 119, rfl⟩
abbrev main_v96 : Ref sig .tc := ⟨.hbm, 120, rfl⟩
abbrev main_cst_7 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_8 : Ref sig .tc := ⟨.hbm, 132, rfl⟩
abbrev main_v107 : Ref sig .tc := ⟨.hbm, 133, rfl⟩
abbrev main_v108 : Ref sig .tc := ⟨.hbm, 134, rfl⟩
abbrev main_cst_9 : Ref sig .tc := ⟨.hbm, 135, rfl⟩
abbrev main_v109 : Ref sig .tc := ⟨.hbm, 136, rfl⟩
abbrev main_v110 : Ref sig .tc := ⟨.hbm, 137, rfl⟩
abbrev main_cst_10 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_11 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_12 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩

abbrev nD : Nat := 1
abbrev τ : Topo := Topo.v7x

variable {F : FTy → Type} [FloatOps F]
-- ==== Proof.MlaIdealBody.lean ====
module

public import proofs.«01_k».proof.Proof.Gen.MlaIdeal.Frame
public import proofs.«01_k».proof.Proof.Gen.MlaIdeal.Skeleton
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sums of a tile's weights against the running maxima are moderate: the tile is added without a new maximum. -/
abbrev Moderate (q : Vec F S1x1024x256 .bf16) (k : Vec F S1x1x2048x256 .bf16) (mx : Vec F S1x1x1024 .f32) : Prop :=
  Scalar.cmpf .ole (k0_pay14 q k mx) (Scalar.ofBits .f32 0x5F800000#32 : F .f32) = 1#1

/-- The running maxima after a tile. -/
def stepM (q : Vec F S1x1024x256 .bf16) (k : Vec F S1x1x2048x256 .bf16) (mx : Vec F S1x1x1024 .f32) : Vec F S1x1x1024 .f32 :=
  if Moderate q k mx then mx else k0_pay23 q k mx

/-- The running sums of weights after a tile. -/
def stepL (q : Vec F S1x1024x256 .bf16) (k : Vec F S1x1x2048x256 .bf16) (mx l : Vec F S1x1x1024 .f32) : Vec F S1x1x1024 .f32 :=
  if Moderate q k mx then k0_pay15 q k mx l else k0_pay21 q k mx l

/-- The running weighted sums of values after a tile. -/
def stepA (q : Vec F S1x1024x256 .bf16) (k : Vec F S1x1x2048x256 .bf16) (v : Vec F S1x128x2048 .bf16) (mx : Vec F S1x1x1024 .f32)
    (a : Vec F S1x128x1024 .f32) : Vec F S1x128x1024 .f32 :=
  if Moderate q k mx then k0_pay16 q k v mx a else k0_pay22 q k v mx a

/-- The condition "this is the first key tile of the query tile". -/
abbrev cond0_0 (i : grid0.Coords) : Prop := (Scalar.cmpi .ne (Scalar.extui (Scalar.cmpi .eq (BitVec.ofNat 32 (i 3).val) 0#32)) 0#32) = 1#1
/-- The condition "this is the last key tile of the query tile". -/
abbrev cond0_1 (i : grid0.Coords) : Prop := k0_cond4 i = 1#1

/-- The maxima a point works from: at the first key tile those of the context keys, else what the point before left. -/
def startM (i : grid0.Coords) (q : Vec F S1x1024x256 .bf16) (kc : Vec F S1x1x256x256 .bf16) (mx : Vec F S1x1x1024 .f32) : Vec F S1x1x1024 .f32 :=
  if cond0_0 i then k0_pay6 q kc else mx

/-- The sums of weights a point works from. -/
def startL (i : grid0.Coords) (q : Vec F S1x1024x256 .bf16) (kc : Vec F S1x1x256x256 .bf16) (l : Vec F S1x1x1024 .f32) : Vec F S1x1x1024 .f32 :=
  if cond0_0 i then k0_pay7 q kc else l

/-- The weighted sums of values a point works from. -/
def startA (i : grid0.Coords) (q : Vec F S1x1024x256 .bf16) (kc : Vec F S1x1x256x256 .bf16) (vc : Vec F S1x128x256 .bf16)
    (a : Vec F S1x128x1024 .f32) : Vec F S1x128x1024 .f32 :=
  if cond0_0 i then k0_pay8 q kc vc else a

/-- The output block after a point: at the last key tile the quotients, else what it held. -/
def finish (i : grid0.Coords) (l : Vec F S1x1x1024 .f32) (a : Vec F S1x128x1024 .f32) (o : Vec F S1x1024x128 .bf16) : Vec F S1x1024x128 .bf16 :=
  if cond0_1 i then k0_pay1 a l else o

theorem taken (b : BitVec 1) : Scalar.cmpi .ne (Scalar.extui b : BitVec 32) 0#32 = 1#1 ↔ b = 1#1 := by
  revert b; decide

theorem not_taken (b : BitVec 1) : Scalar.cmpi .ne (Scalar.extui (Scalar.xori b 1#1) : BitVec 32) 0#32 = 1#1 ↔ ¬b = 1#1 := by
  revert b; decide

set_option maxHeartbeats 600000 in
theorem run (c : Dev nD) (i : grid0.Coords) (arg4 : Memref sig .tc .vmem S1x1024x256 .bf16) (harg4 : arg4.IsWhole) (arg5 : Memref sig .tc .vmem S1x1x256x256 .bf16) (harg5 : arg5.IsWhole) (arg6 : Memref sig .tc .vmem S1x128x256 .bf16) (harg6 : arg6.IsWhole) (arg7 : Memref sig .tc .vmem S1x1x2048x256 .bf16) (harg7 : arg7.IsWhole) (arg8 : Memref sig .tc .vmem S1x128x2048 .bf16) (harg8 : arg8.IsWhole) (arg9 : Memref sig .tc .vmem S1x1024x128 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x128x1024 .f32) (harg12 : arg12.IsWhole)
    (x0 : Vec F S1x1024x256 .bf16) (x1 : Vec F S1x1x256x256 .bf16) (x2 : Vec F S1x128x256 .bf16) (x3 : Vec F S1x1x2048x256 .bf16) (x4 : Vec F S1x128x2048 .bf16) (x5 : Vec F S1x1024x128 .bf16) (xs0 xs1 : Vec F S1x1x1024 .f32) (xs2 : Vec F S1x128x1024 .f32)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xs0 ∗ owns (c : Thread nD τ) arg11 fullShare xs1 ∗ owns (c : Thread nD τ) arg12 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (finish i (stepL x0 x3 (startM i x0 x1 xs0) (startL i x0 x1 xs1)) (stepA x0 x3 x4 (startM i x0 x1 xs0) (startA i x0 x1 x2 xs2)) x5) ∗ owns (c : Thread nD τ) arg10 fullShare (stepM x0 x3 (startM i x0 x1 xs0)) ∗ owns (c : Thread nD τ) arg11 fullShare (stepL x0 x3 (startM i x0 x1 xs0) (startL i x0 x1 xs1)) ∗ owns (c : Thread nD τ) arg12 fullShare (stepA x0 x3 x4 (startM i x0 x1 xs0) (startA i x0 x1 x2 xs2))) -∗ K ⟨⟩))
          ⊢ wp frame (wpE (defs₀ (F := F)) Variants.none c none) E (cc0_flash_mla i arg4 harg4 arg5 harg5 arg6 harg6 arg7 harg7 arg8 harg8 arg9 harg9 arg10 harg10 arg11 harg11 arg12 harg12) K := by
    simp only [cc0_flash_mla_eq_skeleton]; unfold cc0_flash_mla_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2
    sl_exec
    have r4 : View.readAt (Elt F) arg4.view (Rect.unit ![0, 0, 0] S1x1024x256.size inb_S1x1024x256_S1x1024x256_0_0_0).toLoadRect (harg4.unread x0) = x0 :=
      (View.readAt_full _ _ _).trans (harg4.read_unread _)
    have r5 : View.readAt (Elt F) arg5.view (Rect.unit ![0, 0, 0, 0] S1x1x256x256.size inb_S1x1x256x256_S1x1x256x256_0_0_0_0).toLoadRect (harg5.unread x1) = x1 :=
      (View.readAt_full _ _ _).trans (harg5.read_unread _)
    have r6 : View.readAt (Elt F) arg6.view (Rect.unit ![0, 0, 0] S1x128x256.size inb_S1x128x256_S1x128x256_0_0_0).toLoadRect (harg6.unread x2) = x2 :=
      (View.readAt_full _ _ _).trans (harg6.read_unread _)
    have r7 : View.readAt (Elt F) arg7.view (Rect.unit ![0, 0, 0, 0] S1x1x2048x256.size inb_S1x1x2048x256_S1x1x2048x256_0_0_0_0).toLoadRect (harg7.unread x3) = x3 :=
      (View.readAt_full _ _ _).trans (harg7.read_unread _)
    have r8 : View.readAt (Elt F) arg8.view (Rect.unit ![0, 0, 0] S1x128x2048.size inb_S1x128x2048_S1x128x2048_0_0_0).toLoadRect (harg8.unread x4) = x4 :=
      (View.readAt_full _ _ _).trans (harg8.read_unread _)
    have r10 := fun f => View.readAt_full (Val := Elt F) arg10.view f inb_S1x1x1024_S1x1x1024_0_0_0
    have r11 := fun f => View.readAt_full (Val := Elt F) arg11.view f inb_S1x1x1024_S1x1x1024_0_0_0
    have r12 := fun f => View.readAt_full (Val := Elt F) arg12.view f inb_S1x128x1024_S1x128x1024_0_0_0
    have w9 := fun f w L => View.read_writes_full (Val := Elt F) arg9.view f inb_S1x1024x128_S1x1024x128_0_0_0 w L
    have w10 := fun f w L => View.read_writes_full (Val := Elt F) arg10.view f inb_S1x1x1024_S1x1x1024_0_0_0 w L
    have w11 := fun f w L => View.read_writes_full (Val := Elt F) arg11.view f inb_S1x1x1024_S1x1x1024_0_0_0 w L
    have w12 := fun f w L => View.read_writes_full (Val := Elt F) arg12.view f inb_S1x128x1024_S1x128x1024_0_0_0 w L
    have e4 : (run.sl.v4 i = 1#1) = cond0_0 i := rfl
    have e9 : run.sl.v9 c i arg4 harg4 arg5 harg5 arg10 harg10 x0 x1 xs0 = startM i x0 x1 xs0 := by
      unfold run.sl.v9 startM
      by_cases h0 : cond0_0 i
      · rw [if_pos h0]; refine (r10 _).trans ?_; rw [dif_pos (e4.mpr h0), r4, r5]; exact w10 _ _ _
      · rw [if_neg h0]; refine (r10 _).trans ?_; rw [dif_neg (fun h => h0 (e4.mp h))]; exact harg10.read_unread _
    have e32 : run.sl.v32 c i arg4 harg4 arg5 harg5 arg11 harg11 x0 x1 xs1 = startL i x0 x1 xs1 := by
      unfold run.sl.v32 startL
      by_cases h0 : cond0_0 i
      · rw [if_pos h0]; refine (r11 _).trans ?_; rw [dif_pos (e4.mpr h0), r4, r5]; exact w11 _ _ _
      · rw [if_neg h0]; refine (r11 _).trans ?_; rw [dif_neg (fun h => h0 (e4.mp h))]; exact harg11.read_unread _
    have e38 : run.sl.v38 c i arg4 harg4 arg5 harg5 arg6 harg6 arg12 harg12 x0 x1 x2 xs2 = startA i x0 x1 x2 xs2 := by
      unfold run.sl.v38 startA
      by_cases h0 : cond0_0 i
      · rw [if_pos h0]; refine (r12 _).trans ?_; rw [dif_pos (e4.mpr h0), r4, r5, r6]; exact w12 _ _ _
      · rw [if_neg h0]; refine (r12 _).trans ?_; rw [dif_neg (fun h => h0 (e4.mp h))]; exact harg12.read_unread _
    have e23 : run.sl.v23 c i arg4 harg4 arg5 harg5 arg7 harg7 arg10 harg10 x0 x1 x3 xs0
        = Scalar.cmpf .ole (k0_pay14 x0 x3 (startM i x0 x1 xs0)) (Scalar.ofBits .f32 0x5F800000#32 : F .f32) := by
      unfold run.sl.v23; rw [r4, r7, e9]; rfl
    have e25 : (run.sl.v25 c i arg4 harg4 arg5 harg5 arg7 harg7 arg10 harg10 x0 x1 x3 xs0 = 1#1) ↔ Moderate x0 x3 (startM i x0 x1 xs0) := by
      unfold run.sl.v25 run.sl.v24; rw [e23]; exact taken _
    have e28 : (run.sl.v28 c i arg4 harg4 arg5 harg5 arg7 harg7 arg10 harg10 x0 x1 x3 xs0 = 1#1) ↔ ¬Moderate x0 x3 (startM i x0 x1 xs0) := by
      unfold run.sl.v28 run.sl.v27 run.sl.v26; rw [e23]; exact not_taken _
    have e41 : ¬Moderate x0 x3 (startM i x0 x1 xs0) →
        run.sl.v41 c i arg4 harg4 arg5 harg5 arg7 harg7 arg10 harg10 arg11 harg11 x0 x1 x3 xs0 xs1 = startL i x0 x1 xs1 := by
      intro hs; rw [← e32]
      unfold run.sl.v41; refine (r11 _).trans ?_; rw [dif_neg (fun h => hs (e25.mp h))]; exact (r11 _).symm
    have e50 : ¬Moderate x0 x3 (startM i x0 x1 xs0) →
        run.sl.v50 c i arg4 harg4 arg5 harg5 arg6 harg6 arg7 harg7 arg8 harg8 arg10 harg10 arg12 harg12 x0 x1 x2 x3 x4 xs0 xs2 = startA i x0 x1 x2 xs2 := by
      intro hs; rw [← e38]
      unfold run.sl.v50; refine (r12 _).trans ?_; rw [dif_neg (fun h => hs (e25.mp h))]; exact (r12 _).symm
    have e34 : run.sl.v34 c i arg4 harg4 arg5 harg5 arg7 harg7 arg10 harg10 arg11 harg11 x0 x1 x3 xs0 xs1
        = stepL x0 x3 (startM i x0 x1 xs0) (startL i x0 x1 xs1) := by
      unfold run.sl.v34 stepL; refine (r11 _).trans ?_
      by_cases hs : Moderate x0 x3 (startM i x0 x1 xs0)
      · rw [if_pos hs, dif_neg (fun h => e28.mp h hs), dif_pos (e25.mpr hs), r4, r7, e9, e32]; exact w11 _ _ _
      · rw [if_neg hs, dif_pos (e28.mpr hs), r4, r7, e9, e41 hs]; exact w11 _ _ _
    have e32' : run.sl.v32_1 c i arg4 harg4 arg5 harg5 arg6 harg6 arg7 harg7 arg8 harg8 arg10 harg10 arg12 harg12 x0 x1 x2 x3 x4 xs0 xs2
        = stepA x0 x3 x4 (startM i x0 x1 xs0) (startA i x0 x1 x2 xs2) := by
      unfold run.sl.v32_1 stepA; refine (r12 _).trans ?_
      by_cases hs : Moderate x0 x3 (startM i x0 x1 xs0)
      · rw [if_pos hs, dif_neg (fun h => e28.mp h hs), dif_pos (e25.mpr hs), r4, r7, r8, e9, e38]; exact w12 _ _ _
      · rw [if_neg hs, dif_pos (e28.mpr hs), r4, r7, r8, e9, e50 hs]; exact w12 _ _ _
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro
      unfold finish
      by_cases h1 : cond0_1 i
      · rw [if_pos h1, dif_pos h1, e34, e32']; exact w9 _ _ _
      · rw [if_neg h1, dif_neg h1]; exact harg9.read_unread _
    isplitl [HS0]
    · iexists _; isplitr; swap; · iexact HS0
      ipureintro
      unfold stepM
      by_cases hs : Moderate x0 x3 (startM i x0 x1 xs0)
      · rw [if_pos hs, dif_neg (fun h => e28.mp h hs), ← e9]; exact (r10 _).symm
      · rw [if_neg hs, dif_pos (e28.mpr hs), r4, r7, e9]; exact w10 _ _ _
    isplitl [HS1]
    · iexists _; isplitr; swap; · iexact HS1
      ipureintro; rw [← e34]; exact (r11 _).symm
    · iexists _; isplitr; swap; · iexact HS2
      ipureintro; rw [← e32']; exact (r12 _).symm

end Cert.MlaIdeal.Hand
end
-- ==== Proof.MlaIdealFrame.lean ====
/- The launch of the attention kernel: what its three running buffers hold after each grid point, the body obligation from
   the one run of MlaBody.lean, and from it the frame: the program ends, its arguments are unchanged, its counters are zero. -/
module

public import proofs.«01_k».proof.Proof.MlaIdealBody

@[expose] public section

set_option maxRecDepth 16384

noncomputable section

namespace Cert.MlaIdeal.Hand

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the memrefs at a point -/

theorem hcond0_0 : ∀ t : Fin cfg0.N, cond0_0 (grid0.coords t) ↔ t.val % 4 = 0 :=
  (fun t => by
    have ht : t.val < 512 := Nat.lt_of_lt_of_eq t.isLt N_0
    have e3 : (grid0.coords t 3).val = t.val / 1 % 4 := Pipeline.Grid.coords_val t 3 (by decide) rfl
    simp only [cond0_0, e3]
    word_cmp
   : ∀ t : Fin grid0.N, cond0_0 (grid0.coords t) ↔ t.val % 4 = 0)

theorem hcond0_1 : ∀ t : Fin cfg0.N, cond0_1 (grid0.coords t) ↔ t.val % 4 = 3 :=
  (fun t => by
    have ht : t.val < 512 := Nat.lt_of_lt_of_eq t.isLt N_0
    have e3 : (grid0.coords t 3).val = t.val / 1 % 4 := Pipeline.Grid.coords_val t 3 (by decide) rfl
    simp only [cond0_1, k0_cond4, e3]
    word_cmp
   : ∀ t : Fin grid0.N, cond0_1 (grid0.coords t) ↔ t.val % 4 = 3)

theorem idle0_5 (t : Fin cfg0.N) : cfg0.idle 5 (grid0.coords t) = !(k0_cond4 (grid0.coords t) == 1#1) := rfl

abbrev ms0_0 (t : Fin cfg0.N) : Memref sig .tc .vmem S1x1024x256 .bf16 := win0_0.stage (cfg0.slots t 0)
abbrev ms0_1 (t : Fin cfg0.N) : Memref sig .tc .vmem S1x1x256x256 .bf16 := win0_1.stage (cfg0.slots t 1)
abbrev ms0_2 (t : Fin cfg0.N) : Memref sig .tc .vmem S1x128x256 .bf16 := win0_2.stage (cfg0.slots t 2)
abbrev ms0_3 (t : Fin cfg0.N) : Memref sig .tc .vmem S1x1x2048x256 .bf16 := win0_3.stage (cfg0.slots t 3)
abbrev ms0_4 (t : Fin cfg0.N) : Memref sig .tc .vmem S1x128x2048 .bf16 := win0_4.stage (cfg0.slots t 4)
abbrev ms0_5 (t : Fin cfg0.N) : Memref sig .tc .vmem S1x1024x128 .bf16 := win0_5.stage (cfg0.slots t 5)
abbrev scM0_0 : Memref sig .tc .vmem S1x1x1024 .f32 := Memref.whole cc0_scratch0
abbrev scM0_1 : Memref sig .tc .vmem S1x1x1024 .f32 := Memref.whole cc0_scratch1
abbrev scM0_2 : Memref sig .tc .vmem S1x128x1024 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the running buffers hold after each point -/

/-- The three running buffers: the maxima, the sums of weights, the weighted sums of values. -/
abbrev Running (F : FTy → Type) [FloatOps F] : Type := Vec F S1x1x1024 .f32 × Vec F S1x1x1024 .f32 × Vec F S1x128x1024 .f32

/-- One point's work on the running buffers. -/
def advance (c : Dev nD) (t : Fin cfg0.N) (p : Running F) : Running F :=
  (stepM (iblk m c 0 t) (iblk m c 3 t) (startM (grid0.coords t) (iblk m c 0 t) (iblk m c 1 t) p.1),
   stepL (iblk m c 0 t) (iblk m c 3 t) (startM (grid0.coords t) (iblk m c 0 t) (iblk m c 1 t) p.1)
      (startL (grid0.coords t) (iblk m c 0 t) (iblk m c 1 t) p.2.1),
   stepA (iblk m c 0 t) (iblk m c 3 t) (iblk m c 4 t) (startM (grid0.coords t) (iblk m c 0 t) (iblk m c 1 t) p.1)
      (startA (grid0.coords t) (iblk m c 0 t) (iblk m c 1 t) (iblk m c 2 t) p.2.2))

/-- At the first key tile of a query tile nothing of the earlier contents is used. -/
theorem advance_first (c : Dev nD) (t : Fin cfg0.N) (h : t.val % 4 = 0) (p p' : Running F) : advance m c t p = advance m c t p' := by
  have hc := (hcond0_0 t).mpr h
  unfold advance startM startL startA
  simp only [if_pos hc]

/-- The running buffers after the point at position `n`. -/
def running (c : Dev nD) : (n : ℕ) → n < cfg0.N → Running F
  | 0, h => advance m c ⟨0, h⟩ (k0_pay6 (iblk m c 0 ⟨0, h⟩) (iblk m c 1 ⟨0, h⟩), k0_pay7 (iblk m c 0 ⟨0, h⟩) (iblk m c 1 ⟨0, h⟩),
      k0_pay8 (iblk m c 0 ⟨0, h⟩) (iblk m c 1 ⟨0, h⟩) (iblk m c 2 ⟨0, h⟩))
  | n + 1, h => advance m c ⟨n + 1, h⟩ (running c n (Nat.lt_of_succ_lt h))

theorem running_first (c : Dev nD) (t : Fin cfg0.N) (h : t.val % 4 = 0) (p : Running F) :
    running m c t.val t.isLt = advance m c t p := by
  obtain ⟨n, hn⟩ := t
  cases n with
  | zero => exact advance_first m c _ h _ _
  | succ n => exact advance_first m c _ h _ _

theorem running_pos (c : Dev nD) (t : Fin cfg0.N) (h : t.val ≠ 0) :
    running m c t.val t.isLt = advance m c t (running m c (t.val - 1) (Nat.lt_of_le_of_lt (Nat.sub_le _ _) t.isLt)) := by
  obtain ⟨n, hn⟩ := t
  cases n with
  | zero => exact absurd rfl h
  | succ n => rfl

/-- The region's invariant before position `n`: at first the running buffers at anything, then at what the point before left. -/
def PhiS (c : Dev nD) : (n : ℕ) → n ≤ cfg0.N → sProp 𝕄
  | 0, _ => Pipeline.ΦA spec0 c
  | n + 1, hn => iprop(iprop(owns (c : Thread nD τ) scM0_0 fullShare (running m c n hn).1 ∗ owns (c : Thread nD τ) scM0_1 fullShare (running m c n hn).2.1 ∗ owns (c : Thread nD τ) scM0_2 fullShare (running m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (running m c n hn).1 ∗ owns (c : Thread nD τ) scM0_1 fullShare (running m c n hn).2.1 ∗ owns (c : Thread nD τ) scM0_2 fullShare (running m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (running m c (n - 1) (by omega)).1 ∗ owns (c : Thread nD τ) scM0_1 fullShare (running m c (n - 1) (by omega)).2.1 ∗ owns (c : Thread nD τ) scM0_2 fullShare (running m c (n - 1) (by omega)).2.2) ∗ (∃ r, prngReg c r)) := by
  cases n with
  | zero => exact absurd rfl hz
  | succ n => rfl

/-! ## The pipeline's proof data -/

/-- What the last key tile's point leaves in the output block: the quotients of the running buffers. -/
def quotient (c : Dev nD) (t : Fin cfg0.N) : Vec F S1x1024x128 .bf16 :=
  k0_pay1 (running m c t.val t.isLt).2.2 (running m c t.val t.isLt).2.1

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => quotient m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = quotient m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The output block handed back: at the last key tile at the quotients, elsewhere as it was found. -/
theorem leaves_5 (c : Dev nD) (t : Fin cfg0.N) (p : Running F) (hp : running m c t.val t.isLt = advance m c t p) (d) :
    owns (c : Thread nD τ) (ms0_5 t) fullShare (finish (grid0.coords t) (advance m c t p).2.1 (advance m c t p).2.2 ((dats m 0 c).before 5 t d))
      ⊢ ((dats m 0 c).leavesExact 5 t : sProp 𝕄) := by
  by_cases h1 : t.val % 4 = 3
  · have hc := (hcond0_1 t).mpr h1
    have hi : cfg0.idle 5 (grid0.coords t) = false := by rw [idle0_5, show k0_cond4 (grid0.coords t) = 1#1 from hc]; rfl
    rw [show (dats m 0 c).leavesExact 5 t = owns (c : Thread nD τ) (ms0_5 t) fullShare ((dats m 0 c).after 5 t) from by
      unfold Dat.leavesExact; rw [hi], after0_5]
    unfold finish quotient
    rw [if_pos hc, hp]
  · have hc : ¬cond0_1 (grid0.coords t) := fun h => h1 ((hcond0_1 t).mp h)
    have hi : cfg0.idle 5 (grid0.coords t) = true := by
      rw [idle0_5]; simpa using (show ¬k0_cond4 (grid0.coords t) = 1#1 from hc)
    have hf : (cfg0.win 5).flush t = false := Bool.eq_false_iff.mpr fun h => h1 ((flush0_5 t).mp h)
    rw [Pipeline.Dat.leavesExact_idle (dats m 0 c) 5 t hi hf]
    unfold finish
    rw [if_neg hc]
    iintro H; iexists d; iexact H

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from rfl, after0_2,
    show (dats m 0 c).leavesExact 3 t = owns (c : Thread nD τ) (ms0_3 t) fullShare ((dats m 0 c).after 3 t) from rfl, after0_3,
    show (dats m 0 c).leavesExact 4 t = owns (c : Thread nD τ) (ms0_4 t) fullShare ((dats m 0 c).after 4 t) from rfl, after0_4]
  have key : ∀ (p : Running F) (hp : running m c t.val t.isLt = advance m c t p),
      iprop(iprop(iprop(owns (c : Thread nD τ) scM0_0 fullShare p.1 ∗ owns (c : Thread nD τ) scM0_1 fullShare p.2.1 ∗ owns (c : Thread nD τ) scM0_2 fullShare p.2.2) ∗ (∃ r, prngReg c r)) ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d)))
      ⊢ wp frame (wpE (defs₀ (F := F)) Variants.none c none) Set.univ (bodyAt0 t) (fun _ => iprop(iprop(iprop(owns (c : Thread nD τ) scM0_0 fullShare (running m c t.val t.isLt).1 ∗ owns (c : Thread nD τ) scM0_1 fullShare (running m c t.val t.isLt).2.1 ∗ owns (c : Thread nD τ) scM0_2 fullShare (running m c t.val t.isLt).2.2) ∗ (∃ r, prngReg c r)) ∗ (dats m 0 c).owesAt () t.castSucc
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ (dats m 0 c).leavesExact 5 t)) := by
    intro p hp
    unfold bodyAt0
    simp only [before0_0, before0_1, before0_2, before0_3, before0_4]
    rw [hp]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (run c (grid0.coords t) _ _ _ _ _ _ _ _ _ _ _ _ _ _ _ _ _ _ (iblk m c 0 t) (iblk m c 1 t) (iblk m c 2 t) (iblk m c 3 t) (iblk m c 4 t) ((dats m 0 c).before 5 t d5) p.1 p.2.1 p.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t p hp d5)
    iexact H5
  by_cases hz : t.val = 0
  · rw [PhiS_castSucc m c t, PhiS_zero m c _ _ hz, PhiA0_eq]
    iintro ⟨⟨⟨⟨%e0, HS0⟩, ⟨%e1, HS1⟩, ⟨%e2, HS2⟩⟩, Hg⟩, Hr⟩
    iapply (key (e0, e1, e2) (running_first m c t (by omega) _))
    isplitl [HS0 HS1 HS2 Hg]
    · isplitl [HS0 HS1 HS2]
      · isplitl [HS0]; · iexact HS0
        isplitl [HS1]; · iexact HS1
        iexact HS2
      iexact Hg
    iexact Hr
  · rw [PhiS_castSucc m c t, PhiS_pos m c _ _ hz]
    exact key _ (running_pos m c t hz)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program ends, its five arguments are unchanged and every counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.MlaIdeal.Hand

end
-- ==== Proof.MlaIdealBlocks.lean ====
/- The blocks the attention kernel reads at a grid point, at their places in the arrays. -/
module

public import proofs.«01_k».proof.Proof.MlaIdealFrame
public import Idealize.ShloMosaic.Lib.Pointwise
public import Idealize.ShloMosaic.Lib.Pipeline.ValueKit
public import Idealize.ShloMosaic.Lib.Pipeline.Covers

@[expose] public section

set_option maxRecDepth 16384

noncomputable section

namespace Cert.MlaIdeal.Hand

open Cert.MlaIdeal Cert.MlaIdeal.Gen
open Idealize.ShloMosaic Idealize.ShloMosaic.TcCoe

variable (m : (ℓ : Loc nD τ sig) → Buf (Elt Ideal) ℓ)

theorem last (t : Fin cfg0.N) : (grid0.coords t 3).val = t.val % 4 := by
  have e3 : (grid0.coords t 3).val = t.val / 1 % 4 := Pipeline.Grid.coords_val t 3 (by decide) rfl
  rw [e3, Nat.div_one]

theorem coords_val (t : Fin cfg0.N) : ((grid0.coords t 0).val = t.val / 128 % 4 ∧ (grid0.coords t 1).val = t.val / 32 % 4)
    ∧ ((grid0.coords t 2).val = t.val / 4 % 8 ∧ (grid0.coords t 3).val = t.val % 4) :=
  ⟨⟨Pipeline.Grid.coords_val t 0 (by decide) rfl, Pipeline.Grid.coords_val t 1 (by decide) rfl⟩,
   ⟨Pipeline.Grid.coords_val t 2 (by decide) rfl, last t⟩⟩

theorem word (n k : ℕ) (h : n < k) (hk : k ≤ 4294967296) : (BitVec.ofNat 32 n).toNat = n := by
  rw [BitVec.toNat_ofNat]; exact Nat.mod_eq_of_lt (by omega)

theorem index0 (t : Fin cfg0.N) : win0_0.index t = ![t.val / 128 % 4, t.val / 4 % 8, t.val / 32 % 4] := by
  have e := coords_val t
  show cc0_transform_0 (grid0.coords t) = _
  unfold cc0_transform_0
  simp only [e.1.1, e.1.2, e.2.1, e.2.2]
  rw [word _ 4 (by omega) (by omega), word _ 8 (by omega) (by omega), word _ 4 (by omega) (by omega)]

theorem index1 (t : Fin cfg0.N) : win0_1.index t = ![t.val / 128 % 4, t.val / 32 % 4, 0, 0] := by
  have e := coords_val t
  show cc0_transform_1 (grid0.coords t) = _
  unfold cc0_transform_1
  simp only [e.1.1, e.1.2, e.2.1, e.2.2]
  rw [word _ 4 (by omega) (by omega), word _ 4 (by omega) (by omega)]; rfl

theorem index2 (t : Fin cfg0.N) : win0_2.index t = ![t.val / 128 % 4, t.val / 32 % 4, 0] := by
  have e := coords_val t
  show cc0_transform_2 (grid0.coords t) = _
  unfold cc0_transform_2
  simp only [e.1.1, e.1.2, e.2.1, e.2.2]
  rw [word _ 4 (by omega) (by omega), word _ 4 (by omega) (by omega)]; rfl

theorem index3 (t : Fin cfg0.N) : win0_3.index t = ![t.val / 128 % 4, t.val / 32 % 4, t.val % 4, 0] := by
  have e := coords_val t
  show cc0_transform_3 (grid0.coords t) = _
  unfold cc0_transform_3
  simp only [e.1.1, e.1.2, e.2.1, e.2.2]
  rw [word _ 4 (by omega) (by omega), word _ 4 (by omega) (by omega), word _ 4 (by omega) (by omega)]; rfl

theorem index4 (t : Fin cfg0.N) : win0_4.index t = ![t.val / 128 % 4, t.val / 32 % 4, t.val % 4] := by
  have e := coords_val t
  show cc0_transform_4 (grid0.coords t) = _
  unfold cc0_transform_4
  simp only [e.1.1, e.1.2, e.2.1, e.2.2]
  rw [word _ 4 (by omega) (by omega), word _ 4 (by omega) (by omega), word _ 4 (by omega) (by omega)]

theorem index5 (t : Fin cfg0.N) : win0_5.index t = ![t.val / 128 % 4, t.val / 4 % 8, t.val / 32 % 4] := by
  have e := coords_val t
  show cc0_transform_5 (grid0.coords t) = _
  unfold cc0_transform_5
  simp only [e.1.1, e.1.2, e.2.1, e.2.2]
  rw [word _ 4 (by omega) (by omega), word _ 8 (by omega) (by omega), word _ 4 (by omega) (by omega)]

theorem iblk0_at (c : Dev nD) (t : Fin cfg0.N) (x : Fin 1024) (d : Fin 256) :
    (iblk m c 0 t : Vec Ideal S1x1024x256 .bf16) (ix3 0 x d)
      = (V m c main_v6 : Vec Ideal S4x8192x1024 .bf16) (ix3 ⟨t.val / 128 % 4, by omega⟩ ⟨t.val / 4 % 8 * 1024 + x.val, by omega⟩ ⟨t.val / 32 % 4 * 256 + d.val, by omega⟩) := by
  blk_ext [iblk, index0 t]

theorem iblk1_at (c : Dev nD) (t : Fin cfg0.N) (k d : Fin 256) :
    (iblk m c 1 t : Vec Ideal S1x1x256x256 .bf16) (ix4 0 0 k d)
      = (m ((c : Thread nD τ).loc main_arg1) : Vec Ideal S4x4x256x256 .bf16) (ix4 ⟨t.val / 128 % 4, by omega⟩ ⟨t.val / 32 % 4, by omega⟩ k d) := by
  rw [← V_main_arg1 m c]; blk_ext [iblk, index1 t]

theorem iblk2_at (c : Dev nD) (t : Fin cfg0.N) (e : Fin 128) (k : Fin 256) :
    (iblk m c 2 t : Vec Ideal S1x128x256 .bf16) (ix3 0 e k)
      = (m ((c : Thread nD τ).loc main_arg2) : Vec Ideal S4x512x256 .bf16) (ix3 ⟨t.val / 128 % 4, by omega⟩ ⟨t.val / 32 % 4 * 128 + e.val, by omega⟩ k) := by
  rw [← V_main_arg2 m c]; blk_ext [iblk, index2 t]

theorem iblk3_at (c : Dev nD) (t : Fin cfg0.N) (k : Fin 2048) (d : Fin 256) :
    (iblk m c 3 t : Vec Ideal S1x1x2048x256 .bf16) (ix4 0 0 k d)
      = (m ((c : Thread nD τ).loc main_arg3) : Vec Ideal S4x4x8192x256 .bf16) (ix4 ⟨t.val / 128 % 4, by omega⟩ ⟨t.val / 32 % 4, by omega⟩ ⟨t.val % 4 * 2048 + k.val, by omega⟩ d) := by
  rw [← V_main_arg3 m c]; blk_ext [iblk, index3 t]

theorem iblk4_at (c : Dev nD) (t : Fin cfg0.N) (e : Fin 128) (k : Fin 2048) :
    (iblk m c 4 t : Vec Ideal S1x128x2048 .bf16) (ix3 0 e k)
      = (m ((c : Thread nD τ).loc main_arg4) : Vec Ideal S4x512x8192 .bf16) (ix3 ⟨t.val / 128 % 4, by omega⟩ ⟨t.val / 32 % 4 * 128 + e.val, by omega⟩ ⟨t.val % 4 * 2048 + k.val, by omega⟩) := by
  rw [← V_main_arg4 m c]; blk_ext [iblk, index4 t]

theorem two : Ideal.ofBits .f32 1073741824#32 = ((2 : ℝ) : EReal) := by
  simp [Ideal.ofBits, Ideal.ieee]; rw [← EReal.coe_mul]; norm_num

theorem width : Ideal.ofBits .f32 1128267776#32 = ((192 : ℝ) : EReal) := by
  simp [Ideal.ofBits, Ideal.ieee]; rw [← EReal.coe_mul]; norm_num

/-- The query array, as launched. -/
abbrev queries (c : Dev nD) : FVec Ideal S4x8192x1024 .f32 := m ((c : Thread nD τ).loc main_arg0)

/-- The query the kernel reads: the array's, times a host constant. -/
theorem query_at (c : Dev nD) (b : Fin 4) (r : Fin 8192) (x : Fin 1024) :
    (V m c main_v6 : FVec Ideal S4x8192x1024 .bf16) (ix3 b r x)
      = queries m c (ix3 b r x) * Ideal.div 1 (Ideal.sqrt ((192 : ℝ) : EReal) * Ideal.log ((2 : ℝ) : EReal)) := by
  entry_read
  pointwise
  rw [width, two]

end Cert.MlaIdeal.Hand

end
-- ==== Proof.MlaIdealPay.lean ====
/- The attention kernel's vector values read at an index, as sums and maxima over the keys of a tile. -/
module

public import proofs.«01_k».proof.Proof.MlaIdealBody
public import Idealize.ShloMosaic.Lib.Pointwise
public import Idealize.ShloMosaic.Lib.Pipeline.ValueKit

@[expose] public section

set_option maxRecDepth 16384

noncomputable section

namespace Cert.MlaIdeal.Hand

open Cert.MlaIdeal Cert.MlaIdeal.Gen
open Idealize.ShloMosaic

/-- The start of a running maximum: the least extended real. -/
theorem least : Ideal.ofBits .f32 4286578688#32 = (⊥ : EReal) := by
  simp [Ideal.ofBits, Ideal.ieee]

theorem score_ctx (q : Vec Ideal S1x1024x256 .bf16) (k : Vec Ideal S1x1x256x256 .bf16) (i : Fin 256) (x : Fin 1024) :
    k0_pay3 q k (ix2 i x) = ∑ d : Fin 256, k (ix4 0 0 i d) * q (ix3 0 x d) := by
  pointwise [k0_pay3, k0_pay2]

theorem score_lat (q : Vec Ideal S1x1024x256 .bf16) (k : Vec Ideal S1x1x2048x256 .bf16) (i : Fin 2048) (x : Fin 1024) :
    k0_pay17 q k (ix2 i x) = ∑ d : Fin 256, k (ix4 0 0 i d) * q (ix3 0 x d) := by
  pointwise [k0_pay17, k0_pay9, k0_pay2]

theorem pay6_at (q : Vec Ideal S1x1024x256 .bf16) (k : Vec Ideal S1x1x256x256 .bf16) (x : Fin 1024) :
    k0_pay6 q k (ix3 0 0 x) = Finset.univ.fold max (⊥ : EReal) fun i : Fin 256 => k0_pay3 q k (ix2 i x) := by
  pointwise [k0_pay6, k0_pay4]
  rw [least]

theorem pay7_at (q : Vec Ideal S1x1024x256 .bf16) (k : Vec Ideal S1x1x256x256 .bf16) (x : Fin 1024) :
    k0_pay7 q k (ix3 0 0 x) = ∑ i : Fin 256, Ideal.exp2 (k0_pay3 q k (ix2 i x) - k0_pay6 q k (ix3 0 0 x)) := by
  pointwise [k0_pay7, k0_pay6, k0_pay5]
  rfl

theorem pay8_at (q : Vec Ideal S1x1024x256 .bf16) (k : Vec Ideal S1x1x256x256 .bf16) (v : Vec Ideal S1x128x256 .bf16) (e : Fin 128) (x : Fin 1024) :
    k0_pay8 q k v (ix3 0 e x) = ∑ i : Fin 256, v (ix3 0 e i) * Ideal.exp2 (k0_pay3 q k (ix2 i x) - k0_pay6 q k (ix3 0 0 x)) := by
  pointwise [k0_pay8, k0_pay6, k0_pay5]
  rfl

theorem pay15_at (q : Vec Ideal S1x1024x256 .bf16) (k : Vec Ideal S1x1x2048x256 .bf16) (mx l : Vec Ideal S1x1x1024 .f32) (x : Fin 1024) :
    k0_pay15 q k mx l (ix3 0 0 x) = l (ix3 0 0 x) + ∑ i : Fin 2048, Ideal.exp2 (k0_pay17 q k (ix2 i x) - mx (ix3 0 0 x)) := by
  pointwise [k0_pay15, k0_pay13, k0_pay12, k0_pay11, k0_pay17]
  rfl

theorem pay16_at (q : Vec Ideal S1x1024x256 .bf16) (k : Vec Ideal S1x1x2048x256 .bf16) (v : Vec Ideal S1x128x2048 .bf16) (mx : Vec Ideal S1x1x1024 .f32)
    (a : Vec Ideal S1x128x1024 .f32) (e : Fin 128) (x : Fin 1024) :
    k0_pay16 q k v mx a (ix3 0 e x) = a (ix3 0 e x) + ∑ i : Fin 2048, v (ix3 0 e i) * Ideal.exp2 (k0_pay17 q k (ix2 i x) - mx (ix3 0 0 x)) := by
  pointwise [k0_pay16, k0_pay12, k0_pay11, k0_pay10, k0_pay17]
  rfl

theorem pay23_at (q : Vec Ideal S1x1024x256 .bf16) (k : Vec Ideal S1x1x2048x256 .bf16) (mx : Vec Ideal S1x1x1024 .f32) (x : Fin 1024) :
    k0_pay23 q k mx (ix3 0 0 x) = max (mx (ix3 0 0 x)) (Finset.univ.fold max (⊥ : EReal) fun i : Fin 2048 => k0_pay17 q k (ix2 i x)) := by
  pointwise [k0_pay23, k0_pay18, k0_pay11]
  rw [least]

theorem pay21_at (q : Vec Ideal S1x1024x256 .bf16) (k : Vec Ideal S1x1x2048x256 .bf16) (mx l : Vec Ideal S1x1x1024 .f32) (x : Fin 1024) :
    k0_pay21 q k mx l (ix3 0 0 x) = Ideal.exp2 (mx (ix3 0 0 x) - k0_pay23 q k mx (ix3 0 0 x)) * l (ix3 0 0 x)
      + ∑ i : Fin 2048, Ideal.exp2 (k0_pay17 q k (ix2 i x) - k0_pay23 q k mx (ix3 0 0 x)) := by
  pointwise [k0_pay21, k0_pay19, k0_pay20, k0_pay23, k0_pay11]
  rfl

theorem pay22_at (q : Vec Ideal S1x1024x256 .bf16) (k : Vec Ideal S1x1x2048x256 .bf16) (v : Vec Ideal S1x128x2048 .bf16) (mx : Vec Ideal S1x1x1024 .f32)
    (a : Vec Ideal S1x128x1024 .f32) (e : Fin 128) (x : Fin 1024) :
    k0_pay22 q k v mx a (ix3 0 e x) = Ideal.exp2 (mx (ix3 0 0 x) - k0_pay23 q k mx (ix3 0 0 x)) * a (ix3 0 e x)
      + ∑ i : Fin 2048, v (ix3 0 e i) * Ideal.exp2 (k0_pay17 q k (ix2 i x) - k0_pay23 q k mx (ix3 0 0 x)) := by
  pointwise [k0_pay22, k0_pay19, k0_pay20, k0_pay23, k0_pay11, k0_pay10]
  rfl

theorem pay1_at (a : Vec Ideal S1x128x1024 .f32) (l : Vec Ideal S1x1x1024 .f32) (x : Fin 1024) (e : Fin 128) :
    k0_pay1 a l (ix3 0 x e) = Ideal.div (a (ix3 0 e x)) (l (ix3 0 0 x)) := by
  pointwise [k0_pay1]

end Cert.MlaIdeal.Hand

end
-- ==== Proof.Softmax.lean ====
/- The running softmax over the extended reals: sums of weights against a reference value, kept key tile by key tile, and
   the quotient they end in, which no longer depends on the reference value. -/
module

public import Idealize.ShloMosaic.PureOps.Ideal.Laws
public import Mathlib.Analysis.SpecialFunctions.Pow.Real
public import Mathlib.Data.EReal.Operations

@[expose] public section

noncomputable section

namespace Cert.Softmax

open Idealize.ShloMosaic

/-- The power of two, as the kernel's weights use it. -/
def w (x : ℝ) : ℝ := Real.rpow 2 x

theorem w_pos (x : ℝ) : 0 < w x := Real.rpow_pos_of_pos (by norm_num) x

theorem w_add (x y : ℝ) : w (x + y) = w x * w y := Real.rpow_add (by norm_num) x y

theorem w_exp (x : ℝ) : w (x / Real.log 2) = Real.exp x := by
  have h : Real.log 2 ≠ 0 := (Real.log_pos (by norm_num)).ne'
  show (2 : ℝ) ^ (x / Real.log 2) = _
  rw [Real.rpow_def_of_pos (by norm_num)]
  congr 1
  field_simp

theorem exp2_sub (x y : ℝ) : Ideal.exp2 ((x : EReal) - (y : EReal)) = (w (x - y) : EReal) := by
  rw [← EReal.coe_sub, Ideal.exp2_coe]; rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any sum of extended reals. -/
theorem mul_sum {ι : Type*} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- The first `n` keys' weights against `r`, added up. -/
def Sums (s : ℕ → ℝ) (n : ℕ) (r : ℝ) : ℝ := ∑ k ∈ Finset.range n, w (s k - r)

/-- The first `n` keys' values, weighted against `r` and added up. -/
def Values (s : ℕ → ℝ) (v : ℕ → EReal) (n : ℕ) (r : ℝ) : EReal := ∑ k ∈ Finset.range n, v k * (w (s k - r) : EReal)

theorem Sums_shift (s : ℕ → ℝ) (n : ℕ) (r r' : ℝ) : w (r - r') * Sums s n r = Sums s n r' := by
  unfold Sums
  rw [Finset.mul_sum]
  refine Finset.sum_congr rfl fun k _ => ?_
  rw [← w_add]; congr 1; ring

theorem Values_shift (s : ℕ → ℝ) (v : ℕ → EReal) (n : ℕ) (r r' : ℝ) : (w (r - r') : EReal) * Values s v n r = Values s v n r' := by
  unfold Values
  rw [mul_sum _ _ _ (w_pos _).le]
  refine Finset.sum_congr rfl fun k _ => ?_
  rw [mul_left_comm, ← EReal.coe_mul, ← w_add]; congr 3; ring

/-- A tile of `K` keys' weights against `r`, added to those of the `n` keys before it. -/
theorem Sums_tile (s : ℕ → ℝ) (n K : ℕ) (r : ℝ) (S : Fin K → EReal) (hS : ∀ k, S k = (s (n + k.val) : EReal)) :
    (Sums s n r : EReal) + ∑ k, Ideal.exp2 (S k - (r : EReal)) = (Sums s (n + K) r : EReal) := by
  unfold Sums
  rw [Finset.sum_range_add, EReal.coe_add, coe_sum (Finset.range K), ← Fin.sum_univ_eq_sum_range (fun k => (w (s (n + k) - r) : EReal))]
  congr 1
  exact Finset.sum_congr rfl fun k _ => by rw [hS, exp2_sub]

theorem Values_tile (s : ℕ → ℝ) (v : ℕ → EReal) (n K : ℕ) (r : ℝ) (S V : Fin K → EReal) (hS : ∀ k, S k = (s (n + k.val) : EReal))
    (hV : ∀ k, V k = v (n + k.val)) :
    Values s v n r + ∑ k, V k * Ideal.exp2 (S k - (r : EReal)) = Values s v (n + K) r := by
  unfold Values
  rw [Finset.sum_range_add, ← Fin.sum_univ_eq_sum_range (fun k => v (n + k) * (w (s (n + k) - r) : EReal))]
  congr 1
  exact Finset.sum_congr rfl fun k _ => by rw [hS, hV, exp2_sub]

/-- The greatest of a real number and finitely many more is real. -/
theorem fold_real {K : ℕ} (S : Fin K → EReal) (hS : ∀ k, ∃ r : ℝ, S k = r) (r : ℝ) :
    ∃ r' : ℝ, max (r : EReal) (Finset.univ.fold max ⊥ S) = r' := by
  classical
  have h : ∀ u : Finset (Fin K), ∃ r' : ℝ, max (r : EReal) (u.fold max ⊥ S) = r' := by
    intro u
    induction u using Finset.induction_on with
    | empty => exact ⟨r, by simp⟩
    | insert a u ha ih =>
      obtain ⟨r', h'⟩ := ih
      obtain ⟨ra, hra⟩ := hS a
      refine ⟨max ra r', ?_⟩
      rw [Finset.fold_insert ha, max_left_comm, h', hra]
      exact (EReal.coe_strictMono.monotone.map_max).symm
  exact h _

/-- The greatest of finitely many reals, at least one, is real. -/
theorem fold_real_pos {K : ℕ} (hK : 0 < K) (S : Fin K → EReal) (hS : ∀ k, ∃ r : ℝ, S k = r) :
    ∃ r' : ℝ, Finset.univ.fold max ⊥ S = r' := by
  obtain ⟨r0, h0⟩ := hS ⟨0, hK⟩
  obtain ⟨r', h'⟩ := fold_real S hS r0
  refine ⟨r', ?_⟩
  rw [← h', max_eq_right]
  rw [← h0]
  exact (Finset.le_fold_max _).mpr (Or.inr ⟨_, Finset.mem_univ _, le_rfl⟩)

/-- The quotient of the sums is the softmax-weighted sum of the values, whatever the two reference values. -/
theorem quotient (s t : ℕ → ℝ) (v : ℕ → EReal) (N : ℕ) (hN : 0 < N) (hs : ∀ k, s k = t k / Real.log 2) (r r' : ℝ)
    (T V : Fin N → EReal) (hT : ∀ k, T k = (t k.val : EReal)) (hV : ∀ k, V k = v k.val) :
    Ideal.div (Values s v N r) (Sums s N r : EReal)
      = ∑ k, V k * Ideal.div (Ideal.exp (T k - (r' : EReal))) (∑ k, Ideal.exp (T k - (r' : EReal))) := by
  have hw : ∀ k, Real.exp (t k - r') = w (r - r' / Real.log 2) * w (s k - r) := by
    intro k
    rw [← w_add, hs, ← w_exp]; congr 1; ring
  have hd : (∑ k : Fin N, Ideal.exp (T k - (r' : EReal))) = ((w (r - r' / Real.log 2) * Sums s N r : ℝ) : EReal) := by
    unfold Sums
    rw [Finset.mul_sum, coe_sum, ← Fin.sum_univ_eq_sum_range (fun k => ((w (r - r' / Real.log 2) * w (s k - r) : ℝ) : EReal))]
    refine Finset.sum_congr rfl fun k _ => ?_
    rw [hT, ← EReal.coe_sub, Ideal.exp_coe, hw]
  have hS : 0 < Sums s N r := Finset.sum_pos (fun k _ => w_pos _) ⟨0, Finset.mem_range.mpr hN⟩
  have hc : 0 < w (r - r' / Real.log 2) := w_pos _
  rw [Ideal.div_coe hS.ne', hd]
  unfold Values
  rw [mul_comm, mul_sum _ _ _ (by positivity), ← Fin.sum_univ_eq_sum_range (fun k => ((1 / Sums s N r : ℝ) : EReal) * (v k * (w (s k - r) : EReal)))]
  refine Finset.sum_congr rfl fun k _ => ?_
  rw [hT, hV, ← EReal.coe_sub, Ideal.exp_coe, hw, Ideal.div_coe (mul_pos hc hS).ne', ← EReal.coe_mul, mul_left_comm, ← EReal.coe_mul]
  congr 2
  generalize w (r - r' / Real.log 2) = c at hc
  have := hc.ne'
  field_simp

end Cert.Softmax

end
-- ==== Proof.MlaIdealSteps.lean ====
/- One query column through the attention kernel: the three running buffers hold a reference value, the sum of the weights
   against it, and the weighted sums of the values, over the keys seen so far. -/
module

public import proofs.«01_k».proof.Proof.MlaIdealPay
public import proofs.«01_k».proof.Proof.MlaIdealFrame
public import proofs.«01_k».proof.Proof.Softmax

@[expose] public section

set_option maxRecDepth 16384

noncomputable section

namespace Cert.MlaIdeal.Hand

open Cert.MlaIdeal Cert.MlaIdeal.Gen Cert.Softmax
open Idealize.ShloMosaic

/-- Column `x` of the running buffers describes the first `n` keys of scores `s` and values `v`. -/
def Holds (s : ℕ → ℝ) (v : Fin 128 → ℕ → EReal) (n : ℕ) (x : Fin 1024) (mx l : Vec Ideal S1x1x1024 .f32) (a : Vec Ideal S1x128x1024 .f32) : Prop :=
  ∃ r : ℝ, mx (ix3 0 0 x) = (r : EReal) ∧ l (ix3 0 0 x) = (Sums s n r : EReal) ∧ ∀ e, a (ix3 0 e x) = Values s (v e) n r

/-- The context keys alone, from which every query tile starts. -/
theorem holds_start (s : ℕ → ℝ) (v : Fin 128 → ℕ → EReal) (x : Fin 1024) (q : Vec Ideal S1x1024x256 .bf16) (kc : Vec Ideal S1x1x256x256 .bf16)
    (vc : Vec Ideal S1x128x256 .bf16) (hS : ∀ i : Fin 256, k0_pay3 q kc (ix2 i x) = (s i.val : EReal)) (hV : ∀ e (i : Fin 256), vc (ix3 0 e i) = v e i.val) :
    Holds s v 256 x (k0_pay6 q kc) (k0_pay7 q kc) (k0_pay8 q kc vc) := by
  obtain ⟨r, hr⟩ := fold_real_pos (by decide : 0 < 256) (fun i : Fin 256 => k0_pay3 q kc (ix2 i x)) fun i => ⟨_, hS i⟩
  have hm : k0_pay6 q kc (ix3 0 0 x) = (r : EReal) := (pay6_at q kc x).trans hr
  refine ⟨r, hm, ?_, fun e => ?_⟩
  · rw [pay7_at, hm]
    have h := Sums_tile s 0 256 r (fun i => k0_pay3 q kc (ix2 i x)) fun i => by rw [hS, Nat.zero_add]
    rw [Nat.zero_add, show Sums s 0 r = 0 from rfl, EReal.coe_zero, zero_add] at h
    exact h
  · rw [pay8_at, hm]
    have h := Values_tile s (v e) 0 256 r (fun i => k0_pay3 q kc (ix2 i x)) (fun i => vc (ix3 0 e i)) (fun i => by rw [hS, Nat.zero_add])
      fun i => by rw [hV, Nat.zero_add]
    rw [Nat.zero_add, show Values s (v e) 0 r = 0 from rfl, zero_add] at h
    exact h

/-- A tile of 2048 keys more, with or without a new maximum. -/
theorem holds_step (s : ℕ → ℝ) (v : Fin 128 → ℕ → EReal) (n : ℕ) (x : Fin 1024) (q : Vec Ideal S1x1024x256 .bf16) (k : Vec Ideal S1x1x2048x256 .bf16)
    (vt : Vec Ideal S1x128x2048 .bf16) (mx l : Vec Ideal S1x1x1024 .f32) (a : Vec Ideal S1x128x1024 .f32) (h : Holds s v n x mx l a)
    (hS : ∀ i : Fin 2048, k0_pay17 q k (ix2 i x) = (s (n + i.val) : EReal)) (hV : ∀ e (i : Fin 2048), vt (ix3 0 e i) = v e (n + i.val)) :
    Holds s v (n + 2048) x (stepM q k mx) (stepL q k mx l) (stepA q k vt mx a) := by
  obtain ⟨r, hm, hl, ha⟩ := h
  unfold stepM stepL stepA
  by_cases hq : Moderate q k mx
  · rw [if_pos hq, if_pos hq, if_pos hq]
    refine ⟨r, hm, ?_, fun e => ?_⟩
    · rw [pay15_at, hl, hm]
      exact Sums_tile s n 2048 r _ hS
    · rw [pay16_at, ha, hm]
      exact Values_tile s (v e) n 2048 r _ _ hS (hV e)
  · rw [if_neg hq, if_neg hq, if_neg hq]
    obtain ⟨r', hr'⟩ := fold_real (fun i : Fin 2048 => k0_pay17 q k (ix2 i x)) (fun i => ⟨_, hS i⟩) r
    have hm' : k0_pay23 q k mx (ix3 0 0 x) = (r' : EReal) := by rw [pay23_at, hm]; exact hr'
    refine ⟨r', hm', ?_, fun e => ?_⟩
    · rw [pay21_at, hl, hm, hm', exp2_sub, ← EReal.coe_mul, Sums_shift]
      exact Sums_tile s n 2048 r' _ hS
    · rw [pay22_at, ha, hm, hm', exp2_sub, Values_shift]
      exact Values_tile s (v e) n 2048 r' _ _ hS (hV e)

end Cert.MlaIdeal.Hand

end
-- ==== Proof.Attention.lean ====
/- Attention over context keys and latent keys, as plain sums over the extended reals. -/
module

public import proofs.«01_k».proof.Proof.Softmax

@[expose] public section

noncomputable section

namespace Cert.Attention

open Idealize.ShloMosaic

/-- Entry `d` of key `n` of head `h`: the 256 context keys first, the 8192 latent keys after them. -/
def key {D : ℕ} (kc : Fin 4 → Fin 4 → Fin 256 → Fin D → EReal) (kl : Fin 4 → Fin 4 → Fin 8192 → Fin D → EReal) (b h : Fin 4) (n : Fin 8448) (d : Fin D) : EReal :=
  if hn : n.val < 256 then kc b h ⟨n.val, hn⟩ d else kl b h ⟨n.val - 256, by omega⟩ d

/-- Channel `x` of value `n`: the context values first, the latent values after them. -/
def value (vc : Fin 4 → Fin 512 → Fin 256 → EReal) (vl : Fin 4 → Fin 512 → Fin 8192 → EReal) (b : Fin 4) (x : Fin 512) (n : Fin 8448) : EReal :=
  if hn : n.val < 256 then vc b x ⟨n.val, hn⟩ else vl b x ⟨n.val - 256, by omega⟩

/-- Finite entries give a real score, and the kernel's score, its query scaled first, is that score over log 2. -/
theorem score_real_of {K : ℕ} (W : ℝ) (hW : 0 < W) (q k : Fin K → EReal) (hq : ∀ d, ∃ r : ℝ, q d = r) (hk : ∀ d, ∃ r : ℝ, k d = r) :
    ∃ t : ℝ, Ideal.div (∑ d, q d * k d) (Ideal.sqrt (W : EReal)) = (t : EReal)
      ∧ ∑ d, k d * (q d * Ideal.div 1 (Ideal.sqrt (W : EReal) * Ideal.log ((2 : ℝ) : EReal))) = ((t / Real.log 2 : ℝ) : EReal) := by
  choose qr hqr using hq
  choose kr hkr using hk
  have hR : Ideal.sqrt (W : EReal) = (Real.sqrt W : EReal) := by
    rw [Ideal.sqrt_coe, if_neg (not_lt.mpr hW.le)]
  have h2 : Ideal.log ((2 : ℝ) : EReal) = (Real.log 2 : EReal) := by
    rw [Ideal.log_coe, if_neg (by norm_num)]
  have hs : Real.sqrt W ≠ 0 := (Real.sqrt_pos.mpr hW).ne'
  have hl : Real.log 2 ≠ 0 := (Real.log_pos (by norm_num)).ne'
  refine ⟨(∑ d, qr d * kr d) * (1 / Real.sqrt W), ?_, ?_⟩
  · rw [hR, Ideal.div_coe hs, EReal.coe_mul, Softmax.coe_sum]
    congr 1
    exact Finset.sum_congr rfl fun d _ => by rw [hqr, hkr, EReal.coe_mul]
  · rw [hR, h2, ← EReal.coe_mul, Ideal.div_coe (mul_ne_zero hs hl), one_mul, Finset.sum_mul, Finset.sum_div, Softmax.coe_sum]
    refine Finset.sum_congr rfl fun d _ => ?_
    rw [hqr, hkr, ← EReal.coe_mul, ← EReal.coe_mul]
    congr 1
    field_simp

/-- The same at a width of 192. -/
theorem score_real {K : ℕ} (q k : Fin K → EReal) (hq : ∀ d, ∃ r : ℝ, q d = r) (hk : ∀ d, ∃ r : ℝ, k d = r) :
    ∃ t : ℝ, Ideal.div (∑ d, q d * k d) (Ideal.sqrt ((192 : ℝ) : EReal)) = (t : EReal)
      ∧ ∑ d, k d * (q d * Ideal.div 1 (Ideal.sqrt ((192 : ℝ) : EReal) * Ideal.log ((2 : ℝ) : EReal))) = ((t / Real.log 2 : ℝ) : EReal) :=
  score_real_of 192 (by norm_num) q k hq hk

end Cert.Attention

end
-- ==== Proof.MlaRefIdealValue.lean ====
/- The reference's result read at an index: attention as plain sums. -/
module

public import proofs.«01_k».proof.Proof.Gen.MlaRefIdeal.Run
public import proofs.«01_k».proof.Proof.Attention
public import Idealize.ShloMosaic.Lib.Pointwise
public import Idealize.ShloMosaic.Lib.Pipeline.ValueKit

@[expose] public section

set_option maxRecDepth 16384

noncomputable section

namespace Cert.MlaRefIdeal.Value

open Cert.MlaRefIdeal Cert.MlaRefIdeal.Gen Cert.Attention
open Idealize.ShloMosaic

def keys (kc : FVec Ideal S4x4x256x256 .bf16) (kl : FVec Ideal S4x4x8192x256 .bf16) : FVec Ideal S4x4x8448x256 .f32 :=
  extf .f32 (concatenate S4x4x8448x256 2 [⟨S4x4x256x256, kc⟩, ⟨S4x4x8192x256, kl⟩] concatenates_S4x4x256x256_S4x4x8192x256_S4x4x8448x256_d2) bitsLt_bf16_f32

def values (vc : FVec Ideal S4x512x256 .bf16) (vl : FVec Ideal S4x512x8192 .bf16) : FVec Ideal S4x512x8448 .f32 :=
  extf .f32 (concatenate S4x512x8448 2 [⟨S4x512x256, vc⟩, ⟨S4x512x8192, vl⟩] concatenates_S4x512x256_S4x512x8192_S4x512x8448_d2) bitsLt_bf16_f32

def scores (q : FVec Ideal S4x8192x1024 .f32) (k : FVec Ideal S4x4x8448x256 .f32) : FVec Ideal S4x4x8192x8448 .f32 :=
  Host.divf (Host.dotGeneral dot_S4x8192x4x256_S4x4x8448x256_S4x4x8192x8448_3_3_1_2_02_01 none (shapeCast _ q shapeCasts_S4x8192x1024_S4x8192x4x256) k)
    (broadcastInDim S4x4x8192x8448 ![] bcast_S_S4x4x8192x8448 (Host.sqrt (constant S_ .f32 0x43400000#32)))

def tops (s : FVec Ideal S4x4x8192x8448 .f32) : FVec Ideal S4x4x8192 .f32 :=
  maximumf (broadcastInDim S4x4x8192 ![] bcast_S_S4x4x8192 (constant S_ .f32 0xFF800000#32))
    (Host.reduce FloatOps.maximumf s (constant S_ .f32 0xFF800000#32) reducesTo_S4x4x8192x8448_S4x4x8192_d3 h_S_)

def weights (s : FVec Ideal S4x4x8192x8448 .f32) (t : FVec Ideal S4x4x8192 .f32) : FVec Ideal S4x4x8192x8448 .f32 :=
  Host.exp (subf s (broadcastInDim S4x4x8192x8448 ![0, 1, 2, 3] bcast_S4x4x8192x1_S4x4x8192x8448_0_1_2_3
    (broadcastInDim S4x4x8192x1 ![0, 1, 2] bcast_S4x4x8192_S4x4x8192x1_0_1_2 t)))

def shares (w : FVec Ideal S4x4x8192x8448 .f32) : FVec Ideal S4x4x8192x8448 .f32 :=
  Host.divf w (broadcastInDim S4x4x8192x8448 ![0, 1, 2, 3] bcast_S4x4x8192x1_S4x4x8192x8448_0_1_2_3
    (broadcastInDim S4x4x8192x1 ![0, 1, 2] bcast_S4x4x8192_S4x4x8192x1_0_1_2
      (Host.reduceAdd w (constant S_ .f32 0x00000000#32) reducesTo_S4x4x8192x8448_S4x4x8192_d3 h_S_)))

def mixed (v : FVec Ideal S4x512x8448 .f32) (p : FVec Ideal S4x4x8192x8448 .f32) : FVec Ideal S4x8192x512 .bf16 :=
  truncf .bf16 (shapeCast _ (transpose S4x8192x4x128 [0, 3, 1, 2]
    (Host.dotGeneral dot_S4x4x128x8448_S4x4x8192x8448_S4x4x128x8192_3_3_2_2_01_01 none (shapeCast _ v shapeCasts_S4x512x8448_S4x4x128x8448) p)
    transposes_S4x4x128x8192_S4x8192x4x128_0_3_1_2) shapeCasts_S4x8192x4x128_S4x8192x512) bitsLt_bf16_f32

/-- The start of a running maximum: the least extended real. -/
theorem least : Ideal.ofBits .f32 4286578688#32 = (⊥ : EReal) := by
  simp [Ideal.ofBits, Ideal.ieee]

theorem width : Ideal.ofBits .f32 1128267776#32 = ((192 : ℝ) : EReal) := by
  simp [Ideal.ofBits, Ideal.ieee]; rw [← EReal.coe_mul]; norm_num

theorem keys_at (kc : FVec Ideal S4x4x256x256 .bf16) (kl : FVec Ideal S4x4x8192x256 .bf16) (b h : Fin 4) (n : Fin 8448) (d : Fin 256) :
    keys kc kl (ix4 b h n d) = key (fun b h n d => kc (ix4 b h n d)) (fun b h n d => kl (ix4 b h n d)) b h n d := by
  pointwise [keys, key]

theorem values_at (vc : FVec Ideal S4x512x256 .bf16) (vl : FVec Ideal S4x512x8192 .bf16) (b : Fin 4) (x : Fin 512) (n : Fin 8448) :
    values vc vl (ix3 b x n) = value (fun b x n => vc (ix3 b x n)) (fun b x n => vl (ix3 b x n)) b x n := by
  pointwise [values, value]

theorem scores_at (q : FVec Ideal S4x8192x1024 .f32) (k : FVec Ideal S4x4x8448x256 .f32) (b h : Fin 4) (r : Fin 8192) (n : Fin 8448) :
    scores q k (ix4 b h r n) = Ideal.div (∑ d : Fin 256, q (ix3 b r ⟨h.val * 256 + d.val, by omega⟩) * k (ix4 b h n d)) (Ideal.sqrt ((192 : ℝ) : EReal)) := by
  pointwise [scores]
  rw [width]

/-- The greatest of finitely many reals, at least one of them there, is real. -/
theorem fold_real {ι : Type} (u : Finset ι) (x : ι → EReal) (hx : ∀ i, ∃ r : ℝ, x i = r) (hu : u.Nonempty) :
    ∃ r : ℝ, u.fold max ⊥ x = r := by
  classical
  induction hu using Finset.Nonempty.cons_induction with
  | singleton a => obtain ⟨r, hr⟩ := hx a; exact ⟨r, by rw [Finset.fold_singleton, hr]; simp⟩
  | cons a u ha hu ih =>
    obtain ⟨r, hr⟩ := hx a
    obtain ⟨r', hr'⟩ := ih
    exact ⟨max r r', by rw [Finset.fold_cons, hr, hr']; exact (EReal.coe_strictMono.monotone.map_max).symm⟩

/-- A maximum over an axis of reals is real. -/
theorem reduce_real {s t u : Shape} {axes : List (Fin s.rank)} (x : FVec Ideal s .f32) (init : FVec Ideal u .f32) (h : s.ReducesTo axes t)
    (hu : 0 < u.numel) (j : t.Idx) (hi : init (Shape.Idx.first hu) = (⊥ : EReal)) (hx : ∀ i, ∃ r : ℝ, x i = (r : EReal))
    (hj : ∃ i, h.drop i = j) : ∃ r : ℝ, Host.reduce FloatOps.maximumf x init h hu j = (r : EReal) := by
  rw [Host.reduce_eq_fold, hi]
  obtain ⟨i, hij⟩ := hj
  exact fold_real _ x hx ⟨i, Finset.mem_filter.mpr ⟨Finset.mem_univ i, hij⟩⟩

theorem drop_at (b h : Fin 4) (r : Fin 8192) (n : Fin 8448) :
    (reducesTo_S4x4x8192x8448_S4x4x8192_d3).drop (ix4 b h r n) = ix3 b h r := by
  funext a
  apply Fin.ext
  fin_cases a
  · exact Shape.ReducesTo.drop_apply_val_of_eq reducesTo_S4x4x8192x8448_S4x4x8192_d3 (ix4 b h r n) (0 : Fin 3) 0
  · exact Shape.ReducesTo.drop_apply_val_of_eq reducesTo_S4x4x8192x8448_S4x4x8192_d3 (ix4 b h r n) (1 : Fin 3) 1
  · exact Shape.ReducesTo.drop_apply_val_of_eq reducesTo_S4x4x8192x8448_S4x4x8192_d3 (ix4 b h r n) (2 : Fin 3) 2

theorem top_at (y : FVec Ideal S4x4x8192 .f32) (j : S4x4x8192.Idx) :
    maximumf (broadcastInDim S4x4x8192 ![] bcast_S_S4x4x8192 (constant S_ .f32 0xFF800000#32)) y j = max (⊥ : EReal) (y j) := by
  pointwise
  rw [least]

theorem tops_real (s : FVec Ideal S4x4x8192x8448 .f32) (hs : ∀ i, ∃ r : ℝ, s i = (r : EReal)) (b h : Fin 4) (r : Fin 8192) :
    ∃ r' : ℝ, tops s (ix3 b h r) = (r' : EReal) := by
  obtain ⟨r', hr'⟩ := reduce_real s (constant S_ .f32 0xFF800000#32) reducesTo_S4x4x8192x8448_S4x4x8192_d3 h_S_ (ix3 b h r) least hs ⟨_, drop_at b h r 0⟩
  refine ⟨r', ?_⟩
  unfold tops
  rw [top_at, hr']
  simp

theorem weights_at (s : FVec Ideal S4x4x8192x8448 .f32) (t : FVec Ideal S4x4x8192 .f32) (b h : Fin 4) (r : Fin 8192) (n : Fin 8448) :
    weights s t (ix4 b h r n) = Ideal.exp (s (ix4 b h r n) - t (ix3 b h r)) := by
  pointwise [weights]

theorem shares_at (w : FVec Ideal S4x4x8192x8448 .f32) (b h : Fin 4) (r : Fin 8192) (n : Fin 8448) :
    shares w (ix4 b h r n) = Ideal.div (w (ix4 b h r n)) (∑ n : Fin 8448, w (ix4 b h r n)) := by
  pointwise [shares]

theorem mixed_at (v : FVec Ideal S4x512x8448 .f32) (p : FVec Ideal S4x4x8192x8448 .f32) (b : Fin 4) (r : Fin 8192) (x : Fin 512) :
    mixed v p (ix3 b r x) = ∑ n : Fin 8448, v (ix3 b x n) * p (ix4 b ⟨x.val / 128, by omega⟩ r n) := by
  pointwise [mixed]

/-- The reference's result: attention over context and latent keys. -/
def attended (q : FVec Ideal S4x8192x1024 .f32) (kc : FVec Ideal S4x4x256x256 .bf16) (vc : FVec Ideal S4x512x256 .bf16)
    (kl : FVec Ideal S4x4x8192x256 .bf16) (vl : FVec Ideal S4x512x8192 .bf16) : FVec Ideal S4x8192x512 .bf16 :=
  mixed (values vc vl) (shares (weights (scores q (keys kc kl)) (tops (scores q (keys kc kl)))))

theorem attended_at (q : FVec Ideal S4x8192x1024 .f32) (kc : FVec Ideal S4x4x256x256 .bf16) (vc : FVec Ideal S4x512x256 .bf16)
    (kl : FVec Ideal S4x4x8192x256 .bf16) (vl : FVec Ideal S4x512x8192 .bf16) (b : Fin 4) (r : Fin 8192) (x : Fin 512) (M : EReal)
    (hM : tops (scores q (keys kc kl)) (ix3 b ⟨x.val / 128, by omega⟩ r) = M) :
    attended q kc vc kl vl (ix3 b r x) = ∑ n : Fin 8448, values vc vl (ix3 b x n)
      * Ideal.div (Ideal.exp (scores q (keys kc kl) (ix4 b ⟨x.val / 128, by omega⟩ r n) - M))
          (∑ n : Fin 8448, Ideal.exp (scores q (keys kc kl) (ix4 b ⟨x.val / 128, by omega⟩ r n) - M)) := by
  unfold attended
  simp only [mixed_at, shares_at, weights_at, hM]

/-- Every key entry is real when the two arrays' are. -/
theorem keys_real (kc : FVec Ideal S4x4x256x256 .bf16) (kl : FVec Ideal S4x4x8192x256 .bf16) (hkc : ∀ i, ∃ r : ℝ, kc i = (r : EReal))
    (hkl : ∀ i, ∃ r : ℝ, kl i = (r : EReal)) (b h : Fin 4) (n : Fin 8448) (d : Fin 256) : ∃ r : ℝ, keys kc kl (ix4 b h n d) = (r : EReal) := by
  rw [keys_at]; unfold key
  split_ifs
  · exact hkc _
  · exact hkl _

/-- Every score is real when the queries and the keys are. -/
theorem scores_real (q : FVec Ideal S4x8192x1024 .f32) (k : FVec Ideal S4x4x8448x256 .f32) (hq : ∀ i, ∃ r : ℝ, q i = (r : EReal))
    (hk : ∀ b h n d, ∃ r : ℝ, k (ix4 b h n d) = (r : EReal)) (i : S4x4x8192x8448.Idx) : ∃ r : ℝ, scores q k i = (r : EReal) := by
  idx_vars i
  rw [scores_at]
  obtain ⟨t, ht, -⟩ := score_real _ _ (fun d => hq _) (fun d => hk _ _ _ d)
  exact ⟨t, ht⟩

end Cert.MlaRefIdeal.Value

end
-- ==== Proof.MlaIdealValue.lean ====
/- The attention kernel's result array: at every index the quotient of the running sums over all keys, which is the
   reference's attention. -/
module

public import proofs.«01_k».proof.Proof.MlaIdealBlocks
public import proofs.«01_k».proof.Proof.MlaIdealSteps
public import proofs.«01_k».proof.Proof.MlaRefIdealValue

@[expose] public section

set_option maxRecDepth 16384

noncomputable section

namespace Cert.MlaIdeal.Hand

open Cert.MlaIdeal Cert.MlaIdeal.Gen Cert.Softmax Cert.Attention
open Idealize.ShloMosaic Idealize.ShloMosaic.TcCoe

variable (m : (ℓ : Loc nD τ sig) → Buf (Elt Ideal) ℓ)

abbrev ctxKeys (c : Dev nD) : FVec Ideal S4x4x256x256 .bf16 := m ((c : Thread nD τ).loc main_arg1)
abbrev ctxValues (c : Dev nD) : FVec Ideal S4x512x256 .bf16 := m ((c : Thread nD τ).loc main_arg2)
abbrev latKeys (c : Dev nD) : FVec Ideal S4x4x8192x256 .bf16 := m ((c : Thread nD τ).loc main_arg3)
abbrev latValues (c : Dev nD) : FVec Ideal S4x512x8192 .bf16 := m ((c : Thread nD τ).loc main_arg4)

/-- Key `n` of head `h`, context first. -/
abbrev keyAt (c : Dev nD) (b h : Fin 4) (n : Fin 8448) (d : Fin 256) : EReal :=
  key (fun b h n d => ctxKeys m c (ix4 b h n d)) (fun b h n d => latKeys m c (ix4 b h n d)) b h n d

/-- Value `n` of channel `x`, context first. -/
abbrev valueAt (c : Dev nD) (b : Fin 4) (x : Fin 512) (n : Fin 8448) : EReal :=
  value (fun b x n => ctxValues m c (ix3 b x n)) (fun b x n => latValues m c (ix3 b x n)) b x n

/-- The kernel's score: the query scaled first. -/
abbrev scoreAt (c : Dev nD) (b h : Fin 4) (r : Fin 8192) (n : Fin 8448) : EReal :=
  ∑ d : Fin 256, keyAt m c b h n d * (queries m c (ix3 b r ⟨h.val * 256 + d.val, by omega⟩)
    * Ideal.div 1 (Ideal.sqrt ((192 : ℝ) : EReal) * Ideal.log ((2 : ℝ) : EReal)))

/-- A grid point `t` works on batch `b`, head `h` and, in its column `x`, query row `r`. -/
structure At (t : Fin cfg0.N) (b h : Fin 4) (r : Fin 8192) (x : Fin 1024) : Prop where
  batch : t.val / 128 % 4 = b.val
  head : t.val / 32 % 4 = h.val
  row : t.val / 4 % 8 * 1024 + x.val = r.val

theorem score_ctx_at (c : Dev nD) (t : Fin cfg0.N) (b h : Fin 4) (r : Fin 8192) (x : Fin 1024) (p : At t b h r x) (i : Fin 256) :
    k0_pay3 (iblk m c 0 t) (iblk m c 1 t) (ix2 i x) = scoreAt m c b h r ⟨i.val, by omega⟩ := by
  obtain ⟨hb, hh, hr⟩ := p
  rw [score_ctx]
  refine Finset.sum_congr rfl fun d _ => ?_
  rw [iblk0_at, iblk1_at, query_at]
  unfold keyAt key
  rw [dif_pos i.isLt]
  simp only [hb, hh, hr, Fin.eta]

theorem score_lat_at (c : Dev nD) (t : Fin cfg0.N) (b h : Fin 4) (r : Fin 8192) (x : Fin 1024) (p : At t b h r x) (i : Fin 2048) :
    k0_pay17 (iblk m c 0 t) (iblk m c 3 t) (ix2 i x) = scoreAt m c b h r ⟨256 + 2048 * (t.val % 4) + i.val, by omega⟩ := by
  obtain ⟨hb, hh, hr⟩ := p
  rw [score_lat]
  refine Finset.sum_congr rfl fun d _ => ?_
  rw [iblk0_at, iblk3_at, query_at]
  unfold keyAt key
  rw [dif_neg (by show ¬(256 + 2048 * (t.val % 4) + i.val < 256); omega)]
  have hn : 256 + 2048 * (t.val % 4) + i.val - 256 = t.val % 4 * 2048 + i.val := by omega
  simp only [hb, hh, hr, hn, Fin.eta]

theorem value_ctx_at (c : Dev nD) (t : Fin cfg0.N) (b h : Fin 4) (r : Fin 8192) (x : Fin 1024) (p : At t b h r x) (e : Fin 128) (i : Fin 256) :
    (iblk m c 2 t : Vec Ideal S1x128x256 .bf16) (ix3 0 e i) = valueAt m c b ⟨h.val * 128 + e.val, by omega⟩ ⟨i.val, by omega⟩ := by
  obtain ⟨hb, hh, hr⟩ := p
  rw [iblk2_at]
  unfold valueAt value
  rw [dif_pos i.isLt]
  simp only [hb, hh, Fin.eta]

theorem value_lat_at (c : Dev nD) (t : Fin cfg0.N) (b h : Fin 4) (r : Fin 8192) (x : Fin 1024) (p : At t b h r x) (e : Fin 128) (i : Fin 2048) :
    (iblk m c 4 t : Vec Ideal S1x128x2048 .bf16) (ix3 0 e i)
      = valueAt m c b ⟨h.val * 128 + e.val, by omega⟩ ⟨256 + 2048 * (t.val % 4) + i.val, by omega⟩ := by
  obtain ⟨hb, hh, hr⟩ := p
  rw [iblk4_at]
  unfold valueAt value
  rw [dif_neg (by show ¬(256 + 2048 * (t.val % 4) + i.val < 256); omega)]
  have hn : 256 + 2048 * (t.val % 4) + i.val - 256 = t.val % 4 * 2048 + i.val := by omega
  simp only [hb, hh, hn, Fin.eta]

/-- After the point of key tile `j` the running buffers describe the context keys and the first `j + 1` tiles. -/
theorem running_holds (c : Dev nD) (b h : Fin 4) (r : Fin 8192) (x : Fin 1024) (s : ℕ → ℝ) (v : Fin 128 → ℕ → EReal)
    (hs : ∀ n : Fin 8448, scoreAt m c b h r n = (s n.val : EReal))
    (hv : ∀ e (n : Fin 8448), valueAt m c b ⟨h.val * 128 + e.val, by omega⟩ n = v e n.val) :
    ∀ (j : ℕ) (t : Fin cfg0.N), t.val % 4 = j → At t b h r x →
      Holds s v (256 + 2048 * j + 2048) x (running m c t.val t.isLt).1 (running m c t.val t.isLt).2.1 (running m c t.val t.isLt).2.2 := by
  have step : ∀ (j : ℕ) (t : Fin cfg0.N) (ht : t.val % 4 = j) (p : At t b h r x) (mx l a),
      Holds s v (256 + 2048 * j) x mx l a →
      Holds s v (256 + 2048 * j + 2048) x (stepM (iblk m c 0 t) (iblk m c 3 t) mx) (stepL (iblk m c 0 t) (iblk m c 3 t) mx l)
        (stepA (iblk m c 0 t) (iblk m c 3 t) (iblk m c 4 t) mx a) := by
    intro j t ht p mx l a hh
    refine holds_step s v _ x _ _ _ mx l a hh (fun i => ?_) fun e i => ?_
    · rw [score_lat_at m c t b h r x p i, hs]; simp only [ht]
    · rw [value_lat_at m c t b h r x p e i, hv]; simp only [ht]
  intro j
  induction j with
  | zero =>
    intro t ht p
    have hc := (hcond0_0 t).mpr ht
    rw [running_first m c t ht (k0_pay6 (iblk m c 0 t) (iblk m c 1 t), k0_pay7 (iblk m c 0 t) (iblk m c 1 t),
      k0_pay8 (iblk m c 0 t) (iblk m c 1 t) (iblk m c 2 t))]
    unfold advance startM startL startA
    simp only [if_pos hc]
    refine step 0 t ht p _ _ _ (holds_start s v x _ _ _ (fun i => ?_) fun e i => ?_)
    · rw [score_ctx_at m c t b h r x p i, hs]
    · rw [value_ctx_at m c t b h r x p e i, hv]
  | succ j ih =>
    intro t ht p
    have hc : ¬cond0_0 (grid0.coords t) := fun hc => by have := (hcond0_0 t).mp hc; omega
    have hN : t.val < 512 := Nat.lt_of_lt_of_eq t.isLt N_0
    rw [running_pos m c t (by omega)]
    unfold advance startM startL startA
    simp only [if_neg hc]
    obtain ⟨hb, hh, hr⟩ := p
    exact step (j + 1) t ht ⟨hb, hh, hr⟩ _ _ _ (ih ⟨t.val - 1, Nat.lt_of_le_of_lt (Nat.sub_le _ _) t.isLt⟩ (by show (t.val - 1) % 4 = j; omega)
      ⟨by show (t.val - 1) / 128 % 4 = _; omega, by show (t.val - 1) / 32 % 4 = _; omega, by show (t.val - 1) / 4 % 8 * 1024 + _ = _; omega⟩)

/-- The reference's attention of the kernel's arrays. -/
abbrev target (c : Dev nD) : FVec Ideal S4x8192x512 .bf16 :=
  MlaRefIdeal.Value.attended (queries m c) (ctxKeys m c) (ctxValues m c) (latKeys m c) (latValues m c)

/-- What the last key tile's point leaves in the output block is the reference's attention there. -/
theorem quotient_at (c : Dev nD) (hq : ∀ i, ∃ r : ℝ, queries m c i = (r : EReal)) (hkc : ∀ i, ∃ r : ℝ, ctxKeys m c i = (r : EReal))
    (hkl : ∀ i, ∃ r : ℝ, latKeys m c i = (r : EReal)) (t : Fin cfg0.N) (ht : t.val % 4 = 3) (x : Fin 1024) (e : Fin 128) (b h : Fin 4) (r : Fin 8192)
    (p : At t b h r x) :
    quotient m c t (ix3 0 x e) = target m c (ix3 b r ⟨h.val * 128 + e.val, by omega⟩) := by
  have hkey : ∀ b h n d, ∃ r : ℝ, MlaRefIdeal.Value.keys (ctxKeys m c) (latKeys m c) (ix4 b h n d) = (r : EReal) :=
    MlaRefIdeal.Value.keys_real _ _ hkc hkl
  choose T hT hT' using fun n : Fin 8448 => score_real (fun d : Fin 256 => queries m c (ix3 b r ⟨h.val * 256 + d.val, by omega⟩))
    (fun d => MlaRefIdeal.Value.keys (ctxKeys m c) (latKeys m c) (ix4 b h n d)) (fun d => hq _) (fun d => hkey b h n d)
  obtain ⟨M, hM⟩ := MlaRefIdeal.Value.tops_real _ (MlaRefIdeal.Value.scores_real _ _ hq hkey) b h r
  have hh : (⟨(h.val * 128 + e.val) / 128, by omega⟩ : Fin 4) = h := Fin.ext (by show (h.val * 128 + e.val) / 128 = h.val; omega)
  have hold := running_holds m c b h r x (fun n => (if hn : n < 8448 then T ⟨n, hn⟩ else 0) / Real.log 2)
    (fun e n => if hn : n < 8448 then valueAt m c b ⟨h.val * 128 + e.val, by omega⟩ ⟨n, hn⟩ else 0)
    (fun n => by
      rw [dif_pos n.isLt, ← hT' n]
      refine Finset.sum_congr rfl fun d _ => ?_
      rw [MlaRefIdeal.Value.keys_at])
    (fun e n => by rw [dif_pos n.isLt]) 3 t ht p
  obtain ⟨ρ, -, hl, ha⟩ := hold
  unfold quotient target
  rw [pay1_at, hl, ha, MlaRefIdeal.Value.attended_at _ _ _ _ _ _ _ _ (M : EReal) (by rw [hh]; exact hM)]
  refine (Softmax.quotient _ (fun n => if hn : n < 8448 then T ⟨n, hn⟩ else 0) _ 8448 (by decide) (fun k => rfl) ρ M
    (fun n => (T n : EReal)) (fun n => valueAt m c b ⟨h.val * 128 + e.val, by omega⟩ n) (fun n => by rw [dif_pos n.isLt]) (fun n => by dsimp only; rw [dif_pos n.isLt])).trans ?_
  have hs : ∀ n, MlaRefIdeal.Value.scores (queries m c) (MlaRefIdeal.Value.keys (ctxKeys m c) (latKeys m c)) (ix4 b ⟨(h.val * 128 + e.val) / 128, by omega⟩ r n) = (T n : EReal) := by
    intro n; rw [hh, MlaRefIdeal.Value.scores_at]; exact hT n
  simp only [hs, MlaRefIdeal.Value.values_at]

/-- The block of the output that a point writes holds the reference's attention at its place in the array. -/
theorem block_at (c : Dev nD) (hq : ∀ i, ∃ r : ℝ, queries m c i = (r : EReal)) (hkc : ∀ i, ∃ r : ℝ, ctxKeys m c i = (r : EReal))
    (hkl : ∀ i, ∃ r : ℝ, latKeys m c i = (r : EReal)) (t : Fin cfg0.N) (ht : t.val % 4 = 3) (y : S1x1024x128.Idx) :
    quotient m c t y = target m c ((win0_5.blk t).view.emb y) := by
  idx_vars y
  obtain rfl : y0 = 0 := Subsingleton.elim _ _
  rw [quotient_at m c hq hkc hkl t ht y1 y2 ⟨t.val / 128 % 4, by omega⟩ ⟨t.val / 32 % 4, by omega⟩ ⟨t.val / 4 % 8 * 1024 + y1.val, by omega⟩ ⟨rfl, rfl, rfl⟩]
  blk_ext [index5 t]

/-- The result array after the run is the reference's attention. -/
theorem out_eq (c : Dev nD) (hq : ∀ i, ∃ r : ℝ, queries m c i = (r : EReal)) (hkc : ∀ i, ∃ r : ℝ, ctxKeys m c i = (r : EReal))
    (hkl : ∀ i, ∃ r : ℝ, latKeys m c i = (r : EReal)) : (dats m 0 c).arrAt 5 (cfgs 0).N = target m c := by
  refine (dats m 0 c).arrAt_eq_of_covers 5 _ ((cfg0.win 5).covers_of_indexMap_surj rfl (by decide) fun β => ?_) fun t hf y => ?_
  · have b0 : (β (0 : Fin 3)).val < 4 := lt_of_lt_of_eq (β (0 : Fin 3)).isLt (by decide : (cfg0.win 5).nblk (0 : Fin 3) = 4)
    have b1 : (β (1 : Fin 3)).val < 8 := lt_of_lt_of_eq (β (1 : Fin 3)).isLt (by decide : (cfg0.win 5).nblk (1 : Fin 3) = 8)
    have b2 : (β (2 : Fin 3)).val < 4 := lt_of_lt_of_eq (β (2 : Fin 3)).isLt (by decide : (cfg0.win 5).nblk (2 : Fin 3) = 4)
    let i : grid0.Coords := fun | ⟨0, _⟩ => ⟨(β (0 : Fin 3)).val, b0⟩ | ⟨1, _⟩ => ⟨(β (2 : Fin 3)).val, b2⟩ | ⟨2, _⟩ => ⟨(β (1 : Fin 3)).val, b1⟩ | ⟨3, _⟩ => ⟨0, (Nat.zero_lt_succ 3 : 0 < 4)⟩
    refine ⟨i, fun a => ?_⟩
    show cc0_transform_5 i a = _
    fin_cases a
    · exact word _ 4 b0 (by omega)
    · exact word _ 8 b1 (by omega)
    · exact word _ 4 b2 (by omega)
  · blk_simp
    rw [after0_5]
    exact block_at m c hq hkc hkl t ((flush0_5 t).mp hf) y

end Cert.MlaIdeal.Hand

end
-- ==== Proof.MlaFinite.lean ====
/- What the precondition says: the queries and the keys are real numbers. -/
module

public import proofs.«01_k».proof.Pre_mla_finite
public import Idealize.ShloMosaic.Lib.Pointwise
public import Idealize.ShloMosaic.PureOps.Ideal.Laws

@[expose] public section

noncomputable section

namespace Cert.Pre_mla_finite

open Idealize.ShloMosaic

instance facts : Facts := ⟨by decide, by decide, by decide⟩

theorem inf_f32 : Ideal.ofBits .f32 2139095040#32 = (⊤ : EReal) := by
  simp [Ideal.ofBits, Ideal.ieee]

theorem inf_bf16 : Ideal.ofBits .bf16 32640#16 = (⊤ : EReal) := by
  simp [Ideal.ofBits, Ideal.ieee]

/-- An extended real whose absolute value lies below infinity is real. -/
theorem real_of_bit {x : EReal} (h : BitVec.ofBool (decide (max x (-x) < ⊤)) = 1#1) : ∃ r : ℝ, x = (r : EReal) := by
  have hx : max x (-x) < ⊤ := by
    by_contra hn
    rw [decide_eq_false hn] at h
    exact absurd h (by decide)
  obtain ⟨h1, h2⟩ := max_lt_iff.mp hx
  refine ⟨x.toReal, (EReal.coe_toReal h1.ne fun hb => ?_).symm⟩
  rw [hb] at h2
  exact absurd h2 (by simp)

theorem queries_real (q : FVec Ideal S4x8192x1024 .f32) (kc : FVec Ideal S4x4x256x256 .bf16) (vc : FVec Ideal S4x512x256 .bf16)
    (kl : FVec Ideal S4x4x8192x256 .bf16) (vl : FVec Ideal S4x512x8192 .bf16) (h : (fn q kc vc kl vl).1 = fun _ => 1#1) (i : S4x8192x1024.Idx) :
    ∃ r : ℝ, q i = (r : EReal) := by
  have h := congrFun h i
  dsimp only [fn] at h
  have e : (cmpf .olt (Host.absf q) (broadcastInDim S4x8192x1024 ![] Facts.bcast_S_S4x8192x1024 (constant S_ .f32 0x7F800000#32)) : IVec S4x8192x1024 1) i
      = BitVec.ofBool (decide (max (q i) (-q i) < (⊤ : EReal))) := by
    pointwise
    rw [inf_f32]
    rfl
  exact real_of_bit (e.symm.trans h)

theorem ctx_real (q : FVec Ideal S4x8192x1024 .f32) (kc : FVec Ideal S4x4x256x256 .bf16) (vc : FVec Ideal S4x512x256 .bf16)
    (kl : FVec Ideal S4x4x8192x256 .bf16) (vl : FVec Ideal S4x512x8192 .bf16) (h : (fn q kc vc kl vl).2.1 = fun _ => 1#1) (i : S4x4x256x256.Idx) :
    ∃ r : ℝ, kc i = (r : EReal) := by
  have h := congrFun h i
  dsimp only [fn] at h
  have e : (cmpf .olt (Host.absf kc) (broadcastInDim S4x4x256x256 ![] Facts.bcast_S_S4x4x256x256 (constant S_ .bf16 0x7F80#16)) : IVec S4x4x256x256 1) i
      = BitVec.ofBool (decide (max (kc i) (-kc i) < (⊤ : EReal))) := by
    pointwise
    rw [inf_bf16]
    rfl
  exact real_of_bit (e.symm.trans h)

theorem lat_real (q : FVec Ideal S4x8192x1024 .f32) (kc : FVec Ideal S4x4x256x256 .bf16) (vc : FVec Ideal S4x512x256 .bf16)
    (kl : FVec Ideal S4x4x8192x256 .bf16) (vl : FVec Ideal S4x512x8192 .bf16) (h : (fn q kc vc kl vl).2.2 = fun _ => 1#1) (i : S4x4x8192x256.Idx) :
    ∃ r : ℝ, kl i = (r : EReal) := by
  have h := congrFun h i
  dsimp only [fn] at h
  have e : (cmpf .olt (Host.absf kl) (broadcastInDim S4x4x8192x256 ![] Facts.bcast_S_S4x4x8192x256 (constant S_ .bf16 0x7F80#16)) : IVec S4x4x8192x256 1) i
      = BitVec.ofBool (decide (max (kl i) (-kl i) < (⊤ : EReal))) := by
    pointwise
    rw [inf_bf16]
    rfl
  exact real_of_bit (e.symm.trans h)

end Cert.Pre_mla_finite

end
-- ==== Proof.MlaClaims.lean ====
/- The claims about the attention kernel: frames, and its result against the reference's. -/
module

public import proofs.«01_k».proof.Defs
public import proofs.«01_k».proof.Proof.Gen.Mla
public import proofs.«01_k».proof.Proof.Gen.MlaRef
public import proofs.«01_k».proof.Proof.Gen.MlaRef.Run
public import proofs.«01_k».proof.Proof.MlaFrame
public import proofs.«01_k».proof.Proof.MlaIdealValue
public import proofs.«01_k».proof.Proof.MlaFinite
public import Idealize.ShloMosaic.Lib.Quiescent

@[expose] public section

set_option maxRecDepth 16384

noncomputable section

namespace Cert.MlaClaims

open Idealize.ShloMosaic Idealize.ShloMosaic.TcCoe Idealize.SL.Sem

theorem mla : Cert.quiescent_Mla (hMla := Cert.Mla.Gen.facts) := fun m g _ => Cert.Mla.Hand.frame m g

theorem mlaIdeal : Cert.quiescent_MlaIdeal (hMlaIdeal := Cert.MlaIdeal.Gen.facts) := fun m g _ => Cert.MlaIdeal.Hand.frame m g

theorem mlaIdeal_finite : Cert.quiescent_MlaIdeal_pre_mla_finite (hMlaIdeal := Cert.MlaIdeal.Gen.facts) (hPre_mla_finite := Cert.Pre_mla_finite.facts) :=
  fun m g _ => Cert.MlaIdeal.Hand.frame m g

theorem mlaRef : Cert.quiescent_MlaRef (hMlaRef := Cert.MlaRef.Gen.facts) := fun m g _ =>
  (θ_run _ _ _).mono (fun r h => ⟨fun c => (h c).2, sem_eq_zero_of_no_sems (by decide) _⟩) (Cert.MlaRef.Value.run m g)

theorem mlaRefIdeal : Cert.quiescent_MlaRefIdeal (hMlaRefIdeal := Cert.MlaRefIdeal.Gen.facts) := fun m g _ =>
  (θ_run _ _ _).mono (fun r h => ⟨fun c => (h c).2, sem_eq_zero_of_no_sems (by decide) _⟩) (Cert.MlaRefIdeal.Value.run m g)

theorem mlaRefIdeal_finite : Cert.quiescent_MlaRefIdeal_pre_mla_finite (hMlaRefIdeal := Cert.MlaRefIdeal.Gen.facts)
    (hPre_mla_finite := Cert.Pre_mla_finite.facts) := fun m g _ => mlaRefIdeal m g trivial

theorem algebraic : Cert.algebraic_MlaIdeal_MlaRefIdeal_pre_mla_finite (hMlaIdeal := Cert.MlaIdeal.Gen.facts)
    (hMlaRefIdeal := Cert.MlaRefIdeal.Gen.facts) (hPre_mla_finite := Cert.Pre_mla_finite.facts) := by
  intro m g m' g' hp hargs
  refine ⟨fun c => Cert.MlaIdeal.Hand.target m c, ?_, ?_⟩
  · refine (θ_run _ _ _).mono (fun r h c => ⟨?_, h.2.1 c⟩) (θ_run_and (Cert.MlaIdeal.Hand.run_main_quiescent m g) (Cert.MlaIdeal.Hand.frame m g))
    refine ((h.1.1 c).1 5).trans (Cert.MlaIdeal.Hand.out_eq m c ?_ ?_ ?_)
    · exact Cert.Pre_mla_finite.queries_real _ _ _ _ _ (hp c).1
    · exact Cert.Pre_mla_finite.ctx_real _ _ _ _ _ (hp c).2.1
    · exact Cert.Pre_mla_finite.lat_real _ _ _ _ _ (hp c).2.2
  · refine (θ_run _ _ _).mono (fun r h c => ⟨?_, (h c).2⟩) (Cert.MlaRefIdeal.Value.run m' g')
    rw [(h c).1]
    obtain ⟨h0, h1, h2, h3, h4⟩ := hargs c
    rw [h0, h1, h2, h3, h4]
    rfl

end Cert.MlaClaims

end
-- ==== Proof.Rows.lean ====
/- A token's row through the layer: the norm with its modulation, the gated hidden units, the gates of the branches. -/
module

public import Idealize.ShloMosaic.PureOps.Ideal

@[expose] public section

noncomputable section

namespace Cert.Rows

open Idealize.ShloMosaic

/-- A row over the root of its mean square, times a gain: 1024 entries, a small number added to the mean. -/
def normed (x g : Fin 1024 → EReal) (i : Fin 1024) : EReal :=
  x i * Ideal.rsqrt (Ideal.div (∑ j, x j * x j) (Ideal.ofBits .f32 0x44800000#32) + Ideal.ofBits .f32 0x358637BD#32) * g i

/-- The normed row, shifted and scaled. -/
def modded (x g s c : Fin 1024 → EReal) (i : Fin 1024) : EReal := normed x g i * (1 + c i) + s i

/-- A hidden unit of the feed-forward part: one product through x ↦ x / (1 + exp (-x)), times another product. -/
def unit (h u v : Fin 1024 → EReal) : EReal := (∑ d, h d * u d) * Ideal.logistic (∑ d, h d * u d) * ∑ d, h d * v d

/-- A branch's part of a mixed entry: the branch's projection behind its gate. -/
def gated (h w : Fin 1024 → EReal) (o p : Fin 512 → EReal) : EReal := Ideal.logistic (∑ d, h d * w d) * ∑ k, o k * p k

/-- A row added to the normed row of another, times a modulation. -/
def added (x y g c : Fin 1024 → EReal) (i : Fin 1024) : EReal := x i + c i * normed y g i

/-- A sum over 2816 indices, in parts of 768, 768, 768 and 512. -/
theorem sum_parts (f : Fin 2816 → EReal) :
    (∑ k : Fin 768, f ⟨k.val, by omega⟩) + (∑ k : Fin 768, f ⟨768 + k.val, by omega⟩) + (∑ k : Fin 768, f ⟨1536 + k.val, by omega⟩)
      + (∑ k : Fin 512, f ⟨2304 + k.val, by omega⟩) = ∑ k, f k := by
  have e : ∑ k, f k = ∑ k : Fin (768 + 768 + 768 + 512), f (Fin.cast rfl k) := rfl
  rw [e, Fin.sum_univ_add, Fin.sum_univ_add, Fin.sum_univ_add]
  rfl

end Cert.Rows

end
-- ==== Proof.FfnIdealPay.lean ====
/- The feed-forward kernel's vector values read at an index. -/
module

public import proofs.«01_k».proof.Proof.Gen.FfnIdeal.Value
public import proofs.«01_k».proof.Proof.Rows
public import Idealize.ShloMosaic.Lib.Pointwise
public import Idealize.ShloMosaic.Lib.Pipeline.ValueKit

@[expose] public section

set_option maxRecDepth 16384

noncomputable section

namespace Cert.FfnIdeal.Hand

open Cert.FfnIdeal Cert.FfnIdeal.Gen Cert.Rows
open Idealize.ShloMosaic

/-- The row that the kernel normalises and modulates. -/
theorem pay3_at (x : Vec Ideal S1x512x1024 .f32) (g : Vec Ideal S1x1024 .f32) (s c : Vec Ideal S1x1x1024 .f32) (r : Fin 512) (i : Fin 1024) :
    k0_pay3 x g s c (ix2 r i) = modded (fun j => x (ix3 0 r j)) (fun j => g (ix2 0 j)) (fun j => s (ix3 0 0 j)) (fun j => c (ix3 0 0 j)) i := by
  pointwise [k0_pay3, k0_pay2, modded, normed]

/-- The hidden units of the first part. -/
theorem pay4_at (x : Vec Ideal S1x512x1024 .f32) (g : Vec Ideal S1x1024 .f32) (s c : Vec Ideal S1x1x1024 .f32) (u v : Vec Ideal S1024x768 .bf16)
    (r : Fin 512) (k : Fin 768) :
    k0_pay4 x g s c u v (ix2 r k) = unit (fun d => k0_pay3 x g s c (ix2 r d)) (fun d => u (ix2 d k)) (fun d => v (ix2 d k)) := by
  pointwise [k0_pay4, unit]

/-- The hidden units of the last part. -/
theorem pay6_at (h : FVec Ideal S512x1024 .bf16) (u v : Vec Ideal S1024x512 .bf16) (r k : Fin 512) :
    k0_pay6 h u v (ix2 r k) = unit (fun d => h (ix2 r d)) (fun d => u (ix2 d k)) (fun d => v (ix2 d k)) := by
  pointwise [k0_pay6, unit]

/-- The products of the first three parts. -/
theorem pay5_at (h : FVec Ideal S512x1024 .bf16) (t : FVec Ideal S512x768 .bf16) (a b d : Vec Ideal S768x1024 .bf16) (u v u' v' : Vec Ideal S1024x768 .bf16)
    (r : Fin 512) (i : Fin 1024) :
    k0_pay5 h t a u v b u' v' d (ix2 r i) = (∑ k : Fin 768, t (ix2 r k) * a (ix2 k i))
      + (∑ k : Fin 768, unit (fun d => h (ix2 r d)) (fun d => u (ix2 d k)) (fun d => v (ix2 d k)) * b (ix2 k i))
      + (∑ k : Fin 768, unit (fun d => h (ix2 r d)) (fun d => u' (ix2 d k)) (fun d => v' (ix2 d k)) * d (ix2 k i)) := by
  pointwise [k0_pay5, unit]

/-- The row that the kernel stores. -/
theorem pay1_at (x f : FVec Ideal S512x1024 .f32) (t : FVec Ideal S512x512 .bf16) (a : Vec Ideal S512x1024 .bf16) (c : Vec Ideal S1x1x1024 .f32)
    (g : Vec Ideal S1x1024 .f32) (r : Fin 512) (i : Fin 1024) :
    k0_pay1 x f t a (constant S512x1024 .f32 0x00000000#32) c g (ix3 0 r i)
      = added (fun j => x (ix2 r j)) (fun j => f (ix2 r j) + ∑ k : Fin 512, t (ix2 r k) * a (ix2 k j)) (fun j => g (ix2 0 j)) (fun j => c (ix3 0 0 j)) i := by
  pointwise [k0_pay1, added, normed]

/-- A tile's rows, one block of the array. -/
theorem pay2_at (x : Vec Ideal S1x512x1024 .f32) (r : Fin 512) (i : Fin 1024) : k0_pay2 x (ix2 r i) = x (ix3 0 r i) := by
  pointwise [k0_pay2]

/-- The normed and modulated row once more, from the blocks as the body reads them. -/
theorem pay7_at (x : Vec Ideal S1x512x1024 .f32) (g : Vec Ideal S1x1024 .f32) (s c : Vec Ideal S1x1x1024 .f32) (u v : Vec Ideal S1024x2816 .bf16)
    (w : Vec Ideal S2816x1024 .bf16) (gp : Vec Ideal S1x1024 .f32) (mg : Vec Ideal S1x1x1024 .f32) (r : Fin 512) (i : Fin 1024) :
    k0_pay7 x g s c u v w gp mg (ix2 r i)
      = modded (fun j => x (ix3 0 r j)) (fun j => g (ix2 0 j)) (fun j => s (ix3 0 0 j)) (fun j => c (ix3 0 0 j)) i := by
  pointwise [k0_pay7, k0_pay3, k0_pay2, modded, normed]

/-- Columns 0 to 767 of a weight. -/
def cols0 (u : Vec Ideal S1024x2816 .bf16) : Vec Ideal S1024x768 .bf16 := View.ld u r0_3

/-- Rows 0 to 767 of a weight. -/
def rows0 (w : Vec Ideal S2816x1024 .bf16) : Vec Ideal S768x1024 .bf16 := View.ld w r0_4

theorem cols0_at (u : Vec Ideal S1024x2816 .bf16) (d : Fin 1024) (k : Fin 768) : cols0 u (ix2 d k) = u (ix2 d ⟨k.val, by omega⟩) := by
  pointwise [cols0]

theorem rows0_at (w : Vec Ideal S2816x1024 .bf16) (k : Fin 768) (i : Fin 1024) : rows0 w (ix2 k i) = w (ix2 ⟨k.val, by omega⟩ i) := by
  pointwise [rows0]

/-- Columns 768 to 1535 of a weight. -/
def cols1 (u : Vec Ideal S1024x2816 .bf16) : Vec Ideal S1024x768 .bf16 := View.ld u r0_5

/-- Rows 768 to 1535 of a weight. -/
def rows1 (w : Vec Ideal S2816x1024 .bf16) : Vec Ideal S768x1024 .bf16 := View.ld w r0_6

theorem cols1_at (u : Vec Ideal S1024x2816 .bf16) (d : Fin 1024) (k : Fin 768) : cols1 u (ix2 d k) = u (ix2 d ⟨768 + k.val, by omega⟩) := by
  pointwise [cols1]

theorem rows1_at (w : Vec Ideal S2816x1024 .bf16) (k : Fin 768) (i : Fin 1024) : rows1 w (ix2 k i) = w (ix2 ⟨768 + k.val, by omega⟩ i) := by
  pointwise [rows1]

/-- Columns 1536 to 2303 of a weight. -/
def cols2 (u : Vec Ideal S1024x2816 .bf16) : Vec Ideal S1024x768 .bf16 := View.ld u r0_7

/-- Rows 1536 to 2303 of a weight. -/
def rows2 (w : Vec Ideal S2816x1024 .bf16) : Vec Ideal S768x1024 .bf16 := View.ld w r0_8

theorem cols2_at (u : Vec Ideal S1024x2816 .bf16) (d : Fin 1024) (k : Fin 768) : cols2 u (ix2 d k) = u (ix2 d ⟨1536 + k.val, by omega⟩) := by
  pointwise [cols2]

theorem rows2_at (w : Vec Ideal S2816x1024 .bf16) (k : Fin 768) (i : Fin 1024) : rows2 w (ix2 k i) = w (ix2 ⟨1536 + k.val, by omega⟩ i) := by
  pointwise [rows2]

/-- Columns 2304 to 2815 of a weight. -/
def cols3 (u : Vec Ideal S1024x2816 .bf16) : Vec Ideal S1024x512 .bf16 := View.ld u r0_9

/-- Rows 2304 to 2815 of a weight. -/
def rows3 (w : Vec Ideal S2816x1024 .bf16) : Vec Ideal S512x1024 .bf16 := View.ld w r0_10

theorem cols3_at (u : Vec Ideal S1024x2816 .bf16) (d : Fin 1024) (k : Fin 512) : cols3 u (ix2 d k) = u (ix2 d ⟨2304 + k.val, by omega⟩) := by
  pointwise [cols3]

theorem rows3_at (w : Vec Ideal S2816x1024 .bf16) (k : Fin 512) (i : Fin 1024) : rows3 w (ix2 k i) = w (ix2 ⟨2304 + k.val, by omega⟩ i) := by
  pointwise [rows3]

/-- The output block, at a row. -/
theorem out_at (x : Vec Ideal S1x512x1024 .f32) (g : Vec Ideal S1x1024 .f32) (s c : Vec Ideal S1x1x1024 .f32) (u v : Vec Ideal S1024x2816 .bf16)
    (w : Vec Ideal S2816x1024 .bf16) (gp : Vec Ideal S1x1024 .f32) (mg : Vec Ideal S1x1x1024 .f32) (r : Fin 512) (i : Fin 1024) :
    out0_9 x g s c u v w gp mg (ix3 0 r i) = added (fun j => x (ix3 0 r j))
      (fun j => ∑ k : Fin 2816, unit (modded (fun j => x (ix3 0 r j)) (fun j => g (ix2 0 j)) (fun j => s (ix3 0 0 j)) (fun j => c (ix3 0 0 j)))
        (fun d => u (ix2 d k)) (fun d => v (ix2 d k)) * w (ix2 k j)) (fun j => gp (ix2 0 j)) (fun j => mg (ix3 0 0 j)) i := by
  frame_out
  rw [show View.ld u r0_3 = cols0 u from rfl,
    show View.ld v r0_3 = cols0 v from rfl,
    show View.ld w r0_4 = rows0 w from rfl,
    show View.ld u r0_5 = cols1 u from rfl,
    show View.ld v r0_5 = cols1 v from rfl,
    show View.ld w r0_6 = rows1 w from rfl,
    show View.ld u r0_7 = cols2 u from rfl,
    show View.ld v r0_7 = cols2 v from rfl,
    show View.ld w r0_8 = rows2 w from rfl,
    show View.ld u r0_9 = cols3 u from rfl,
    show View.ld v r0_9 = cols3 v from rfl,
    show View.ld w r0_10 = rows3 w from rfl]
  rw [pay1_at]
  simp only [← Rows.sum_parts]
  simp only [pay5_at, pay4_at, pay6_at, pay3_at, pay7_at, pay2_at, cols0_at, cols1_at, cols2_at, cols3_at, rows0_at, rows1_at, rows2_at, rows3_at]

end Cert.FfnIdeal.Hand

end
-- ==== Proof.FfnRefIdealValue.lean ====
/- The reference's feed-forward part read at an index. -/
module

public import proofs.«01_k».proof.Proof.Gen.FfnRefIdeal.Run
public import proofs.«01_k».proof.Proof.Rows
public import Idealize.ShloMosaic.Lib.Pointwise
public import Idealize.ShloMosaic.Lib.Pipeline.ValueKit

@[expose] public section

set_option maxRecDepth 16384

noncomputable section

namespace Cert.FfnRefIdeal.Value

open Cert.FfnRefIdeal Cert.FfnRefIdeal.Gen
open Idealize.ShloMosaic

/-- Every row over the root of its mean square, times a gain. -/
def normed (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf
      (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The normed rows of a batch, shifted and scaled. -/
def modulated (x : FVec Ideal S4x8192x1024 .f32) (g : FVec Ideal S1x1024 .f32) (s c : FVec Ideal S4x1x1024 .f32) : FVec Ideal S4x8192x1024 .f32 :=
  addf (mulf (normed x g) (broadcastInDim S4x8192x1024 ![0, 1, 2] bcast_S4x1x1024_S4x8192x1024_0_1_2
      (addf (broadcastInDim S4x1x1024 ![] bcast_S_S4x1x1024 (constant S_ .f32 0x3F800000#32)) c)))
    (broadcastInDim S4x8192x1024 ![0, 1, 2] bcast_S4x1x1024_S4x8192x1024_0_1_2 s)

/-- The given rows, with the modulated norm of others added. -/
def summed (x y : FVec Ideal S4x8192x1024 .f32) (g : FVec Ideal S1x1024 .f32) (c : FVec Ideal S4x1x1024 .f32) : FVec Ideal S4x8192x1024 .f32 :=
  addf x (mulf (broadcastInDim S4x8192x1024 ![0, 1, 2] bcast_S4x1x1024_S4x8192x1024_0_1_2 c) (normed y g))

theorem normed_at (x : FVec Ideal S4x8192x1024 .f32) (g : FVec Ideal S1x1024 .f32) (b : Fin 4) (r : Fin 8192) (i : Fin 1024) :
    normed x g (ix3 b r i) = Rows.normed (fun j => x (ix3 b r j)) (fun j => g (ix2 0 j)) i := by
  pointwise [normed, Rows.normed]

theorem modulated_at (x : FVec Ideal S4x8192x1024 .f32) (g : FVec Ideal S1x1024 .f32) (s c : FVec Ideal S4x1x1024 .f32) (b : Fin 4) (r : Fin 8192) (i : Fin 1024) :
    modulated x g s c (ix3 b r i) = Rows.modded (fun j => x (ix3 b r j)) (fun j => g (ix2 0 j)) (fun j => s (ix3 b 0 j)) (fun j => c (ix3 b 0 j)) i := by
  rw [Rows.modded, ← normed_at]
  pointwise [modulated]

theorem summed_at (x y : FVec Ideal S4x8192x1024 .f32) (g : FVec Ideal S1x1024 .f32) (c : FVec Ideal S4x1x1024 .f32) (b : Fin 4) (r : Fin 8192) (i : Fin 1024) :
    summed x y g c (ix3 b r i) = Rows.added (fun j => x (ix3 b r j)) (fun j => y (ix3 b r j)) (fun j => g (ix2 0 j)) (fun j => c (ix3 b 0 j)) i := by
  rw [Rows.added, ← normed_at]
  pointwise [summed]

/-- The hidden units of every token. -/
def units (h : FVec Ideal S4x8192x1024 .f32) (u v : FVec Ideal S1024x2816 .bf16) : FVec Ideal S4x8192x2816 .f32 :=
  mulf (mulf (Host.dotGeneral dot_S4x8192x1024_S1024x2816_S4x8192x2816_2_0_01_1_n_n none h (extf .f32 u bitsLt_bf16_f32))
      (Host.divf (broadcastInDim S4x8192x2816 ![] bcast_S_S4x8192x2816 (constant S_ .f32 0x3F800000#32))
        (addf (broadcastInDim S4x8192x2816 ![] bcast_S_S4x8192x2816 (constant S_ .f32 0x3F800000#32))
          (Host.exp (Host.negf (Host.dotGeneral dot_S4x8192x1024_S1024x2816_S4x8192x2816_2_0_01_1_n_n none h (extf .f32 u bitsLt_bf16_f32)))))))
    (Host.dotGeneral dot_S4x8192x1024_S1024x2816_S4x8192x2816_2_0_01_1_n_n none h (extf .f32 v bitsLt_bf16_f32))

def folded (t : FVec Ideal S4x8192x2816 .f32) (w : FVec Ideal S2816x1024 .bf16) : FVec Ideal S4x8192x1024 .f32 :=
  Host.dotGeneral dot_S4x8192x2816_S2816x1024_S4x8192x1024_2_0_01_1_n_n none t (extf .f32 w bitsLt_bf16_f32)

theorem units_at (h : FVec Ideal S4x8192x1024 .f32) (u v : FVec Ideal S1024x2816 .bf16) (b : Fin 4) (r : Fin 8192) (k : Fin 2816) :
    units h u v (ix3 b r k) = Rows.unit (fun d => h (ix3 b r d)) (fun d => u (ix2 d k)) (fun d => v (ix2 d k)) := by
  pointwise [units, Rows.unit]
  rfl

theorem folded_at (t : FVec Ideal S4x8192x2816 .f32) (w : FVec Ideal S2816x1024 .bf16) (b : Fin 4) (r : Fin 8192) (i : Fin 1024) :
    folded t w (ix3 b r i) = ∑ k : Fin 2816, t (ix3 b r k) * w (ix2 k i) := by
  pointwise [folded]

/-- The reference's result. -/
def result (x : FVec Ideal S4x8192x1024 .f32) (g : FVec Ideal S1x1024 .f32) (s c : FVec Ideal S4x1x1024 .f32) (u v : FVec Ideal S1024x2816 .bf16)
    (w : FVec Ideal S2816x1024 .bf16) (gp : FVec Ideal S1x1024 .f32) (mg : FVec Ideal S4x1x1024 .f32) : FVec Ideal S4x8192x1024 .f32 :=
  summed x (folded (units (modulated x g s c) u v) w) gp mg

theorem result_at (x : FVec Ideal S4x8192x1024 .f32) (g : FVec Ideal S1x1024 .f32) (s c : FVec Ideal S4x1x1024 .f32) (u v : FVec Ideal S1024x2816 .bf16)
    (w : FVec Ideal S2816x1024 .bf16) (gp : FVec Ideal S1x1024 .f32) (mg : FVec Ideal S4x1x1024 .f32) (b : Fin 4) (r : Fin 8192) (i : Fin 1024) :
    result x g s c u v w gp mg (ix3 b r i) = Rows.added (fun j => x (ix3 b r j))
      (fun j => ∑ k : Fin 2816, Rows.unit (Rows.modded (fun j => x (ix3 b r j)) (fun j => g (ix2 0 j)) (fun j => s (ix3 b 0 j)) (fun j => c (ix3 b 0 j)))
        (fun d => u (ix2 d k)) (fun d => v (ix2 d k)) * w (ix2 k j)) (fun j => gp (ix2 0 j)) (fun j => mg (ix3 b 0 j)) i := by
  rw [result, summed_at]
  simp only [folded_at, units_at, modulated_at]

theorem result_eq (m : (ℓ : Loc nD τ sig) → Buf (Elt Ideal) ℓ) (c : Dev nD) :
    res_main_v44 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.FfnRefIdeal.Value

end
-- ==== Proof.FfnIdealValue.lean ====
/- The feed-forward kernel's result array: at every index the reference's result. -/
module

public import proofs.«01_k».proof.Proof.FfnIdealPay
public import proofs.«01_k».proof.Proof.FfnRefIdealValue
public import Idealize.ShloMosaic.Lib.Pointwise
public import Idealize.ShloMosaic.Lib.Pipeline.ValueKit

@[expose] public section

set_option maxRecDepth 16384

noncomputable section

namespace Cert.FfnIdeal.Hand

open Cert.FfnIdeal Cert.FfnIdeal.Gen Cert.Rows
open Idealize.ShloMosaic Idealize.ShloMosaic.TcCoe

variable (m : (ℓ : Loc nD τ sig) → Buf (Elt Ideal) ℓ)

theorem lead (t : Fin cfg0.N) : t.val / 16 < 4 := by
  have h : t.val < 64 := Nat.lt_of_lt_of_eq t.isLt N_0
  omega

theorem index0 (t : Fin cfg0.N) : win0_0.index t = ![t.val / 16, t.val % 16, 0] :=
  (by decide +kernel : ∀ t : Fin grid0.N, win0_0.index t = ![t.val / 16, t.val % 16, 0]) t

theorem index1 (t : Fin cfg0.N) : win0_1.index t = ![0, 0] :=
  (by decide +kernel : ∀ t : Fin grid0.N, win0_1.index t = ![0, 0]) t

theorem index2 (t : Fin cfg0.N) : win0_2.index t = ![t.val / 16, 0, 0] :=
  (by decide +kernel : ∀ t : Fin grid0.N, win0_2.index t = ![t.val / 16, 0, 0]) t

theorem index3 (t : Fin cfg0.N) : win0_3.index t = ![t.val / 16, 0, 0] :=
  (by decide +kernel : ∀ t : Fin grid0.N, win0_3.index t = ![t.val / 16, 0, 0]) t

theorem index4 (t : Fin cfg0.N) : win0_4.index t = ![0, 0] :=
  (by decide +kernel : ∀ t : Fin grid0.N, win0_4.index t = ![0, 0]) t

theorem index5 (t : Fin cfg0.N) : win0_5.index t = ![0, 0] :=
  (by decide +kernel : ∀ t : Fin grid0.N, win0_5.index t = ![0, 0]) t

theorem index6 (t : Fin cfg0.N) : win0_6.index t = ![0, 0] :=
  (by decide +kernel : ∀ t : Fin grid0.N, win0_6.index t = ![0, 0]) t

theorem index7 (t : Fin cfg0.N) : win0_7.index t = ![0, 0] :=
  (by decide +kernel : ∀ t : Fin grid0.N, win0_7.index t = ![0, 0]) t

theorem index8 (t : Fin cfg0.N) : win0_8.index t = ![t.val / 16, 0, 0] :=
  (by decide +kernel : ∀ t : Fin grid0.N, win0_8.index t = ![t.val / 16, 0, 0]) t

theorem index9 (t : Fin cfg0.N) : win0_9.index t = ![t.val / 16, t.val % 16, 0] :=
  (by decide +kernel : ∀ t : Fin grid0.N, win0_9.index t = ![t.val / 16, t.val % 16, 0]) t

theorem iblk0_at (c : Dev nD) (t : Fin cfg0.N) (r : Fin 512) (i : Fin 1024) :
    (iblk m c 0 t : Vec Ideal S1x512x1024 .f32) (ix3 0 r i) = (m ((c : Thread nD τ).loc main_arg0) : Vec Ideal S4x8192x1024 .f32) (ix3 ⟨t.val / 16, lead t⟩ ⟨t.val % 16 * 512 + r.val, by omega⟩ i) := by
  rw [← V_main_arg0 m c]; blk_ext [iblk, index0 t]

theorem iblk1_at (c : Dev nD) (t : Fin cfg0.N) (r : Fin 1) (i : Fin 1024) :
    (iblk m c 1 t : Vec Ideal S1x1024 .f32) (ix2 r i) = (m ((c : Thread nD τ).loc main_arg1) : Vec Ideal S1x1024 .f32) (ix2 r i) := by
  rw [← V_main_arg1 m c]; blk_ext [iblk, index1 t]

theorem iblk2_at (c : Dev nD) (t : Fin cfg0.N) (i : Fin 1024) :
    (iblk m c 2 t : Vec Ideal S1x1x1024 .f32) (ix3 0 0 i) = (m ((c : Thread nD τ).loc main_arg2) : Vec Ideal S4x1x1024 .f32) (ix3 ⟨t.val / 16, lead t⟩ 0 i) := by
  rw [← V_main_arg2 m c]; blk_ext [iblk, index2 t]

theorem iblk3_at (c : Dev nD) (t : Fin cfg0.N) (i : Fin 1024) :
    (iblk m c 3 t : Vec Ideal S1x1x1024 .f32) (ix3 0 0 i) = (m ((c : Thread nD τ).loc main_arg3) : Vec Ideal S4x1x1024 .f32) (ix3 ⟨t.val / 16, lead t⟩ 0 i) := by
  rw [← V_main_arg3 m c]; blk_ext [iblk, index3 t]

theorem iblk4_at (c : Dev nD) (t : Fin cfg0.N) (r : Fin 1024) (i : Fin 2816) :
    (iblk m c 4 t : Vec Ideal S1024x2816 .bf16) (ix2 r i) = (m ((c : Thread nD τ).loc main_arg4) : Vec Ideal S1024x2816 .bf16) (ix2 r i) := by
  rw [← V_main_arg4 m c]; blk_ext [iblk, index4 t]

theorem iblk5_at (c : Dev nD) (t : Fin cfg0.N) (r : Fin 1024) (i : Fin 2816) :
    (iblk m c 5 t : Vec Ideal S1024x2816 .bf16) (ix2 r i) = (m ((c : Thread nD τ).loc main_arg5) : Vec Ideal S1024x2816 .bf16) (ix2 r i) := by
  rw [← V_main_arg5 m c]; blk_ext [iblk, index5 t]

theorem iblk6_at (c : Dev nD) (t : Fin cfg0.N) (r : Fin 2816) (i : Fin 1024) :
    (iblk m c 6 t : Vec Ideal S2816x1024 .bf16) (ix2 r i) = (m ((c : Thread nD τ).loc main_arg6) : Vec Ideal S2816x1024 .bf16) (ix2 r i) := by
  rw [← V_main_arg6 m c]; blk_ext [iblk, index6 t]

theorem iblk7_at (c : Dev nD) (t : Fin cfg0.N) (r : Fin 1) (i : Fin 1024) :
    (iblk m c 7 t : Vec Ideal S1x1024 .f32) (ix2 r i) = (m ((c : Thread nD τ).loc main_arg7) : Vec Ideal S1x1024 .f32) (ix2 r i) := by
  rw [← V_main_arg7 m c]; blk_ext [iblk, index7 t]

theorem iblk8_at (c : Dev nD) (t : Fin cfg0.N) (i : Fin 1024) :
    (iblk m c 8 t : Vec Ideal S1x1x1024 .f32) (ix3 0 0 i) = (m ((c : Thread nD τ).loc main_arg8) : Vec Ideal S4x1x1024 .f32) (ix3 ⟨t.val / 16, lead t⟩ 0 i) := by
  rw [← V_main_arg8 m c]; blk_ext [iblk, index8 t]

/-- The reference's result of the kernel's arrays. -/
abbrev target (c : Dev nD) : FVec Ideal S4x8192x1024 .f32 :=
  FfnRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What a point leaves in the output block is the reference's result at its place in the array. -/
theorem row_at (c : Dev nD) (t : Fin cfg0.N) (r : Fin 512) (i : Fin 1024) :
    out0_9 (iblk m c 0 t) (iblk m c 1 t) (iblk m c 2 t) (iblk m c 3 t) (iblk m c 4 t) (iblk m c 5 t) (iblk m c 6 t) (iblk m c 7 t) (iblk m c 8 t) (ix3 0 r i)
      = target m c (ix3 ⟨t.val / 16, lead t⟩ ⟨t.val % 16 * 512 + r.val, by omega⟩ i) := by
  unfold target
  rw [out_at, FfnRefIdeal.Value.result_at]
  simp only [iblk0_at, iblk1_at, iblk2_at, iblk3_at, iblk4_at, iblk5_at, iblk6_at, iblk7_at, iblk8_at]

theorem block_at (c : Dev nD) (t : Fin cfg0.N) (y : S1x512x1024.Idx) :
    out0_9 (iblk m c 0 t) (iblk m c 1 t) (iblk m c 2 t) (iblk m c 3 t) (iblk m c 4 t) (iblk m c 5 t) (iblk m c 6 t) (iblk m c 7 t) (iblk m c 8 t) y = target m c ((win0_9.blk t).view.emb y) := by
  idx_vars y
  obtain rfl : y0 = 0 := Subsingleton.elim _ _
  rw [row_at m c t y1 y2]
  blk_ext [index9 t]

/-- The result array after the run is the reference's result. -/
theorem out_eq (c : Dev nD) : (dats m 0 c).arrAt 9 cfg0.N = target m c := by
  refine (dats m 0 c).arrAt_eq_of_covers 9 _ (by decide +kernel) fun t hf y => ?_
  blk_simp
  rw [after0_9]
  exact block_at m c t y

end Cert.FfnIdeal.Hand

end
-- ==== Proof.FfnClaims.lean ====
/- The claims about the feed-forward kernel: frames, and its result against the reference's. -/
module

public import proofs.«01_k».proof.Defs
public import proofs.«01_k».proof.Proof.Gen.Ffn
public import proofs.«01_k».proof.Proof.Gen.Ffn.Frame
public import proofs.«01_k».proof.Proof.FfnIdealValue
public import Idealize.ShloMosaic.Lib.Quiescent

@[expose] public section

set_option maxRecDepth 16384

noncomputable section

namespace Cert.FfnClaims

open Idealize.ShloMosaic Idealize.ShloMosaic.TcCoe Idealize.SL.Sem

theorem ffn : Cert.quiescent_Ffn (hFfn := Cert.Ffn.Gen.facts) := fun m g _ => Cert.Ffn.Gen.frame m g

theorem ffnIdeal : Cert.quiescent_FfnIdeal (hFfnIdeal := Cert.FfnIdeal.Gen.facts) := fun m g _ => Cert.FfnIdeal.Gen.frame m g

theorem ffnRefIdeal : Cert.quiescent_FfnRefIdeal (hFfnRefIdeal := Cert.FfnRefIdeal.Gen.facts) := fun m g _ =>
  (θ_run _ _ _).mono (fun r h => ⟨fun c => (h c).2, sem_eq_zero_of_no_sems (by decide) _⟩) (Cert.FfnRefIdeal.Value.run m g)

theorem algebraic : Cert.algebraic_FfnIdeal_FfnRefIdeal (hFfnIdeal := Cert.FfnIdeal.Gen.facts) (hFfnRefIdeal := Cert.FfnRefIdeal.Gen.facts) := by
  intro m g m' g' _ hargs
  refine ⟨fun c => Cert.FfnIdeal.Hand.target m c, ?_, ?_⟩
  · refine (θ_run _ _ _).mono (fun r h c => ⟨?_, (h c).2⟩) (Cert.FfnIdeal.Value.run_blocks m g)
    rw [(h c).1]
    exact Cert.FfnIdeal.Hand.out_eq m c
  · refine (θ_run _ _ _).mono (fun r h c => ⟨?_, (h c).2⟩) (Cert.FfnRefIdeal.Value.run m' g')
    rw [(h c).1, Cert.FfnRefIdeal.Value.result_eq]
    obtain ⟨h0, h1, h2, h3, h4, h5, h6, h7, h8⟩ := hargs c
    rw [h0, h1, h2, h3, h4, h5, h6, h7, h8]

end Cert.FfnClaims

end
-- ==== Proof.MergeIdealPay.lean ====
/- The merge kernel's vector values read at an index. -/
module

public import proofs.«01_k».proof.Proof.Gen.MergeIdeal.Value
public import proofs.«01_k».proof.Proof.Rows
public import Idealize.ShloMosaic.Lib.Pointwise
public import Idealize.ShloMosaic.Lib.Pipeline.ValueKit

@[expose] public section

set_option maxRecDepth 16384

noncomputable section

namespace Cert.MergeIdeal.Hand

open Cert.MergeIdeal Cert.MergeIdeal.Gen Cert.Rows
open Idealize.ShloMosaic

/-- A tile's rows, one block of the array. -/
theorem pay2_at (x : Vec Ideal S1x512x1024 .f32) (r : Fin 512) (i : Fin 1024) : k0_pay2 x (ix2 r i) = x (ix3 0 r i) := by
  pointwise [k0_pay2]

/-- The row that the kernel normalises and modulates. -/
theorem pay3_at (x : Vec Ideal S1x512x1024 .f32) (g : Vec Ideal S1x1024 .f32) (s c : Vec Ideal S1x1x1024 .f32) (r : Fin 512) (i : Fin 1024) :
    k0_pay3 x g s c (ix2 r i) = modded (fun j => x (ix3 0 r j)) (fun j => g (ix2 0 j)) (fun j => s (ix3 0 0 j)) (fun j => c (ix3 0 0 j)) i := by
  pointwise [k0_pay3, k0_pay2, modded, normed]

/-- The first branch's gate. -/
theorem pay4_at (x : Vec Ideal S1x512x1024 .f32) (g : Vec Ideal S1x1024 .f32) (s c : Vec Ideal S1x1x1024 .f32) (w : Vec Ideal S1024x1024 .bf16)
    (r : Fin 512) (i : Fin 1024) :
    k0_pay4 x g s c w (ix2 r i) = Ideal.logistic (∑ d : Fin 1024, k0_pay3 x g s c (ix2 r d) * w (ix2 d i)) := by
  pointwise [k0_pay4]

theorem pay5_at (o : Vec Ideal S1x512x512 .bf16) (r k : Fin 512) : k0_pay5 o (ix2 r k) = o (ix3 0 r k) := by
  pointwise [k0_pay5]

theorem pay6_at (p : Vec Ideal S1x512x1024 .bf16) (k : Fin 512) (i : Fin 1024) : k0_pay6 p (ix2 k i) = p (ix3 0 k i) := by
  pointwise [k0_pay6]

/-- The first three branches behind their gates. -/
theorem pay7_at (h : FVec Ideal S512x1024 .bf16) (e : FVec Ideal S512x1024 .f32) (o : FVec Ideal S512x512 .bf16) (p : FVec Ideal S512x1024 .bf16)
    (w : Vec Ideal S1024x1024 .bf16) (o' : Vec Ideal S1x512x512 .bf16) (p' : Vec Ideal S1x512x1024 .bf16) (w' : Vec Ideal S1024x1024 .bf16)
    (o'' : Vec Ideal S1x512x512 .bf16) (p'' : Vec Ideal S1x512x1024 .bf16) (r : Fin 512) (i : Fin 1024) :
    k0_pay7 h e o p (constant S512x1024 .f32 0x00000000#32) w o' p' w' o'' p'' (ix2 r i)
      = e (ix2 r i) * (∑ k : Fin 512, o (ix2 r k) * p (ix2 k i))
        + gated (fun d => h (ix2 r d)) (fun d => w (ix2 d i)) (fun k => o' (ix3 0 r k)) (fun k => p' (ix3 0 k i))
        + gated (fun d => h (ix2 r d)) (fun d => w' (ix2 d i)) (fun k => o'' (ix3 0 r k)) (fun k => p'' (ix3 0 k i)) := by
  pointwise [k0_pay7, gated]

/-- The last branch's gate. -/
theorem pay8_at (h : FVec Ideal S512x1024 .bf16) (w : Vec Ideal S1024x1024 .bf16) (r : Fin 512) (i : Fin 1024) :
    k0_pay8 h w (ix2 r i) = Ideal.logistic (∑ d : Fin 1024, h (ix2 r d) * w (ix2 d i)) := by
  pointwise [k0_pay8]

theorem pay9_at (o : Vec Ideal S1x512x512 .f32) (r k : Fin 512) : k0_pay9 o (ix2 r k) = o (ix3 0 r k) := by
  pointwise [k0_pay9]

theorem pay10_at (p : Vec Ideal S1x512x1024 .bf16) (k : Fin 512) (i : Fin 1024) : k0_pay10 p (ix2 k i) = p (ix3 0 k i) := by
  pointwise [k0_pay10]

/-- The normed and modulated row once more, from the blocks as the body reads them. -/
theorem pay11_at (x : Vec Ideal S1x512x1024 .f32) (g : Vec Ideal S1x1024 .f32) (s c : Vec Ideal S1x1x1024 .f32) (oa ob oc : Vec Ideal S1x512x512 .bf16)
    (od : Vec Ideal S1x512x512 .f32) (wg : Vec Ideal S1024x4096 .bf16) (wb : Vec Ideal S4x512x1024 .bf16) (wo : Vec Ideal S1024x1024 .bf16)
    (gp : Vec Ideal S1x1024 .f32) (mg : Vec Ideal S1x1x1024 .f32) (r : Fin 512) (i : Fin 1024) :
    k0_pay11 x g s c oa ob oc od wg wb wo gp mg (ix2 r i)
      = modded (fun j => x (ix3 0 r j)) (fun j => g (ix2 0 j)) (fun j => s (ix3 0 0 j)) (fun j => c (ix3 0 0 j)) i := by
  pointwise [k0_pay11, k0_pay3, k0_pay2, modded, normed]

/-- The row that the kernel stores. -/
theorem pay1_at (x f e : FVec Ideal S512x1024 .f32) (o : FVec Ideal S512x512 .bf16) (p : FVec Ideal S512x1024 .bf16) (w : Vec Ideal S1024x1024 .bf16)
    (c : Vec Ideal S1x1x1024 .f32) (g : Vec Ideal S1x1024 .f32) (r : Fin 512) (i : Fin 1024) :
    k0_pay1 x f e o p (constant S512x1024 .f32 0x00000000#32) w c g (ix3 0 r i)
      = added (fun j => x (ix2 r j))
        (fun j => ∑ n : Fin 1024, (f (ix2 r n) + e (ix2 r n) * ∑ k : Fin 512, o (ix2 r k) * p (ix2 k n)) * w (ix2 n j))
        (fun j => g (ix2 0 j)) (fun j => c (ix3 0 0 j)) i := by
  pointwise [k0_pay1, added, normed]

/-- Branch 0's gate columns. -/
def cols0 (w : Vec Ideal S1024x4096 .bf16) : Vec Ideal S1024x1024 .bf16 := View.ld w r0_3

/-- Branch 0's projection. -/
def proj0 (w : Vec Ideal S4x512x1024 .bf16) : Vec Ideal S1x512x1024 .bf16 := View.ld w r0_5

theorem cols0_at (w : Vec Ideal S1024x4096 .bf16) (d i : Fin 1024) : cols0 w (ix2 d i) = w (ix2 d ⟨i.val, by omega⟩) := by
  pointwise [cols0]

theorem proj0_at (w : Vec Ideal S4x512x1024 .bf16) (k : Fin 512) (i : Fin 1024) : proj0 w (ix3 0 k i) = w (ix3 0 k i) := by
  pointwise [proj0]

/-- Branch 1's gate columns. -/
def cols1 (w : Vec Ideal S1024x4096 .bf16) : Vec Ideal S1024x1024 .bf16 := View.ld w r0_6

/-- Branch 1's projection. -/
def proj1 (w : Vec Ideal S4x512x1024 .bf16) : Vec Ideal S1x512x1024 .bf16 := View.ld w r0_7

theorem cols1_at (w : Vec Ideal S1024x4096 .bf16) (d i : Fin 1024) : cols1 w (ix2 d i) = w (ix2 d ⟨1024 + i.val, by omega⟩) := by
  pointwise [cols1]

theorem proj1_at (w : Vec Ideal S4x512x1024 .bf16) (k : Fin 512) (i : Fin 1024) : proj1 w (ix3 0 k i) = w (ix3 1 k i) := by
  pointwise [proj1]

/-- Branch 2's gate columns. -/
def cols2 (w : Vec Ideal S1024x4096 .bf16) : Vec Ideal S1024x1024 .bf16 := View.ld w r0_8

/-- Branch 2's projection. -/
def proj2 (w : Vec Ideal S4x512x1024 .bf16) : Vec Ideal S1x512x1024 .bf16 := View.ld w r0_9

theorem cols2_at (w : Vec Ideal S1024x4096 .bf16) (d i : Fin 1024) : cols2 w (ix2 d i) = w (ix2 d ⟨2048 + i.val, by omega⟩) := by
  pointwise [cols2]

theorem proj2_at (w : Vec Ideal S4x512x1024 .bf16) (k : Fin 512) (i : Fin 1024) : proj2 w (ix3 0 k i) = w (ix3 2 k i) := by
  pointwise [proj2]

/-- Branch 3's gate columns. -/
def cols3 (w : Vec Ideal S1024x4096 .bf16) : Vec Ideal S1024x1024 .bf16 := View.ld w r0_10

/-- Branch 3's projection. -/
def proj3 (w : Vec Ideal S4x512x1024 .bf16) : Vec Ideal S1x512x1024 .bf16 := View.ld w r0_11

theorem cols3_at (w : Vec Ideal S1024x4096 .bf16) (d i : Fin 1024) : cols3 w (ix2 d i) = w (ix2 d ⟨3072 + i.val, by omega⟩) := by
  pointwise [cols3]

theorem proj3_at (w : Vec Ideal S4x512x1024 .bf16) (k : Fin 512) (i : Fin 1024) : proj3 w (ix3 0 k i) = w (ix3 3 k i) := by
  pointwise [proj3]

/-- The output block, at a row. -/
theorem out_at (x : Vec Ideal S1x512x1024 .f32) (g : Vec Ideal S1x1024 .f32) (s c : Vec Ideal S1x1x1024 .f32) (oa ob oc : Vec Ideal S1x512x512 .bf16)
    (od : Vec Ideal S1x512x512 .f32) (wg : Vec Ideal S1024x4096 .bf16) (wb : Vec Ideal S4x512x1024 .bf16) (wo : Vec Ideal S1024x1024 .bf16)
    (gp : Vec Ideal S1x1024 .f32) (mg : Vec Ideal S1x1x1024 .f32) (r : Fin 512) (i : Fin 1024) :
    out0_13 x g s c oa ob oc od wg wb wo gp mg (ix3 0 r i) = added (fun j => x (ix3 0 r j))
      (fun j => ∑ i : Fin 1024, (gated (modded (fun j => x (ix3 0 r j)) (fun j => g (ix2 0 j)) (fun j => s (ix3 0 0 j)) (fun j => c (ix3 0 0 j))) (fun d => wg (ix2 d ⟨i.val, by omega⟩)) (fun k => oa (ix3 0 r k)) (fun k => wb (ix3 0 k i))
        + gated (modded (fun j => x (ix3 0 r j)) (fun j => g (ix2 0 j)) (fun j => s (ix3 0 0 j)) (fun j => c (ix3 0 0 j))) (fun d => wg (ix2 d ⟨1024 + i.val, by omega⟩)) (fun k => ob (ix3 0 r k)) (fun k => wb (ix3 1 k i))
        + gated (modded (fun j => x (ix3 0 r j)) (fun j => g (ix2 0 j)) (fun j => s (ix3 0 0 j)) (fun j => c (ix3 0 0 j))) (fun d => wg (ix2 d ⟨2048 + i.val, by omega⟩)) (fun k => oc (ix3 0 r k)) (fun k => wb (ix3 2 k i))
        + gated (modded (fun j => x (ix3 0 r j)) (fun j => g (ix2 0 j)) (fun j => s (ix3 0 0 j)) (fun j => c (ix3 0 0 j))) (fun d => wg (ix2 d ⟨3072 + i.val, by omega⟩)) (fun k => od (ix3 0 r k)) (fun k => wb (ix3 3 k i))) * wo (ix2 i j))
      (fun j => gp (ix2 0 j)) (fun j => mg (ix3 0 0 j)) i := by
  frame_out
  rw [show View.ld wg r0_3 = cols0 wg from rfl,
    show View.ld wb r0_5 = proj0 wb from rfl,
    show View.ld wg r0_6 = cols1 wg from rfl,
    show View.ld wb r0_7 = proj1 wb from rfl,
    show View.ld wg r0_8 = cols2 wg from rfl,
    show View.ld wb r0_9 = proj2 wb from rfl,
    show View.ld wg r0_10 = cols3 wg from rfl,
    show View.ld wb r0_11 = proj3 wb from rfl]
  rw [pay1_at]
  simp only [gated, pay2_at, pay3_at, pay4_at, pay5_at, pay6_at, pay7_at, pay8_at, pay9_at, pay10_at, pay11_at,
    cols0_at, cols1_at, cols2_at, cols3_at, proj0_at, proj1_at, proj2_at, proj3_at]

end Cert.MergeIdeal.Hand

end
-- ==== Proof.MergeRefIdealValue.lean ====
/- The reference's merge of the branches read at an index. -/
module

public import proofs.«01_k».proof.Proof.Gen.MergeRefIdeal.Run
public import proofs.«01_k».proof.Proof.Rows
public import Idealize.ShloMosaic.Lib.Pointwise
public import Idealize.ShloMosaic.Lib.Pipeline.ValueKit

@[expose] public section

set_option maxRecDepth 16384

noncomputable section

namespace Cert.MergeRefIdeal.Value

open Cert.MergeRefIdeal Cert.MergeRefIdeal.Gen
open Idealize.ShloMosaic

/-- Every row over the root of its mean square, times a gain. -/
def normed (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf
      (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The normed rows of a batch, shifted and scaled. -/
def modulated (x : FVec Ideal S4x8192x1024 .f32) (g : FVec Ideal S1x1024 .f32) (s c : FVec Ideal S4x1x1024 .f32) : FVec Ideal S4x8192x1024 .f32 :=
  addf (mulf (normed x g) (broadcastInDim S4x8192x1024 ![0, 1, 2] bcast_S4x1x1024_S4x8192x1024_0_1_2
      (addf (broadcastInDim S4x1x1024 ![] bcast_S_S4x1x1024 (constant S_ .f32 0x3F800000#32)) c)))
    (broadcastInDim S4x8192x1024 ![0, 1, 2] bcast_S4x1x1024_S4x8192x1024_0_1_2 s)

/-- The given rows, with the modulated norm of others added. -/
def summed (x y : FVec Ideal S4x8192x1024 .f32) (g : FVec Ideal S1x1024 .f32) (c : FVec Ideal S4x1x1024 .f32) : FVec Ideal S4x8192x1024 .f32 :=
  addf x (mulf (broadcastInDim S4x8192x1024 ![0, 1, 2] bcast_S4x1x1024_S4x8192x1024_0_1_2 c) (normed y g))

theorem normed_at (x : FVec Ideal S4x8192x1024 .f32) (g : FVec Ideal S1x1024 .f32) (b : Fin 4) (r : Fin 8192) (i : Fin 1024) :
    normed x g (ix3 b r i) = Rows.normed (fun j => x (ix3 b r j)) (fun j => g (ix2 0 j)) i := by
  pointwise [normed, Rows.normed]

theorem modulated_at (x : FVec Ideal S4x8192x1024 .f32) (g : FVec Ideal S1x1024 .f32) (s c : FVec Ideal S4x1x1024 .f32) (b : Fin 4) (r : Fin 8192) (i : Fin 1024) :
    modulated x g s c (ix3 b r i) = Rows.modded (fun j => x (ix3 b r j)) (fun j => g (ix2 0 j)) (fun j => s (ix3 b 0 j)) (fun j => c (ix3 b 0 j)) i := by
  rw [Rows.modded, ← normed_at]
  pointwise [modulated]

theorem summed_at (x y : FVec Ideal S4x8192x1024 .f32) (g : FVec Ideal S1x1024 .f32) (c : FVec Ideal S4x1x1024 .f32) (b : Fin 4) (r : Fin 8192) (i : Fin 1024) :
    summed x y g c (ix3 b r i) = Rows.added (fun j => x (ix3 b r j)) (fun j => y (ix3 b r j)) (fun j => g (ix2 0 j)) (fun j => c (ix3 b 0 j)) i := by
  rw [Rows.added, ← normed_at]
  pointwise [summed]

/-- Every token's gates, the four branches side by side. -/
def gates (h : FVec Ideal S4x8192x1024 .f32) (w : FVec Ideal S1024x4096 .bf16) : FVec Ideal S4x8192x4096 .f32 :=
  Host.divf (broadcastInDim S4x8192x4096 ![] bcast_S_S4x8192x4096 (constant S_ .f32 0x3F800000#32))
    (addf (broadcastInDim S4x8192x4096 ![] bcast_S_S4x8192x4096 (constant S_ .f32 0x3F800000#32))
      (Host.exp (Host.negf (Host.dotGeneral dot_S4x8192x1024_S1024x4096_S4x8192x4096_2_0_01_1_n_n none h (extf .f32 w bitsLt_bf16_f32)))))

/-- The branches behind their gates, added. -/
def mixture (h : FVec Ideal S4x8192x1024 .f32) (oa ob oc : FVec Ideal S4x8192x512 .bf16) (od : FVec Ideal S4x8192x512 .f32)
    (wg : FVec Ideal S1024x4096 .bf16) (wb : FVec Ideal S4x512x1024 .bf16) : FVec Ideal S4x8192x1024 .f32 :=
  (addf (addf (addf (addf (broadcastInDim S4x8192x1024 ![] bcast_S_S4x8192x1024 (constant S_ .f32 0x00000000#32))
      (mulf (extractStridedSlice S4x8192x1024 ![0, 0, 0] (gates h wg) slices_S4x8192x4096_S4x8192x1024_0_0_0)
        (Host.dotGeneral dot_S4x8192x512_S512x1024_S4x8192x1024_2_0_01_1_n_n none (extf .f32 oa bitsLt_bf16_f32) (shapeCast _ (extractStridedSlice S1x512x1024 ![0, 0, 0]
          (extf .f32 wb bitsLt_bf16_f32) slices_S4x512x1024_S1x512x1024_0_0_0) shapeCasts_S1x512x1024_S512x1024))))
      (mulf (extractStridedSlice S4x8192x1024 ![0, 0, 1024] (gates h wg) slices_S4x8192x4096_S4x8192x1024_0_0_1024)
        (Host.dotGeneral dot_S4x8192x512_S512x1024_S4x8192x1024_2_0_01_1_n_n none (extf .f32 ob bitsLt_bf16_f32) (shapeCast _ (extractStridedSlice S1x512x1024 ![1, 0, 0]
          (extf .f32 wb bitsLt_bf16_f32) slices_S4x512x1024_S1x512x1024_1_0_0) shapeCasts_S1x512x1024_S512x1024))))
      (mulf (extractStridedSlice S4x8192x1024 ![0, 0, 2048] (gates h wg) slices_S4x8192x4096_S4x8192x1024_0_0_2048)
        (Host.dotGeneral dot_S4x8192x512_S512x1024_S4x8192x1024_2_0_01_1_n_n none (extf .f32 oc bitsLt_bf16_f32) (shapeCast _ (extractStridedSlice S1x512x1024 ![2, 0, 0]
          (extf .f32 wb bitsLt_bf16_f32) slices_S4x512x1024_S1x512x1024_2_0_0) shapeCasts_S1x512x1024_S512x1024))))
      (mulf (extractStridedSlice S4x8192x1024 ![0, 0, 3072] (gates h wg) slices_S4x8192x4096_S4x8192x1024_0_0_3072)
        (Host.dotGeneral dot_S4x8192x512_S512x1024_S4x8192x1024_2_0_01_1_n_n none od (shapeCast _ (extractStridedSlice S1x512x1024 ![3, 0, 0]
          (extf .f32 wb bitsLt_bf16_f32) slices_S4x512x1024_S1x512x1024_3_0_0) shapeCasts_S1x512x1024_S512x1024))))

def projected (t : FVec Ideal S4x8192x1024 .f32) (w : FVec Ideal S1024x1024 .bf16) : FVec Ideal S4x8192x1024 .f32 :=
  Host.dotGeneral dot_S4x8192x1024_S1024x1024_S4x8192x1024_2_0_01_1_n_n none t (extf .f32 w bitsLt_bf16_f32)

theorem gates_at (h : FVec Ideal S4x8192x1024 .f32) (w : FVec Ideal S1024x4096 .bf16) (b : Fin 4) (r : Fin 8192) (k : Fin 4096) :
    gates h w (ix3 b r k) = Ideal.logistic (∑ d : Fin 1024, h (ix3 b r d) * w (ix2 d k)) := by
  pointwise [gates]
  rfl

theorem mixture_at (h : FVec Ideal S4x8192x1024 .f32) (oa ob oc : FVec Ideal S4x8192x512 .bf16) (od : FVec Ideal S4x8192x512 .f32)
    (wg : FVec Ideal S1024x4096 .bf16) (wb : FVec Ideal S4x512x1024 .bf16) (b : Fin 4) (r : Fin 8192) (i : Fin 1024) :
    mixture h oa ob oc od wg wb (ix3 b r i) = Rows.gated (fun d => h (ix3 b r d)) (fun d => wg (ix2 d ⟨i.val, by omega⟩)) (fun k => oa (ix3 b r k)) (fun k => wb (ix3 0 k i)) + Rows.gated (fun d => h (ix3 b r d)) (fun d => wg (ix2 d ⟨1024 + i.val, by omega⟩)) (fun k => ob (ix3 b r k)) (fun k => wb (ix3 1 k i)) + Rows.gated (fun d => h (ix3 b r d)) (fun d => wg (ix2 d ⟨2048 + i.val, by omega⟩)) (fun k => oc (ix3 b r k)) (fun k => wb (ix3 2 k i)) + Rows.gated (fun d => h (ix3 b r d)) (fun d => wg (ix2 d ⟨3072 + i.val, by omega⟩)) (fun k => od (ix3 b r k)) (fun k => wb (ix3 3 k i)) := by
  unfold Rows.gated
  simp only [← gates_at]
  pointwise [mixture]

theorem projected_at (t : FVec Ideal S4x8192x1024 .f32) (w : FVec Ideal S1024x1024 .bf16) (b : Fin 4) (r : Fin 8192) (i : Fin 1024) :
    projected t w (ix3 b r i) = ∑ k : Fin 1024, t (ix3 b r k) * w (ix2 k i) := by
  pointwise [projected]

/-- The reference's result. -/
def result (x : FVec Ideal S4x8192x1024 .f32) (g : FVec Ideal S1x1024 .f32) (s c : FVec Ideal S4x1x1024 .f32) (oa ob oc : FVec Ideal S4x8192x512 .bf16)
    (od : FVec Ideal S4x8192x512 .f32) (wg : FVec Ideal S1024x4096 .bf16) (wb : FVec Ideal S4x512x1024 .bf16) (wo : FVec Ideal S1024x1024 .bf16)
    (gp : FVec Ideal S1x1024 .f32) (mg : FVec Ideal S4x1x1024 .f32) : FVec Ideal S4x8192x1024 .f32 :=
  summed x (projected (mixture (modulated x g s c) oa ob oc od wg wb) wo) gp mg

theorem result_at (x : FVec Ideal S4x8192x1024 .f32) (g : FVec Ideal S1x1024 .f32) (s c : FVec Ideal S4x1x1024 .f32) (oa ob oc : FVec Ideal S4x8192x512 .bf16)
    (od : FVec Ideal S4x8192x512 .f32) (wg : FVec Ideal S1024x4096 .bf16) (wb : FVec Ideal S4x512x1024 .bf16) (wo : FVec Ideal S1024x1024 .bf16)
    (gp : FVec Ideal S1x1024 .f32) (mg : FVec Ideal S4x1x1024 .f32)
    (b : Fin 4) (r : Fin 8192) (i : Fin 1024) :
    result x g s c oa ob oc od wg wb wo gp mg (ix3 b r i) = Rows.added (fun j => x (ix3 b r j))
      (fun j => ∑ i : Fin 1024, (Rows.gated (Rows.modded (fun j => x (ix3 b r j)) (fun j => g (ix2 0 j)) (fun j => s (ix3 b 0 j)) (fun j => c (ix3 b 0 j))) (fun d => wg (ix2 d ⟨i.val, by omega⟩)) (fun k => oa (ix3 b r k)) (fun k => wb (ix3 0 k i)) + Rows.gated (Rows.modded (fun j => x (ix3 b r j)) (fun j => g (ix2 0 j)) (fun j => s (ix3 b 0 j)) (fun j => c (ix3 b 0 j))) (fun d => wg (ix2 d ⟨1024 + i.val, by omega⟩)) (fun k => ob (ix3 b r k)) (fun k => wb (ix3 1 k i)) + Rows.gated (Rows.modded (fun j => x (ix3 b r j)) (fun j => g (ix2 0 j)) (fun j => s (ix3 b 0 j)) (fun j => c (ix3 b 0 j))) (fun d => wg (ix2 d ⟨2048 + i.val, by omega⟩)) (fun k => oc (ix3 b r k)) (fun k => wb (ix3 2 k i)) + Rows.gated (Rows.modded (fun j => x (ix3 b r j)) (fun j => g (ix2 0 j)) (fun j => s (ix3 b 0 j)) (fun j => c (ix3 b 0 j))) (fun d => wg (ix2 d ⟨3072 + i.val, by omega⟩)) (fun k => od (ix3 b r k)) (fun k => wb (ix3 3 k i))) * wo (ix2 i j)) (fun j => gp (ix2 0 j)) (fun j => mg (ix3 b 0 j)) i := by
  rw [result, summed_at]
  simp only [projected_at, mixture_at, modulated_at]

theorem result_eq (m : (ℓ : Loc nD τ sig) → Buf (Elt Ideal) ℓ) (c : Dev nD) :
    res_main_v75 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

end Cert.MergeRefIdeal.Value

end
-- ==== Proof.MergeIdealValue.lean ====
/- The merge kernel's result array: at every index the reference's result. -/
module

public import proofs.«01_k».proof.Proof.MergeIdealPay
public import proofs.«01_k».proof.Proof.MergeRefIdealValue
public import Idealize.ShloMosaic.Lib.Pointwise
public import Idealize.ShloMosaic.Lib.Pipeline.ValueKit

@[expose] public section

set_option maxRecDepth 16384

noncomputable section

namespace Cert.MergeIdeal.Hand

open Cert.MergeIdeal Cert.MergeIdeal.Gen Cert.Rows
open Idealize.ShloMosaic Idealize.ShloMosaic.TcCoe

variable (m : (ℓ : Loc nD τ sig) → Buf (Elt Ideal) ℓ)

theorem lead (t : Fin cfg0.N) : t.val / 16 < 4 := by
  have h : t.val < 64 := Nat.lt_of_lt_of_eq t.isLt N_0
  omega

theorem index0 (t : Fin cfg0.N) : win0_0.index t = ![t.val / 16, t.val % 16, 0] :=
  (by decide +kernel : ∀ t : Fin grid0.N, win0_0.index t = ![t.val / 16, t.val % 16, 0]) t

theorem index1 (t : Fin cfg0.N) : win0_1.index t = ![0, 0] :=
  (by decide +kernel : ∀ t : Fin grid0.N, win0_1.index t = ![0, 0]) t

theorem index2 (t : Fin cfg0.N) : win0_2.index t = ![t.val / 16, 0, 0] :=
  (by decide +kernel : ∀ t : Fin grid0.N, win0_2.index t = ![t.val / 16, 0, 0]) t

theorem index3 (t : Fin cfg0.N) : win0_3.index t = ![t.val / 16, 0, 0] :=
  (by decide +kernel : ∀ t : Fin grid0.N, win0_3.index t = ![t.val / 16, 0, 0]) t

theorem index4 (t : Fin cfg0.N) : win0_4.index t = ![t.val / 16, t.val % 16, 0] :=
  (by decide +kernel : ∀ t : Fin grid0.N, win0_4.index t = ![t.val / 16, t.val % 16, 0]) t

theorem index5 (t : Fin cfg0.N) : win0_5.index t = ![t.val / 16, t.val % 16, 0] :=
  (by decide +kernel : ∀ t : Fin grid0.N, win0_5.index t = ![t.val / 16, t.val % 16, 0]) t

theorem index6 (t : Fin cfg0.N) : win0_6.index t = ![t.val / 16, t.val % 16, 0] :=
  (by decide +kernel : ∀ t : Fin grid0.N, win0_6.index t = ![t.val / 16, t.val % 16, 0]) t

theorem index7 (t : Fin cfg0.N) : win0_7.index t = ![t.val / 16, t.val % 16, 0] :=
  (by decide +kernel : ∀ t : Fin grid0.N, win0_7.index t = ![t.val / 16, t.val % 16, 0]) t

theorem index8 (t : Fin cfg0.N) : win0_8.index t = ![0, 0] :=
  (by decide +kernel : ∀ t : Fin grid0.N, win0_8.index t = ![0, 0]) t

theorem index9 (t : Fin cfg0.N) : win0_9.index t = ![0, 0, 0] :=
  (by decide +kernel : ∀ t : Fin grid0.N, win0_9.index t = ![0, 0, 0]) t

theorem index10 (t : Fin cfg0.N) : win0_10.index t = ![0, 0] :=
  (by decide +kernel : ∀ t : Fin grid0.N, win0_10.index t = ![0, 0]) t

theorem index11 (t : Fin cfg0.N) : win0_11.index t = ![0, 0] :=
  (by decide +kernel : ∀ t : Fin grid0.N, win0_11.index t = ![0, 0]) t

theorem index12 (t : Fin cfg0.N) : win0_12.index t = ![t.val / 16, 0, 0] :=
  (by decide +kernel : ∀ t : Fin grid0.N, win0_12.index t = ![t.val / 16, 0, 0]) t

theorem index13 (t : Fin cfg0.N) : win0_13.index t = ![t.val / 16, t.val % 16, 0] :=
  (by decide +kernel : ∀ t : Fin grid0.N, win0_13.index t = ![t.val / 16, t.val % 16, 0]) t

theorem iblk0_at (c : Dev nD) (t : Fin cfg0.N) (r : Fin 512) (i : Fin 1024) :
    (iblk m c 0 t : Vec Ideal S1x512x1024 .f32) (ix3 0 r i) = (m ((c : Thread nD τ).loc main_arg0) : Vec Ideal S4x8192x1024 .f32) (ix3 ⟨t.val / 16, lead t⟩ ⟨t.val % 16 * 512 + r.val, by omega⟩ i) := by
  rw [← V_main_arg0 m c]; blk_ext [iblk, index0 t]

theorem iblk1_at (c : Dev nD) (t : Fin cfg0.N) (r : Fin 1) (i : Fin 1024) :
    (iblk m c 1 t : Vec Ideal S1x1024 .f32) (ix2 r i) = (m ((c : Thread nD τ).loc main_arg1) : Vec Ideal S1x1024 .f32) (ix2 r i) := by
  rw [← V_main_arg1 m c]; blk_ext [iblk, index1 t]

theorem iblk2_at (c : Dev nD) (t : Fin cfg0.N) (i : Fin 1024) :
    (iblk m c 2 t : Vec Ideal S1x1x1024 .f32) (ix3 0 0 i) = (m ((c : Thread nD τ).loc main_arg2) : Vec Ideal S4x1x1024 .f32) (ix3 ⟨t.val / 16, lead t⟩ 0 i) := by
  rw [← V_main_arg2 m c]; blk_ext [iblk, index2 t]

theorem iblk3_at (c : Dev nD) (t : Fin cfg0.N) (i : Fin 1024) :
    (iblk m c 3 t : Vec Ideal S1x1x1024 .f32) (ix3 0 0 i) = (m ((c : Thread nD τ).loc main_arg3) : Vec Ideal S4x1x1024 .f32) (ix3 ⟨t.val / 16, lead t⟩ 0 i) := by
  rw [← V_main_arg3 m c]; blk_ext [iblk, index3 t]

theorem iblk4_at (c : Dev nD) (t : Fin cfg0.N) (r : Fin 512) (i : Fin 512) :
    (iblk m c 4 t : Vec Ideal S1x512x512 .bf16) (ix3 0 r i) = (m ((c : Thread nD τ).loc main_arg4) : Vec Ideal S4x8192x512 .bf16) (ix3 ⟨t.val / 16, lead t⟩ ⟨t.val % 16 * 512 + r.val, by omega⟩ i) := by
  rw [← V_main_arg4 m c]; blk_ext [iblk, index4 t]

theorem iblk5_at (c : Dev nD) (t : Fin cfg0.N) (r : Fin 512) (i : Fin 512) :
    (iblk m c 5 t : Vec Ideal S1x512x512 .bf16) (ix3 0 r i) = (m ((c : Thread nD τ).loc main_arg5) : Vec Ideal S4x8192x512 .bf16) (ix3 ⟨t.val / 16, lead t⟩ ⟨t.val % 16 * 512 + r.val, by omega⟩ i) := by
  rw [← V_main_arg5 m c]; blk_ext [iblk, index5 t]

theorem iblk6_at (c : Dev nD) (t : Fin cfg0.N) (r : Fin 512) (i : Fin 512) :
    (iblk m c 6 t : Vec Ideal S1x512x512 .bf16) (ix3 0 r i) = (m ((c : Thread nD τ).loc main_arg6) : Vec Ideal S4x8192x512 .bf16) (ix3 ⟨t.val / 16, lead t⟩ ⟨t.val % 16 * 512 + r.val, by omega⟩ i) := by
  rw [← V_main_arg6 m c]; blk_ext [iblk, index6 t]

theorem iblk7_at (c : Dev nD) (t : Fin cfg0.N) (r : Fin 512) (i : Fin 512) :
    (iblk m c 7 t : Vec Ideal S1x512x512 .f32) (ix3 0 r i) = (m ((c : Thread nD τ).loc main_arg7) : Vec Ideal S4x8192x512 .f32) (ix3 ⟨t.val / 16, lead t⟩ ⟨t.val % 16 * 512 + r.val, by omega⟩ i) := by
  rw [← V_main_arg7 m c]; blk_ext [iblk, index7 t]

theorem iblk8_at (c : Dev nD) (t : Fin cfg0.N) (r : Fin 1024) (i : Fin 4096) :
    (iblk m c 8 t : Vec Ideal S1024x4096 .bf16) (ix2 r i) = (m ((c : Thread nD τ).loc main_arg8) : Vec Ideal S1024x4096 .bf16) (ix2 r i) := by
  rw [← V_main_arg8 m c]; blk_ext [iblk, index8 t]

theorem iblk9_at (c : Dev nD) (t : Fin cfg0.N) (n : Fin 4) (r : Fin 512) (i : Fin 1024) :
    (iblk m c 9 t : Vec Ideal S4x512x1024 .bf16) (ix3 n r i) = (m ((c : Thread nD τ).loc main_arg9) : Vec Ideal S4x512x1024 .bf16) (ix3 n r i) := by
  rw [← V_main_arg9 m c]; blk_ext [iblk, index9 t]

theorem iblk10_at (c : Dev nD) (t : Fin cfg0.N) (r : Fin 1024) (i : Fin 1024) :
    (iblk m c 10 t : Vec Ideal S1024x1024 .bf16) (ix2 r i) = (m ((c : Thread nD τ).loc main_arg10) : Vec Ideal S1024x1024 .bf16) (ix2 r i) := by
  rw [← V_main_arg10 m c]; blk_ext [iblk, index10 t]

theorem iblk11_at (c : Dev nD) (t : Fin cfg0.N) (r : Fin 1) (i : Fin 1024) :
    (iblk m c 11 t : Vec Ideal S1x1024 .f32) (ix2 r i) = (m ((c : Thread nD τ).loc main_arg11) : Vec Ideal S1x1024 .f32) (ix2 r i) := by
  rw [← V_main_arg11 m c]; blk_ext [iblk, index11 t]

theorem iblk12_at (c : Dev nD) (t : Fin cfg0.N) (i : Fin 1024) :
    (iblk m c 12 t : Vec Ideal S1x1x1024 .f32) (ix3 0 0 i) = (m ((c : Thread nD τ).loc main_arg12) : Vec Ideal S4x1x1024 .f32) (ix3 ⟨t.val / 16, lead t⟩ 0 i) := by
  rw [← V_main_arg12 m c]; blk_ext [iblk, index12 t]

/-- The reference's result of the kernel's arrays. -/
abbrev target (c : Dev nD) : FVec Ideal S4x8192x1024 .f32 :=
  MergeRefIdeal.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What a point leaves in the output block is the reference's result at its place in the array. -/
theorem row_at (c : Dev nD) (t : Fin cfg0.N) (r : Fin 512) (i : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r i)
      = target m c (ix3 ⟨t.val / 16, lead t⟩ ⟨t.val % 16 * 512 + r.val, by omega⟩ i) := by
  unfold target
  rw [out_at, MergeRefIdeal.Value.result_at]
  simp only [iblk0_at, iblk1_at, iblk2_at, iblk3_at, iblk4_at, iblk5_at, iblk6_at, iblk7_at, iblk8_at, iblk9_at, iblk10_at, iblk11_at, iblk12_at]

theorem block_at (c : Dev nD) (t : Fin cfg0.N) (y : S1x512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = target m c ((win0_13.blk t).view.emb y) := by
  idx_vars y
  obtain rfl : y0 = 0 := Subsingleton.elim _ _
  rw [row_at m c t y1 y2]
  blk_ext [index13 t]

/-- The result array after the run is the reference's result. -/
theorem out_eq (c : Dev nD) : (dats m 0 c).arrAt 13 cfg0.N = target m c := by
  refine (dats m 0 c).arrAt_eq_of_covers 13 _ (by decide +kernel) fun t hf y => ?_
  blk_simp
  rw [after0_13]
  exact block_at m c t y

end Cert.MergeIdeal.Hand

end
-- ==== Proof.MergeClaims.lean ====
/- The claims about the merge kernel: frames, and its result against the reference's. -/
module

public import proofs.«01_k».proof.Defs
public import proofs.«01_k».proof.Proof.Gen.Merge
public import proofs.«01_k».proof.Proof.Gen.Merge.Frame
public import proofs.«01_k».proof.Proof.MergeIdealValue
public import Idealize.ShloMosaic.Lib.Quiescent

@[expose] public section

set_option maxRecDepth 16384

noncomputable section

namespace Cert.MergeClaims

open Idealize.ShloMosaic Idealize.ShloMosaic.TcCoe Idealize.SL.Sem

theorem merge : Cert.quiescent_Merge (hMerge := Cert.Merge.Gen.facts) := fun m g _ => Cert.Merge.Gen.frame m g

theorem mergeIdeal : Cert.quiescent_MergeIdeal (hMergeIdeal := Cert.MergeIdeal.Gen.facts) := fun m g _ => Cert.MergeIdeal.Gen.frame m g

theorem mergeRefIdeal : Cert.quiescent_MergeRefIdeal (hMergeRefIdeal := Cert.MergeRefIdeal.Gen.facts) := fun m g _ =>
  (θ_run _ _ _).mono (fun r h => ⟨fun c => (h c).2, sem_eq_zero_of_no_sems (by decide) _⟩) (Cert.MergeRefIdeal.Value.run m g)

theorem algebraic : Cert.algebraic_MergeIdeal_MergeRefIdeal (hMergeIdeal := Cert.MergeIdeal.Gen.facts) (hMergeRefIdeal := Cert.MergeRefIdeal.Gen.facts) := by
  intro m g m' g' _ hargs
  refine ⟨fun c => Cert.MergeIdeal.Hand.target m c, ?_, ?_⟩
  · refine (θ_run _ _ _).mono (fun r h c => ⟨?_, (h c).2⟩) (Cert.MergeIdeal.Value.run_blocks m g)
    rw [(h c).1]
    exact Cert.MergeIdeal.Hand.out_eq m c
  · refine (θ_run _ _ _).mono (fun r h c => ⟨?_, (h c).2⟩) (Cert.MergeRefIdeal.Value.run m' g')
    rw [(h c).1, Cert.MergeRefIdeal.Value.result_eq]
    obtain ⟨h0, h1, h2, h3, h4, h5, h6, h7, h8, h9, h10, h11, h12⟩ := hargs c
    rw [h0, h1, h2, h3, h4, h5, h6, h7, h8, h9, h10, h11, h12]

end Cert.MergeClaims

end
-- ==== Proof.DaIdealBody.lean ====
module

public import proofs.«01_k».proof.Proof.Gen.DaIdeal.Frame
public import proofs.«01_k».proof.Proof.Gen.DaIdeal.Skeleton
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Claim
public import Idealize.ShloMosaic.Lib.Pointwise

@[expose] public section

set_option maxRecDepth 16384

noncomputable section

namespace Cert.DaIdeal.Hand

open Cert.DaIdeal Cert.DaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two components of a running buffer -/

/-- Component `k` of a buffer of two rows. -/
def rowV (k : Fin 2) (X : Vec F S2x1x1024 .f32) : Vec F S1x1x1024 .f32 := fun y => X (ix3 k (y 1) (y 2))

/-- Component `k` of a buffer of two matrices. -/
def rowA (k : Fin 2) (X : Vec F S2x128x1024 .f32) : Vec F S1x128x1024 .f32 := fun y => X (ix3 k (y 1) (y 2))

/-- Two rows as one buffer. -/
def pairV (a b : Vec F S1x1x1024 .f32) : Vec F S2x1x1024 .f32 := fun y => if (y 0).val = 0 then a (ix3 0 (y 1) (y 2)) else b (ix3 0 (y 1) (y 2))

/-- Two matrices as one buffer. -/
def pairA (a b : Vec F S1x128x1024 .f32) : Vec F S2x128x1024 .f32 := fun y => if (y 0).val = 0 then a (ix3 0 (y 1) (y 2)) else b (ix3 0 (y 1) (y 2))

theorem rowV_zero (a b : Vec F S1x1x1024 .f32) : rowV 0 (pairV a b) = a := by
  funext y; idx_vars y; obtain rfl : y0 = 0 := Subsingleton.elim _ _; rfl

theorem rowV_one (a b : Vec F S1x1x1024 .f32) : rowV 1 (pairV a b) = b := by
  funext y; idx_vars y; obtain rfl : y0 = 0 := Subsingleton.elim _ _; rfl

theorem rowA_zero (a b : Vec F S1x128x1024 .f32) : rowA 0 (pairA a b) = a := by
  funext y; idx_vars y; obtain rfl : y0 = 0 := Subsingleton.elim _ _; rfl

theorem rowA_one (a b : Vec F S1x128x1024 .f32) : rowA 1 (pairA a b) = b := by
  funext y; idx_vars y; obtain rfl : y0 = 0 := Subsingleton.elim _ _; rfl

theorem pairV_rows (X : Vec F S2x1x1024 .f32) : pairV (rowV 0 X) (rowV 1 X) = X := by
  funext y; idx_vars y; fin_cases y0 <;> rfl

theorem pairA_rows (X : Vec F S2x128x1024 .f32) : pairA (rowA 0 X) (rowA 1 X) = X := by
  funext y; idx_vars y; fin_cases y0 <;> rfl

theorem readV_zero {κ : Kind} {sp : Space} (v : View sig κ sp S2x1x1024 .f32) (f : v.ty.Contents (Elt F)) :
    v.readAt (Elt F) (Rect.unit (s := S2x1x1024) ![0, 0, 0] S1x1x1024.size inb_S2x1x1024_S1x1x1024_0_0_0).toLoadRect f = rowV 0 (v.read (Elt F) f) := by
  funext y; idx_vars y
  refine congrArg (v.read (Elt F) f) (funext fun a => Fin.ext ?_)
  fin_cases a
  · have h : y0.val < 1 := y0.isLt; show 0 + 1 * y0.val = 0; omega
  · show 0 + 1 * y1.val = y1.val; omega
  · show 0 + 1 * y2.val = y2.val; omega

theorem writeV_zero {κ : Kind} {sp : Space} (v : View sig κ sp S2x1x1024 .f32) (f : v.ty.Contents (Elt F)) (w : Vec F S1x1x1024 .f32)
    (L : List (View.Piece (Elt F) S2x1x1024 .f32)) :
    v.read (Elt F) (v.writes (Elt F) f (⟨Rect.unit (s := S2x1x1024) ![0, 0, 0] S1x1x1024.size inb_S2x1x1024_S1x1x1024_0_0_0, w⟩ :: L))
      = pairV w (rowV 1 (v.read (Elt F) (v.writes (Elt F) f L))) := by
  rw [View.read_writes_cons_put v f _ _ L rfl]
  funext y; idx_vars y
  unfold VecWindow.put pairV rowV
  fin_cases y0
  · have h : ∀ a, ![0, 0, 0] a ≤ ((ix3 (0 : Fin 2) y1 y2 : S2x1x1024.Idx) a).val ∧ ((ix3 (0 : Fin 2) y1 y2 : S2x1x1024.Idx) a).val < ![0, 0, 0] a + S1x1x1024.size a := by
      intro a; fin_cases a
      · exact ⟨by show 0 ≤ 0; omega, by show 0 < 0 + 1; omega⟩
      · exact ⟨Nat.zero_le _, by show y1.val < 0 + 1; omega⟩
      · exact ⟨Nat.zero_le _, by show y2.val < 0 + 1024; omega⟩
    refine (dif_pos h).trans ?_
    refine Eq.trans (congrArg w (funext fun a => Fin.ext ?_)) (by rfl : w (ix3 0 y1 y2) = _)
    fin_cases a
    · rfl
    · show y1.val - 0 = y1.val; omega
    · show y2.val - 0 = y2.val; omega
  · refine (dif_neg fun h => ?_).trans rfl
    have h0 : 0 ≤ 1 ∧ 1 < 0 + 1 := h 0
    omega

theorem readV_one {κ : Kind} {sp : Space} (v : View sig κ sp S2x1x1024 .f32) (f : v.ty.Contents (Elt F)) :
    v.readAt (Elt F) (Rect.unit (s := S2x1x1024) ![1, 0, 0] S1x1x1024.size inb_S2x1x1024_S1x1x1024_1_0_0).toLoadRect f = rowV 1 (v.read (Elt F) f) := by
  funext y; idx_vars y
  refine congrArg (v.read (Elt F) f) (funext fun a => Fin.ext ?_)
  fin_cases a
  · have h : y0.val < 1 := y0.isLt; show 1 + 1 * y0.val = 1; omega
  · show 0 + 1 * y1.val = y1.val; omega
  · show 0 + 1 * y2.val = y2.val; omega

theorem writeV_one {κ : Kind} {sp : Space} (v : View sig κ sp S2x1x1024 .f32) (f : v.ty.Contents (Elt F)) (w : Vec F S1x1x1024 .f32)
    (L : List (View.Piece (Elt F) S2x1x1024 .f32)) :
    v.read (Elt F) (v.writes (Elt F) f (⟨Rect.unit (s := S2x1x1024) ![1, 0, 0] S1x1x1024.size inb_S2x1x1024_S1x1x1024_1_0_0, w⟩ :: L))
      = pairV (rowV 0 (v.read (Elt F) (v.writes (Elt F) f L))) w := by
  rw [View.read_writes_cons_put v f _ _ L rfl]
  funext y; idx_vars y
  unfold VecWindow.put pairV rowV
  fin_cases y0
  · refine (dif_neg fun h => ?_).trans rfl
    have h0 : 1 ≤ 0 ∧ 0 < 1 + 1 := h 0
    omega
  · have h : ∀ a, ![1, 0, 0] a ≤ ((ix3 (1 : Fin 2) y1 y2 : S2x1x1024.Idx) a).val ∧ ((ix3 (1 : Fin 2) y1 y2 : S2x1x1024.Idx) a).val < ![1, 0, 0] a + S1x1x1024.size a := by
      intro a; fin_cases a
      · exact ⟨by show 1 ≤ 1; omega, by show 1 < 1 + 1; omega⟩
      · exact ⟨Nat.zero_le _, by show y1.val < 0 + 1; omega⟩
      · exact ⟨Nat.zero_le _, by show y2.val < 0 + 1024; omega⟩
    refine (dif_pos h).trans ?_
    refine Eq.trans (congrArg w (funext fun a => Fin.ext ?_)) (by rfl : w (ix3 0 y1 y2) = _)
    fin_cases a
    · rfl
    · show y1.val - 0 = y1.val; omega
    · show y2.val - 0 = y2.val; omega

theorem readA_zero {κ : Kind} {sp : Space} (v : View sig κ sp S2x128x1024 .f32) (f : v.ty.Contents (Elt F)) :
    v.readAt (Elt F) (Rect.unit (s := S2x128x1024) ![0, 0, 0] S1x128x1024.size inb_S2x128x1024_S1x128x1024_0_0_0).toLoadRect f = rowA 0 (v.read (Elt F) f) := by
  funext y; idx_vars y
  refine congrArg (v.read (Elt F) f) (funext fun a => Fin.ext ?_)
  fin_cases a
  · have h : y0.val < 1 := y0.isLt; show 0 + 1 * y0.val = 0; omega
  · show 0 + 1 * y1.val = y1.val; omega
  · show 0 + 1 * y2.val = y2.val; omega

theorem writeA_zero {κ : Kind} {sp : Space} (v : View sig κ sp S2x128x1024 .f32) (f : v.ty.Contents (Elt F)) (w : Vec F S1x128x1024 .f32)
    (L : List (View.Piece (Elt F) S2x128x1024 .f32)) :
    v.read (Elt F) (v.writes (Elt F) f (⟨Rect.unit (s := S2x128x1024) ![0, 0, 0] S1x128x1024.size inb_S2x128x1024_S1x128x1024_0_0_0, w⟩ :: L))
      = pairA w (rowA 1 (v.read (Elt F) (v.writes (Elt F) f L))) := by
  rw [View.read_writes_cons_put v f _ _ L rfl]
  funext y; idx_vars y
  unfold VecWindow.put pairA rowA
  fin_cases y0
  · have h : ∀ a, ![0, 0, 0] a ≤ ((ix3 (0 : Fin 2) y1 y2 : S2x128x1024.Idx) a).val ∧ ((ix3 (0 : Fin 2) y1 y2 : S2x128x1024.Idx) a).val < ![0, 0, 0] a + S1x128x1024.size a := by
      intro a; fin_cases a
      · exact ⟨by show 0 ≤ 0; omega, by show 0 < 0 + 1; omega⟩
      · exact ⟨Nat.zero_le _, by show y1.val < 0 + 128; omega⟩
      · exact ⟨Nat.zero_le _, by show y2.val < 0 + 1024; omega⟩
    refine (dif_pos h).trans ?_
    refine Eq.trans (congrArg w (funext fun a => Fin.ext ?_)) (by rfl : w (ix3 0 y1 y2) = _)
    fin_cases a
    · rfl
    · show y1.val - 0 = y1.val; omega
    · show y2.val - 0 = y2.val; omega
  · refine (dif_neg fun h => ?_).trans rfl
    have h0 : 0 ≤ 1 ∧ 1 < 0 + 1 := h 0
    omega

theorem readA_one {κ : Kind} {sp : Space} (v : View sig κ sp S2x128x1024 .f32) (f : v.ty.Contents (Elt F)) :
    v.readAt (Elt F) (Rect.unit (s := S2x128x1024) ![1, 0, 0] S1x128x1024.size inb_S2x128x1024_S1x128x1024_1_0_0).toLoadRect f = rowA 1 (v.read (Elt F) f) := by
  funext y; idx_vars y
  refine congrArg (v.read (Elt F) f) (funext fun a => Fin.ext ?_)
  fin_cases a
  · have h : y0.val < 1 := y0.isLt; show 1 + 1 * y0.val = 1; omega
  · show 0 + 1 * y1.val = y1.val; omega
  · show 0 + 1 * y2.val = y2.val; omega

theorem writeA_one {κ : Kind} {sp : Space} (v : View sig κ sp S2x128x1024 .f32) (f : v.ty.Contents (Elt F)) (w : Vec F S1x128x1024 .f32)
    (L : List (View.Piece (Elt F) S2x128x1024 .f32)) :
    v.read (Elt F) (v.writes (Elt F) f (⟨Rect.unit (s := S2x128x1024) ![1, 0, 0] S1x128x1024.size inb_S2x128x1024_S1x128x1024_1_0_0, w⟩ :: L))
      = pairA (rowA 0 (v.read (Elt F) (v.writes (Elt F) f L))) w := by
  rw [View.read_writes_cons_put v f _ _ L rfl]
  funext y; idx_vars y
  unfold VecWindow.put pairA rowA
  fin_cases y0
  · refine (dif_neg fun h => ?_).trans rfl
    have h0 : 1 ≤ 0 ∧ 0 < 1 + 1 := h 0
    omega
  · have h : ∀ a, ![1, 0, 0] a ≤ ((ix3 (1 : Fin 2) y1 y2 : S2x128x1024.Idx) a).val ∧ ((ix3 (1 : Fin 2) y1 y2 : S2x128x1024.Idx) a).val < ![1, 0, 0] a + S1x128x1024.size a := by
      intro a; fin_cases a
      · exact ⟨by show 1 ≤ 1; omega, by show 1 < 1 + 1; omega⟩
      · exact ⟨Nat.zero_le _, by show y1.val < 0 + 128; omega⟩
      · exact ⟨Nat.zero_le _, by show y2.val < 0 + 1024; omega⟩
    refine (dif_pos h).trans ?_
    refine Eq.trans (congrArg w (funext fun a => Fin.ext ?_)) (by rfl : w (ix3 0 y1 y2) = _)
    fin_cases a
    · rfl
    · show y1.val - 0 = y1.val; omega
    · show y2.val - 0 = y2.val; omega

theorem rowV_zero_write_zero {κ : Kind} {sp : Space} (v : View sig κ sp S2x1x1024 .f32) (f : v.ty.Contents (Elt F)) (w : Vec F S1x1x1024 .f32)
    (L : List (View.Piece (Elt F) S2x1x1024 .f32)) :
    rowV 0 (v.read (Elt F) (v.writes (Elt F) f (⟨Rect.unit (s := S2x1x1024) ![0, 0, 0] S1x1x1024.size inb_S2x1x1024_S1x1x1024_0_0_0, w⟩ :: L))) = w :=
  (congrArg (rowV 0) (writeV_zero v f w L)).trans (rowV_zero _ _)

theorem rowV_one_write_zero {κ : Kind} {sp : Space} (v : View sig κ sp S2x1x1024 .f32) (f : v.ty.Contents (Elt F)) (w : Vec F S1x1x1024 .f32)
    (L : List (View.Piece (Elt F) S2x1x1024 .f32)) :
    rowV 1 (v.read (Elt F) (v.writes (Elt F) f (⟨Rect.unit (s := S2x1x1024) ![0, 0, 0] S1x1x1024.size inb_S2x1x1024_S1x1x1024_0_0_0, w⟩ :: L))) = rowV 1 (v.read (Elt F) (v.writes (Elt F) f L)) :=
  (congrArg (rowV 1) (writeV_zero v f w L)).trans (rowV_one _ _)

theorem rowV_zero_write_one {κ : Kind} {sp : Space} (v : View sig κ sp S2x1x1024 .f32) (f : v.ty.Contents (Elt F)) (w : Vec F S1x1x1024 .f32)
    (L : List (View.Piece (Elt F) S2x1x1024 .f32)) :
    rowV 0 (v.read (Elt F) (v.writes (Elt F) f (⟨Rect.unit (s := S2x1x1024) ![1, 0, 0] S1x1x1024.size inb_S2x1x1024_S1x1x1024_1_0_0, w⟩ :: L))) = rowV 0 (v.read (Elt F) (v.writes (Elt F) f L)) :=
  (congrArg (rowV 0) (writeV_one v f w L)).trans (rowV_zero _ _)

theorem rowV_one_write_one {κ : Kind} {sp : Space} (v : View sig κ sp S2x1x1024 .f32) (f : v.ty.Contents (Elt F)) (w : Vec F S1x1x1024 .f32)
    (L : List (View.Piece (Elt F) S2x1x1024 .f32)) :
    rowV 1 (v.read (Elt F) (v.writes (Elt F) f (⟨Rect.unit (s := S2x1x1024) ![1, 0, 0] S1x1x1024.size inb_S2x1x1024_S1x1x1024_1_0_0, w⟩ :: L))) = w :=
  (congrArg (rowV 1) (writeV_one v f w L)).trans (rowV_one _ _)

theorem rowA_zero_write_zero {κ : Kind} {sp : Space} (v : View sig κ sp S2x128x1024 .f32) (f : v.ty.Contents (Elt F)) (w : Vec F S1x128x1024 .f32)
    (L : List (View.Piece (Elt F) S2x128x1024 .f32)) :
    rowA 0 (v.read (Elt F) (v.writes (Elt F) f (⟨Rect.unit (s := S2x128x1024) ![0, 0, 0] S1x128x1024.size inb_S2x128x1024_S1x128x1024_0_0_0, w⟩ :: L))) = w :=
  (congrArg (rowA 0) (writeA_zero v f w L)).trans (rowA_zero _ _)

theorem rowA_one_write_zero {κ : Kind} {sp : Space} (v : View sig κ sp S2x128x1024 .f32) (f : v.ty.Contents (Elt F)) (w : Vec F S1x128x1024 .f32)
    (L : List (View.Piece (Elt F) S2x128x1024 .f32)) :
    rowA 1 (v.read (Elt F) (v.writes (Elt F) f (⟨Rect.unit (s := S2x128x1024) ![0, 0, 0] S1x128x1024.size inb_S2x128x1024_S1x128x1024_0_0_0, w⟩ :: L))) = rowA 1 (v.read (Elt F) (v.writes (Elt F) f L)) :=
  (congrArg (rowA 1) (writeA_zero v f w L)).trans (rowA_one _ _)

theorem rowA_zero_write_one {κ : Kind} {sp : Space} (v : View sig κ sp S2x128x1024 .f32) (f : v.ty.Contents (Elt F)) (w : Vec F S1x128x1024 .f32)
    (L : List (View.Piece (Elt F) S2x128x1024 .f32)) :
    rowA 0 (v.read (Elt F) (v.writes (Elt F) f (⟨Rect.unit (s := S2x128x1024) ![1, 0, 0] S1x128x1024.size inb_S2x128x1024_S1x128x1024_1_0_0, w⟩ :: L))) = rowA 0 (v.read (Elt F) (v.writes (Elt F) f L)) :=
  (congrArg (rowA 0) (writeA_one v f w L)).trans (rowA_zero _ _)

theorem rowA_one_write_one {κ : Kind} {sp : Space} (v : View sig κ sp S2x128x1024 .f32) (f : v.ty.Contents (Elt F)) (w : Vec F S1x128x1024 .f32)
    (L : List (View.Piece (Elt F) S2x128x1024 .f32)) :
    rowA 1 (v.read (Elt F) (v.writes (Elt F) f (⟨Rect.unit (s := S2x128x1024) ![1, 0, 0] S1x128x1024.size inb_S2x128x1024_S1x128x1024_1_0_0, w⟩ :: L))) = w :=
  (congrArg (rowA 1) (writeA_one v f w L)).trans (rowA_one _ _)

theorem rowV_zero_keep {κ : Kind} {sp : Space} (v : View sig κ sp S2x1x1024 .f32) (f : v.ty.Contents (Elt F)) (w : Vec F S1x1x1024 .f32) :
    rowV 0 (v.read (Elt F) (v.writes (Elt F) f [⟨Rect.unit (s := S2x1x1024) ![1, 0, 0] S1x1x1024.size inb_S2x1x1024_S1x1x1024_1_0_0, w⟩])) = rowV 0 (v.read (Elt F) f) :=
  (rowV_zero_write_one v f w []).trans (by rw [View.writes_nil])

theorem rowA_zero_keep {κ : Kind} {sp : Space} (v : View sig κ sp S2x128x1024 .f32) (f : v.ty.Contents (Elt F)) (w : Vec F S1x128x1024 .f32) :
    rowA 0 (v.read (Elt F) (v.writes (Elt F) f [⟨Rect.unit (s := S2x128x1024) ![1, 0, 0] S1x128x1024.size inb_S2x128x1024_S1x128x1024_1_0_0, w⟩])) = rowA 0 (v.read (Elt F) f) :=
  (rowA_zero_write_one v f w []).trans (by rw [View.writes_nil])

/-! ## The first component's operations are the second's -/

theorem pay25_eq (q : FVec F S1024x128 .bf16) (kc : Vec F S1x1x256x128 .bf16) : k0_pay25 q kc = k0_pay31 q kc := rfl

theorem pay26_eq (q : FVec F S1024x128 .bf16) (kc : Vec F S1x1x256x128 .bf16) : k0_pay26 q kc = k0_pay32 q kc := by
  unfold k0_pay26 k0_pay32; simp only [pay25_eq]

theorem pay27_eq (q : FVec F S1024x128 .bf16) (kc : Vec F S1x1x256x128 .bf16) : k0_pay27 q kc = k0_pay33 q kc := by
  unfold k0_pay27 k0_pay33; simp only [pay25_eq, pay26_eq]

theorem pay28_eq (q : FVec F S1024x128 .bf16) (kc : Vec F S1x1x256x128 .bf16) : k0_pay28 q kc = k0_pay34 q kc := by
  unfold k0_pay28 k0_pay34; simp only [pay26_eq]

theorem pay29_eq (q : FVec F S1024x128 .bf16) (kc : Vec F S1x1x256x128 .bf16) : k0_pay29 q kc = k0_pay41 (k0_pay33 q kc) := by
  unfold k0_pay29 k0_pay41; simp only [pay27_eq]

theorem pay30_eq (q : FVec F S1024x128 .bf16) (kc : Vec F S1x1x256x128 .bf16) (vc : Vec F S1x128x256 .bf16) : k0_pay30 q kc vc = k0_pay42 (k0_pay24 vc) (k0_pay33 q kc) := by
  unfold k0_pay30 k0_pay42; simp only [pay27_eq]

theorem pay45_eq (mx : Vec F S1x1x1024 .f32) : k0_pay45 mx = k0_pay10 mx := rfl

theorem pay46_eq (x : Vec F S1x1024x128 .bf16) (k : Vec F S1x1x2048x128 .bf16) (mx : Vec F S1x1x1024 .f32) : k0_pay46 x k mx = k0_pay11 (k0_pay39 x) (k0_pay43 k) mx := by
  unfold k0_pay46 k0_pay11; simp only [pay45_eq]

theorem pay47_eq (x : Vec F S1x1024x128 .bf16) (k : Vec F S1x1x2048x128 .bf16) (mx : Vec F S1x1x1024 .f32) : k0_pay47 x k mx = k0_pay12 (k0_pay39 x) (k0_pay43 k) mx := by
  unfold k0_pay47 k0_pay12; simp only [pay46_eq]

theorem pay49_eq (x : Vec F S1x1024x128 .bf16) (k : Vec F S1x1x2048x128 .bf16) (mx : Vec F S1x1x1024 .f32) : k0_pay49 x k mx = k0_pay13 (k0_pay39 x) (k0_pay43 k) mx := by
  unfold k0_pay49 k0_pay13; simp only [pay47_eq]

theorem pay1_eq (x : Vec F S1x1024x128 .bf16) (k : Vec F S1x1x2048x128 .bf16) (mx : Vec F S1x1x1024 .f32) (l : Vec F S1x1x1024 .f32) : k0_pay1 (k0_pay47 x k mx) l = k0_pay14 (k0_pay39 x) (k0_pay43 k) mx l := by
  unfold k0_pay1 k0_pay14; simp only [pay47_eq]

theorem pay2_eq (x : Vec F S1x1024x128 .bf16) (k : Vec F S1x1x2048x128 .bf16) (v : Vec F S1x128x2048 .bf16) (mx : Vec F S1x1x1024 .f32) (a : Vec F S1x128x1024 .f32) : k0_pay2 (k0_pay48 x k v mx) a = k0_pay15 (k0_pay39 x) (k0_pay43 k) (k0_pay44 v) mx a := by
  unfold k0_pay2 k0_pay48 k0_pay15; simp only [pay46_eq]

theorem pay3_eq (q : FVec F S1024x128 .bf16) (k : FVec F S2048x128 .bf16) : k0_pay3 q k = k0_pay16 q k := rfl

theorem pay4_eq (q : FVec F S1024x128 .bf16) (k : FVec F S2048x128 .bf16) (mx : Vec F S1x1x1024 .f32) : k0_pay4 q k (k0_pay45 mx) = k0_pay17 q k mx := by
  unfold k0_pay4 k0_pay17; simp only [pay3_eq, pay45_eq]

theorem pay5_eq (q : FVec F S1024x128 .bf16) (k : FVec F S2048x128 .bf16) (mx : Vec F S1x1x1024 .f32) : k0_pay5 q k (k0_pay45 mx) = k0_pay18 q k mx := by
  unfold k0_pay5 k0_pay18; rw [pay4_eq, pay45_eq]

theorem pay6_eq (q : FVec F S1024x128 .bf16) (k : FVec F S2048x128 .bf16) (mx : Vec F S1x1x1024 .f32) : k0_pay6 q k (k0_pay45 mx) = k0_pay19 q k mx := by
  unfold k0_pay6 k0_pay19; simp only [pay4_eq, pay3_eq]

theorem pay7_eq (q : FVec F S1024x128 .bf16) (k : FVec F S2048x128 .bf16) (mx : Vec F S1x1x1024 .f32) (l : Vec F S1x1x1024 .f32) : k0_pay7 q k (k0_pay45 mx) l = k0_pay20 q k mx l := by
  unfold k0_pay7 k0_pay20; simp only [pay5_eq, pay6_eq]

theorem pay8_eq (q : FVec F S1024x128 .bf16) (k : FVec F S2048x128 .bf16) (v : FVec F S128x2048 .bf16) (mx : Vec F S1x1x1024 .f32) (a : Vec F S1x128x1024 .f32) : k0_pay8 q k v (k0_pay45 mx) a = k0_pay21 q k v mx a := by
  unfold k0_pay8 k0_pay21; simp only [pay5_eq, pay6_eq]

theorem pay9_eq (q : FVec F S1024x128 .bf16) (k : FVec F S2048x128 .bf16) (mx : Vec F S1x1x1024 .f32) : k0_pay9 q k (k0_pay45 mx) = k0_pay22 q k mx := by
  unfold k0_pay9 k0_pay22; simp only [pay4_eq]

/-! ## One component's work at a point -/

/-- One component's running buffers: the maxima, the sums of weights, the weighted sums of values. -/
abbrev Comp (F : FTy → Type) [FloatOps F] : Type := Vec F S1x1x1024 .f32 × Vec F S1x1x1024 .f32 × Vec F S1x128x1024 .f32

/-- The sums of a tile's weights against the running maxima are moderate: the tile is added without a new maximum. -/
abbrev Moderate (q : FVec F S1024x128 .bf16) (k : Vec F S1x1x2048x128 .bf16) (mx : Vec F S1x1x1024 .f32) : Prop :=
  Scalar.cmpf .ole (k0_pay13 q (k0_pay43 k) mx) (Scalar.ofBits .f32 0x5F800000#32 : F .f32) = 1#1

/-- A component after a tile of keys. -/
def step (q : FVec F S1024x128 .bf16) (k : Vec F S1x1x2048x128 .bf16) (v : Vec F S1x128x2048 .bf16) (p : Comp F) : Comp F :=
  if Moderate q k p.1 then (p.1, k0_pay14 q (k0_pay43 k) p.1 p.2.1, k0_pay15 q (k0_pay43 k) (k0_pay44 v) p.1 p.2.2)
  else (k0_pay22 q (k0_pay43 k) p.1, k0_pay20 q (k0_pay43 k) p.1 p.2.1, k0_pay21 q (k0_pay43 k) (k0_pay44 v) p.1 p.2.2)

/-- The condition "this is the first key tile of the query tile". -/
abbrev cond0_0 (i : grid0.Coords) : Prop := (Scalar.cmpi .ne (Scalar.extui (Scalar.cmpi .eq (BitVec.ofNat 32 (i 3).val) 0#32)) 0#32) = 1#1
/-- The condition "this is the last key tile of the query tile". -/
abbrev cond0_1 (i : grid0.Coords) : Prop := k0_cond6 i = 1#1

/-- A component after the context keys alone. -/
def context (q : FVec F S1024x128 .bf16) (kc : Vec F S1x1x256x128 .bf16) (vc : Vec F S1x128x256 .bf16) : Comp F :=
  (k0_pay34 q kc, k0_pay41 (k0_pay33 q kc), k0_pay42 (k0_pay24 vc) (k0_pay33 q kc))

/-- What a point works from: at the first key tile the context keys alone, else what the point before left. -/
def start (i : grid0.Coords) (q : FVec F S1024x128 .bf16) (kc : Vec F S1x1x256x128 .bf16) (vc : Vec F S1x128x256 .bf16) (p : Comp F) : Comp F :=
  if cond0_0 i then context q kc vc else p

/-- A component after a point. -/
def point (i : grid0.Coords) (q : FVec F S1024x128 .bf16) (kc : Vec F S1x1x256x128 .bf16) (vc : Vec F S1x128x256 .bf16)
    (k : Vec F S1x1x2048x128 .bf16) (v : Vec F S1x128x2048 .bf16) (p : Comp F) : Comp F :=
  step q k v (start i q kc vc p)

/-- The output block after a point: at the last key tile the finished difference of the two components' quotients, else what it held. -/
def finish (i : grid0.Coords) (lam : Vec F S1x1 .f32) (sub : Vec F S128x1 .f32) (p p' : Comp F) (o : Vec F S1x1024x128 .bf16) : Vec F S1x1024x128 .bf16 :=
  if cond0_1 i then k0_pay35 p.2.2 p.2.1 lam p'.2.2 p'.2.1 sub else o

theorem taken (b : BitVec 1) : Scalar.cmpi .ne (Scalar.extui b : BitVec 32) 0#32 = 1#1 ↔ b = 1#1 := by
  revert b; decide

theorem not_taken (b : BitVec 1) : Scalar.cmpi .ne (Scalar.extui (Scalar.xori b 1#1) : BitVec 32) 0#32 = 1#1 ↔ ¬b = 1#1 := by
  revert b; decide

set_option maxHeartbeats 800000 in
theorem run (c : Dev nD) (i : grid0.Coords) (arg4 : Memref sig .tc .vmem S1x1024x128 .bf16) (harg4 : arg4.IsWhole) (arg5 : Memref sig .tc .vmem S1x1x256x128 .bf16) (harg5 : arg5.IsWhole) (arg6 : Memref sig .tc .vmem S1x128x256 .bf16) (harg6 : arg6.IsWhole) (arg7 : Memref sig .tc .vmem S1x1x2048x128 .bf16) (harg7 : arg7.IsWhole) (arg8 : Memref sig .tc .vmem S1x128x2048 .bf16) (harg8 : arg8.IsWhole) (arg9 : Memref sig .tc .vmem S1x1 .f32) (harg9 : arg9.IsWhole) (arg10 : Memref sig .tc .vmem S128x1 .f32) (harg10 : arg10.IsWhole) (arg11 : Memref sig .tc .vmem S1x1024x128 .bf16) (harg11 : arg11.IsWhole) (arg12 : Memref sig .tc .vmem S2x1x1024 .f32) (harg12 : arg12.IsWhole) (arg13 : Memref sig .tc .vmem S2x1x1024 .f32) (harg13 : arg13.IsWhole) (arg14 : Memref sig .tc .vmem S2x128x1024 .f32) (harg14 : arg14.IsWhole)
    (x0 : Vec F S1x1024x128 .bf16) (x1 : Vec F S1x1x256x128 .bf16) (x2 : Vec F S1x128x256 .bf16) (x3 : Vec F S1x1x2048x128 .bf16) (x4 : Vec F S1x128x2048 .bf16) (x5 : Vec F S1x1 .f32) (x6 : Vec F S128x1 .f32) (x7 : Vec F S1x1024x128 .bf16) (p p' : Comp F)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare (pairV p.1 p'.1) ∗ owns (c : Thread nD τ) arg13 fullShare (pairV p.2.1 p'.2.1) ∗ owns (c : Thread nD τ) arg14 fullShare (pairA p.2.2 p'.2.2)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (finish i x5 x6 (point i (k0_pay39 x0) x1 x2 x3 x4 p) (point i (k0_pay40 x0) x1 x2 x3 x4 p') x7) ∗ owns (c : Thread nD τ) arg12 fullShare (pairV (point i (k0_pay39 x0) x1 x2 x3 x4 p).1 (point i (k0_pay40 x0) x1 x2 x3 x4 p').1) ∗ owns (c : Thread nD τ) arg13 fullShare (pairV (point i (k0_pay39 x0) x1 x2 x3 x4 p).2.1 (point i (k0_pay40 x0) x1 x2 x3 x4 p').2.1) ∗ owns (c : Thread nD τ) arg14 fullShare (pairA (point i (k0_pay39 x0) x1 x2 x3 x4 p).2.2 (point i (k0_pay40 x0) x1 x2 x3 x4 p').2.2)) -∗ K ⟨⟩))
          ⊢ wp frame (wpE (defs₀ (F := F)) Variants.none c none) E (cc0_flash_da i arg4 harg4 arg5 harg5 arg6 harg6 arg7 harg7 arg8 harg8 arg9 harg9 arg10 harg10 arg11 harg11 arg12 harg12 arg13 harg13 arg14 harg14) K := by
    simp only [cc0_flash_da_eq_skeleton]; unfold cc0_flash_da_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hfs0; obtain rfl := harg13.eq_unread hfs1; obtain rfl := harg14.eq_unread hfs2
    sl_exec
    have r4 : View.readAt (Elt F) arg4.view (Rect.unit ![0, 0, 0] S1x1024x128.size inb_S1x1024x128_S1x1024x128_0_0_0).toLoadRect (harg4.unread x0) = x0 :=
      (View.readAt_full _ _ _).trans (harg4.read_unread _)
    have r5 : View.readAt (Elt F) arg5.view (Rect.unit ![0, 0, 0, 0] S1x1x256x128.size inb_S1x1x256x128_S1x1x256x128_0_0_0_0).toLoadRect (harg5.unread x1) = x1 :=
      (View.readAt_full _ _ _).trans (harg5.read_unread _)
    have r6 : View.readAt (Elt F) arg6.view (Rect.unit ![0, 0, 0] S1x128x256.size inb_S1x128x256_S1x128x256_0_0_0).toLoadRect (harg6.unread x2) = x2 :=
      (View.readAt_full _ _ _).trans (harg6.read_unread _)
    have r7 : View.readAt (Elt F) arg7.view (Rect.unit ![0, 0, 0, 0] S1x1x2048x128.size inb_S1x1x2048x128_S1x1x2048x128_0_0_0_0).toLoadRect (harg7.unread x3) = x3 :=
      (View.readAt_full _ _ _).trans (harg7.read_unread _)
    have r8 : View.readAt (Elt F) arg8.view (Rect.unit ![0, 0, 0] S1x128x2048.size inb_S1x128x2048_S1x128x2048_0_0_0).toLoadRect (harg8.unread x4) = x4 :=
      (View.readAt_full _ _ _).trans (harg8.read_unread _)
    have r9 : View.readAt (Elt F) arg9.view (Rect.unit ![0, 0] S1x1.size inb_S1x1_S1x1_0_0).toLoadRect (harg9.unread x5) = x5 :=
      (View.readAt_full _ _ _).trans (harg9.read_unread _)
    have r10 : View.readAt (Elt F) arg10.view (Rect.unit ![0, 0] S128x1.size inb_S128x1_S128x1_0_0).toLoadRect (harg10.unread x6) = x6 :=
      (View.readAt_full _ _ _).trans (harg10.read_unread _)
    have w11 := fun f w L => View.read_writes_full (Val := Elt F) arg11.view f inb_S1x1024x128_S1x1024x128_0_0_0 w L
    have c10 : (run.sl.v10 i = 1#1) = cond0_0 i := rfl
    obtain ⟨S, hS⟩ : ∃ S : Comp F, S = start i (k0_pay39 x0) x1 x2 p := ⟨_, rfl⟩
    obtain ⟨S', hS'⟩ : ∃ S : Comp F, S = start i (k0_pay40 x0) x1 x2 p' := ⟨_, rfl⟩
    have e15 : run.sl.v15 c i arg4 harg4 arg5 harg5 arg12 harg12 x0 x1 p p' = S.1 := by
      unfold run.sl.v15
      refine (readV_zero _ _).trans ?_
      rw [hS]; unfold start
      by_cases h0 : cond0_0 i
      · rw [if_pos h0, dif_pos (c10.mpr h0)]
        refine (rowV_zero_write_one _ _ _ _).trans ((rowV_zero_write_zero _ _ _ _).trans ?_)
        rw [r4, r5]; unfold context; dsimp only; exact pay28_eq _ _
      · rw [if_neg h0, dif_neg (fun h => h0 (c10.mp h)), harg12.read_unread]; exact rowV_zero _ _
    have e58 : run.sl.v58 c i arg4 harg4 arg5 harg5 arg13 harg13 x0 x1 p p' = S.2.1 := by
      unfold run.sl.v58
      refine (readV_zero _ _).trans ?_
      rw [hS]; unfold start
      by_cases h0 : cond0_0 i
      · rw [if_pos h0, dif_pos (c10.mpr h0)]
        refine (rowV_zero_write_one _ _ _ _).trans ((rowV_zero_write_zero _ _ _ _).trans ?_)
        rw [r4, r5]; unfold context; dsimp only; exact pay29_eq _ _
      · rw [if_neg h0, dif_neg (fun h => h0 (c10.mp h)), harg13.read_unread]; exact rowV_zero _ _
    have e64 : run.sl.v64 c i arg4 harg4 arg5 harg5 arg6 harg6 arg14 harg14 x0 x1 x2 p p' = S.2.2 := by
      unfold run.sl.v64
      refine (readA_zero _ _).trans ?_
      rw [hS]; unfold start
      by_cases h0 : cond0_0 i
      · rw [if_pos h0, dif_pos (c10.mpr h0)]
        refine (rowA_zero_write_one _ _ _ _).trans ((rowA_zero_write_zero _ _ _ _).trans ?_)
        rw [r4, r5, r6]; unfold context; dsimp only; exact pay30_eq _ _ _
      · rw [if_neg h0, dif_neg (fun h => h0 (c10.mp h)), harg14.read_unread]; exact rowA_zero _ _
    have b12 : rowV 1 (arg12.view.read (Elt F) (if hc : run.sl.v10 i = 1#1 then arg12.view.writes (Elt F) (harg12.unread (pairV p.1 p'.1))
        [⟨Rect.unit ![1, 0, 0] S1x1x1024.size inb_S2x1x1024_S1x1x1024_1_0_0, run.sl.r_2 c arg4 harg4 arg5 harg5 x0 x1⟩, ⟨Rect.unit ![0, 0, 0] S1x1x1024.size inb_S2x1x1024_S1x1x1024_0_0_0, k0_pay28 (k0_pay39 (View.readAt (Elt F) arg4.view (Rect.unit ![0, 0, 0] S1x1024x128.size inb_S1x1024x128_S1x1024x128_0_0_0).toLoadRect (harg4.unread x0))) (View.readAt (Elt F) arg5.view (Rect.unit ![0, 0, 0, 0] S1x1x256x128.size inb_S1x1x256x128_S1x1x256x128_0_0_0_0).toLoadRect (harg5.unread x1))⟩]
        else harg12.unread (pairV p.1 p'.1))) = S'.1 := by
      rw [hS']; unfold start
      by_cases h0 : cond0_0 i
      · rw [if_pos h0, dif_pos (c10.mpr h0)]
        refine (rowV_one_write_one _ _ _ _).trans ?_
        unfold run.sl.r_2; rw [r4, r5]; unfold context; dsimp only
      · rw [if_neg h0, dif_neg (fun h => h0 (c10.mp h)), harg12.read_unread]; exact rowV_one _ _
    have b13 : rowV 1 (arg13.view.read (Elt F) (if hc : run.sl.v10 i = 1#1 then arg13.view.writes (Elt F) (harg13.unread (pairV p.2.1 p'.2.1))
        [⟨Rect.unit ![1, 0, 0] S1x1x1024.size inb_S2x1x1024_S1x1x1024_1_0_0, k0_pay41 (run.sl.r_1 c arg4 harg4 arg5 harg5 x0 x1)⟩, ⟨Rect.unit ![0, 0, 0] S1x1x1024.size inb_S2x1x1024_S1x1x1024_0_0_0, k0_pay29 (k0_pay39 (View.readAt (Elt F) arg4.view (Rect.unit ![0, 0, 0] S1x1024x128.size inb_S1x1024x128_S1x1024x128_0_0_0).toLoadRect (harg4.unread x0))) (View.readAt (Elt F) arg5.view (Rect.unit ![0, 0, 0, 0] S1x1x256x128.size inb_S1x1x256x128_S1x1x256x128_0_0_0_0).toLoadRect (harg5.unread x1))⟩]
        else harg13.unread (pairV p.2.1 p'.2.1))) = S'.2.1 := by
      rw [hS']; unfold start
      by_cases h0 : cond0_0 i
      · rw [if_pos h0, dif_pos (c10.mpr h0)]
        refine (rowV_one_write_one _ _ _ _).trans ?_
        unfold run.sl.r_1; rw [r4, r5]; unfold context; dsimp only
      · rw [if_neg h0, dif_neg (fun h => h0 (c10.mp h)), harg13.read_unread]; exact rowV_one _ _
    have b14 : rowA 1 (arg14.view.read (Elt F) (if hc : run.sl.v10 i = 1#1 then arg14.view.writes (Elt F) (harg14.unread (pairA p.2.2 p'.2.2))
        [⟨Rect.unit ![1, 0, 0] S1x128x1024.size inb_S2x128x1024_S1x128x1024_1_0_0, k0_pay42 (run.sl.r c arg6 harg6 x2) (run.sl.r_1 c arg4 harg4 arg5 harg5 x0 x1)⟩, ⟨Rect.unit ![0, 0, 0] S1x128x1024.size inb_S2x128x1024_S1x128x1024_0_0_0, k0_pay30 (k0_pay39 (View.readAt (Elt F) arg4.view (Rect.unit ![0, 0, 0] S1x1024x128.size inb_S1x1024x128_S1x1024x128_0_0_0).toLoadRect (harg4.unread x0))) (View.readAt (Elt F) arg5.view (Rect.unit ![0, 0, 0, 0] S1x1x256x128.size inb_S1x1x256x128_S1x1x256x128_0_0_0_0).toLoadRect (harg5.unread x1)) (View.readAt (Elt F) arg6.view (Rect.unit ![0, 0, 0] S1x128x256.size inb_S1x128x256_S1x128x256_0_0_0).toLoadRect (harg6.unread x2))⟩]
        else harg14.unread (pairA p.2.2 p'.2.2))) = S'.2.2 := by
      rw [hS']; unfold start
      by_cases h0 : cond0_0 i
      · rw [if_pos h0, dif_pos (c10.mpr h0)]
        refine (rowA_one_write_one _ _ _ _).trans ?_
        unfold run.sl.r run.sl.r_1; rw [r4, r5, r6]; unfold context; dsimp only
      · rw [if_neg h0, dif_neg (fun h => h0 (c10.mp h)), harg14.read_unread]; exact rowA_one _ _
    have e29 : run.sl.v29 c i arg4 harg4 arg5 harg5 arg7 harg7 arg12 harg12 x0 x1 x3 p p' = Scalar.cmpf .ole (k0_pay13 (k0_pay39 x0) (k0_pay43 x3) S.1) (Scalar.ofBits .f32 0x5F800000#32 : F .f32) := by
      unfold run.sl.v29; rw [r4, r7, e15, pay49_eq]; exact rfl
    have e31 : (run.sl.v31 c i arg4 harg4 arg5 harg5 arg7 harg7 arg12 harg12 x0 x1 x3 p p' = 1#1) ↔ Moderate (k0_pay39 x0) x3 S.1 := by
      unfold run.sl.v31 run.sl.v30; rw [e29]; exact taken _
    have n31 : (Scalar.cmpi .ne (Scalar.extui (Scalar.xori (run.sl.v29 c i arg4 harg4 arg5 harg5 arg7 harg7 arg12 harg12 x0 x1 x3 p p') 1#1) : BitVec 32) 0#32 = 1#1) ↔ ¬Moderate (k0_pay39 x0) x3 S.1 := by
      rw [e29]; exact not_taken _
    have e67 : ¬Moderate (k0_pay39 x0) x3 S.1 → run.sl.v67 c i arg4 harg4 arg5 harg5 arg7 harg7 arg12 harg12 arg13 harg13 x0 x1 x3 p p' = S.2.1 := by
      intro hs; rw [← e58]; unfold run.sl.v67 run.sl.v58; rw [dif_neg (fun h => hs (e31.mp h))]
    have e76 : ¬Moderate (k0_pay39 x0) x3 S.1 → run.sl.v76 c i arg4 harg4 arg5 harg5 arg6 harg6 arg7 harg7 arg8 harg8 arg12 harg12 arg14 harg14 x0 x1 x2 x3 x4 p p' = S.2.2 := by
      intro hs; rw [← e64]; unfold run.sl.v76 run.sl.v64; rw [dif_neg (fun h => hs (e31.mp h))]
    have e35 : run.sl.v35 c i arg4 harg4 arg5 harg5 arg7 harg7 arg12 harg12 x0 x1 x3 p p' = S'.1 := by
      unfold run.sl.v35
      by_cases hs : Moderate (k0_pay39 x0) x3 S.1
      · rw [dif_neg (fun h => n31.mp h hs)]; exact (readV_one _ _).trans b12
      · rw [dif_pos (n31.mpr hs)]; exact (readV_one _ _).trans ((rowV_one_write_zero _ _ _ _).trans b12)
    have e49 : Scalar.cmpf .ole (k0_pay13 (run.sl.r_4 c arg4 harg4 x0) (run.sl.r_5 c arg7 harg7 x3) (run.sl.v35 c i arg4 harg4 arg5 harg5 arg7 harg7 arg12 harg12 x0 x1 x3 p p')) (Scalar.ofBits .f32 0x5F800000#32 : F .f32)
        = Scalar.cmpf .ole (k0_pay13 (k0_pay40 x0) (k0_pay43 x3) S'.1) (Scalar.ofBits .f32 0x5F800000#32 : F .f32) := by
      unfold run.sl.r_4 run.sl.r_5; rw [r4, r7, e35]
    have e51 : (Scalar.cmpi .ne (Scalar.extui (Scalar.cmpf .ole (k0_pay13 (run.sl.r_4 c arg4 harg4 x0) (run.sl.r_5 c arg7 harg7 x3) (run.sl.v35 c i arg4 harg4 arg5 harg5 arg7 harg7 arg12 harg12 x0 x1 x3 p p')) (Scalar.ofBits .f32 0x5F800000#32 : F .f32)) : BitVec 32) 0#32 = 1#1) ↔ Moderate (k0_pay40 x0) x3 S'.1 := by
      rw [e49]; exact taken _
    have n51 : (Scalar.cmpi .ne (Scalar.extui (Scalar.xori (Scalar.cmpf .ole (k0_pay13 (run.sl.r_4 c arg4 harg4 x0) (run.sl.r_5 c arg7 harg7 x3) (run.sl.v35 c i arg4 harg4 arg5 harg5 arg7 harg7 arg12 harg12 x0 x1 x3 p p')) (Scalar.ofBits .f32 0x5F800000#32 : F .f32)) 1#1) : BitVec 32) 0#32 = 1#1) ↔ ¬Moderate (k0_pay40 x0) x3 S'.1 := by
      rw [e49]; exact not_taken _
    have e58_1 : run.sl.v58_1 c i arg4 harg4 arg5 harg5 arg7 harg7 arg12 harg12 arg13 harg13 x0 x1 x3 p p' = S'.2.1 := by
      unfold run.sl.v58_1
      by_cases hs : Moderate (k0_pay39 x0) x3 S.1
      · rw [dif_neg (fun h => n31.mp h hs), dif_pos (e31.mpr hs)]; exact (readV_one _ _).trans ((rowV_one_write_zero _ _ _ _).trans b13)
      · rw [dif_pos (n31.mpr hs), dif_neg (fun h => hs (e31.mp h))]; exact (readV_one _ _).trans ((rowV_one_write_zero _ _ _ _).trans b13)
    have e67_1 : ¬Moderate (k0_pay40 x0) x3 S'.1 → run.sl.v67_1 c i arg4 harg4 arg5 harg5 arg7 harg7 arg12 harg12 arg13 harg13 x0 x1 x3 p p' = S'.2.1 := by
      intro hs; rw [← e58_1]; unfold run.sl.v67_1 run.sl.v58_1; rw [dif_neg (fun h => hs (e51.mp h))]
    have e64_1 : run.sl.v64_1 c i arg4 harg4 arg5 harg5 arg6 harg6 arg7 harg7 arg8 harg8 arg12 harg12 arg14 harg14 x0 x1 x2 x3 x4 p p' = S'.2.2 := by
      unfold run.sl.v64_1
      by_cases hs : Moderate (k0_pay39 x0) x3 S.1
      · rw [dif_neg (fun h => n31.mp h hs), dif_pos (e31.mpr hs)]; exact (readA_one _ _).trans ((rowA_one_write_zero _ _ _ _).trans b14)
      · rw [dif_pos (n31.mpr hs), dif_neg (fun h => hs (e31.mp h))]; exact (readA_one _ _).trans ((rowA_one_write_zero _ _ _ _).trans b14)
    have e76_1 : ¬Moderate (k0_pay40 x0) x3 S'.1 → run.sl.v76_1 c i arg4 harg4 arg5 harg5 arg6 harg6 arg7 harg7 arg8 harg8 arg12 harg12 arg14 harg14 x0 x1 x2 x3 x4 p p' = S'.2.2 := by
      intro hs; rw [← e64_1]; unfold run.sl.v76_1 run.sl.v64_1; rw [dif_neg (fun h => hs (e51.mp h))]
    have e60 : run.sl.v60 c i arg4 harg4 arg5 harg5 arg7 harg7 arg12 harg12 arg13 harg13 x0 x1 x3 p p' = (step (k0_pay39 x0) x3 x4 S).2.1 := by
      unfold run.sl.v60 step
      by_cases hs : Moderate (k0_pay39 x0) x3 S.1
      · rw [if_pos hs]
        by_cases hs' : Moderate (k0_pay40 x0) x3 S'.1
        · rw [dif_neg (fun h => n51.mp h hs'), dif_pos (e51.mpr hs'), dif_neg (fun h => n31.mp h hs), dif_pos (e31.mpr hs)]
          refine (readV_zero _ _).trans ((rowV_zero_keep _ _ _).trans ((rowV_zero_write_zero _ _ _ _).trans ?_))
          unfold run.sl.r_8; rw [r4, r7, e15, e58]; dsimp only; exact pay1_eq _ _ _ _
        · rw [dif_pos (n51.mpr hs'), dif_neg (fun h => hs' (e51.mp h)), dif_neg (fun h => n31.mp h hs), dif_pos (e31.mpr hs)]
          refine (readV_zero _ _).trans ((rowV_zero_keep _ _ _).trans ((rowV_zero_write_zero _ _ _ _).trans ?_))
          unfold run.sl.r_8; rw [r4, r7, e15, e58]; dsimp only; exact pay1_eq _ _ _ _
      · rw [if_neg hs]
        by_cases hs' : Moderate (k0_pay40 x0) x3 S'.1
        · rw [dif_neg (fun h => n51.mp h hs'), dif_pos (e51.mpr hs'), dif_pos (n31.mpr hs)]
          refine (readV_zero _ _).trans ((rowV_zero_keep _ _ _).trans ((rowV_zero_write_zero _ _ _ _).trans ?_))
          unfold run.sl.r_3 run.sl.r_5 run.sl.r_7; rw [e67 hs, r4, r7, e15]; dsimp only; exact pay7_eq _ _ _ _
        · rw [dif_pos (n51.mpr hs'), dif_neg (fun h => hs' (e51.mp h)), dif_pos (n31.mpr hs)]
          refine (readV_zero _ _).trans ((rowV_zero_keep _ _ _).trans ((rowV_zero_write_zero _ _ _ _).trans ?_))
          unfold run.sl.r_3 run.sl.r_5 run.sl.r_7; rw [e67 hs, r4, r7, e15]; dsimp only; exact pay7_eq _ _ _ _
    have e58_2 : run.sl.v58_2 c i arg4 harg4 arg5 harg5 arg6 harg6 arg7 harg7 arg8 harg8 arg12 harg12 arg14 harg14 x0 x1 x2 x3 x4 p p' = (step (k0_pay39 x0) x3 x4 S).2.2 := by
      unfold run.sl.v58_2 step
      by_cases hs : Moderate (k0_pay39 x0) x3 S.1
      · rw [if_pos hs]
        by_cases hs' : Moderate (k0_pay40 x0) x3 S'.1
        · rw [dif_neg (fun h => n51.mp h hs'), dif_pos (e51.mpr hs'), dif_neg (fun h => n31.mp h hs), dif_pos (e31.mpr hs)]
          refine (readA_zero _ _).trans ((rowA_zero_keep _ _ _).trans ((rowA_zero_write_zero _ _ _ _).trans ?_))
          unfold run.sl.r_9; rw [r4, r7, r8, e15, e64]; dsimp only; exact pay2_eq _ _ _ _ _
        · rw [dif_pos (n51.mpr hs'), dif_neg (fun h => hs' (e51.mp h)), dif_neg (fun h => n31.mp h hs), dif_pos (e31.mpr hs)]
          refine (readA_zero _ _).trans ((rowA_zero_keep _ _ _).trans ((rowA_zero_write_zero _ _ _ _).trans ?_))
          unfold run.sl.r_9; rw [r4, r7, r8, e15, e64]; dsimp only; exact pay2_eq _ _ _ _ _
      · rw [if_neg hs]
        by_cases hs' : Moderate (k0_pay40 x0) x3 S'.1
        · rw [dif_neg (fun h => n51.mp h hs'), dif_pos (e51.mpr hs'), dif_pos (n31.mpr hs)]
          refine (readA_zero _ _).trans ((rowA_zero_keep _ _ _).trans ((rowA_zero_write_zero _ _ _ _).trans ?_))
          unfold run.sl.r_3 run.sl.r_5 run.sl.r_6 run.sl.r_7; rw [e76 hs, r4, r7, r8, e15]; dsimp only; exact pay8_eq _ _ _ _ _
        · rw [dif_pos (n51.mpr hs'), dif_neg (fun h => hs' (e51.mp h)), dif_pos (n31.mpr hs)]
          refine (readA_zero _ _).trans ((rowA_zero_keep _ _ _).trans ((rowA_zero_write_zero _ _ _ _).trans ?_))
          unfold run.sl.r_3 run.sl.r_5 run.sl.r_6 run.sl.r_7; rw [e76 hs, r4, r7, r8, e15]; dsimp only; exact pay8_eq _ _ _ _ _
    have e67_2 : run.sl.v67_2 c i arg4 harg4 arg5 harg5 arg7 harg7 arg12 harg12 arg13 harg13 x0 x1 x3 p p' = (step (k0_pay40 x0) x3 x4 S').2.1 := by
      unfold run.sl.v67_2 step
      by_cases hs : Moderate (k0_pay40 x0) x3 S'.1
      · rw [if_pos hs, dif_neg (fun h => n51.mp h hs), dif_pos (e51.mpr hs)]
        refine (readV_one _ _).trans ((rowV_one_write_one _ _ _ _).trans ?_)
        rw [e35, e58_1]; unfold run.sl.r_4 run.sl.r_5; rw [r4, r7]
      · rw [if_neg hs, dif_pos (n51.mpr hs)]
        refine (readV_one _ _).trans ((rowV_one_write_one _ _ _ _).trans ?_)
        rw [e35, e67_1 hs]; unfold run.sl.r_4 run.sl.r_5; rw [r4, r7]
    have e65 : run.sl.v65 c i arg4 harg4 arg5 harg5 arg6 harg6 arg7 harg7 arg8 harg8 arg12 harg12 arg14 harg14 x0 x1 x2 x3 x4 p p' = (step (k0_pay40 x0) x3 x4 S').2.2 := by
      unfold run.sl.v65 step
      by_cases hs : Moderate (k0_pay40 x0) x3 S'.1
      · rw [if_pos hs, dif_neg (fun h => n51.mp h hs), dif_pos (e51.mpr hs)]
        refine (readA_one _ _).trans ((rowA_one_write_one _ _ _ _).trans ?_)
        rw [e35, e64_1]; unfold run.sl.r_4 run.sl.r_5 run.sl.r_6; rw [r4, r7, r8]
      · rw [if_neg hs, dif_pos (n51.mpr hs)]
        refine (readA_one _ _).trans ((rowA_one_write_one _ _ _ _).trans ?_)
        rw [e35, e76_1 hs]; unfold run.sl.r_4 run.sl.r_5 run.sl.r_6; rw [r4, r7, r8]
    unfold point
    rw [← hS, ← hS']
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; swap; · iexact H7
      ipureintro
      unfold finish
      by_cases h1 : cond0_1 i
      · rw [if_pos h1, dif_pos h1, r9, r10, e58_2, e60, e65, e67_2]; exact w11 _ _ _
      · rw [if_neg h1, dif_neg h1]; exact harg11.read_unread _
    isplitl [HS0]
    · iexists _; isplitr; swap; · iexact HS0
      ipureintro
      refine (pairV_rows _).symm.trans (congrArg₂ pairV ?_ ?_)
      · unfold step
        by_cases hs : Moderate (k0_pay39 x0) x3 S.1
        · rw [if_pos hs]
          by_cases hs' : Moderate (k0_pay40 x0) x3 S'.1
          · rw [dif_neg (fun h => n51.mp h hs'), dif_neg (fun h => n31.mp h hs)]
            exact (readV_zero _ _).symm.trans e15
          · rw [dif_pos (n51.mpr hs'), dif_neg (fun h => n31.mp h hs)]
            exact (rowV_zero_keep _ _ _).trans ((readV_zero _ _).symm.trans e15)
        · rw [if_neg hs]
          by_cases hs' : Moderate (k0_pay40 x0) x3 S'.1
          · rw [dif_neg (fun h => n51.mp h hs'), dif_pos (n31.mpr hs)]
            refine (rowV_zero_write_zero _ _ _ _).trans ?_
            unfold run.sl.r_3 run.sl.r_5 run.sl.r_7; rw [r4, r7, e15]; dsimp only; exact pay9_eq _ _ _
          · rw [dif_pos (n51.mpr hs'), dif_pos (n31.mpr hs)]
            refine (rowV_zero_keep _ _ _).trans ((rowV_zero_write_zero _ _ _ _).trans ?_)
            unfold run.sl.r_3 run.sl.r_5 run.sl.r_7; rw [r4, r7, e15]; dsimp only; exact pay9_eq _ _ _
      · unfold step
        by_cases hs : Moderate (k0_pay40 x0) x3 S'.1
        · rw [if_pos hs, dif_neg (fun h => n51.mp h hs)]
          exact (readV_one _ _).symm.trans e35
        · rw [if_neg hs, dif_pos (n51.mpr hs)]
          refine (rowV_one_write_one _ _ _ _).trans ?_
          rw [e35]; unfold run.sl.r_4 run.sl.r_5; rw [r4, r7]
    isplitl [HS1]
    · iexists _; isplitr; swap; · iexact HS1
      ipureintro
      exact (pairV_rows _).symm.trans (congrArg₂ pairV ((readV_zero _ _).symm.trans e60) ((readV_one _ _).symm.trans e67_2))
    · iexists _; isplitr; swap; · iexact HS2
      ipureintro
      exact (pairA_rows _).symm.trans (congrArg₂ pairA ((readA_zero _ _).symm.trans e58_2) ((readA_one _ _).symm.trans e65))

end Cert.DaIdeal.Hand
end
-- ==== Proof.DaIdealFrame.lean ====
/- The launch of the attention kernel: what its three running buffers hold after each grid point, the body obligation from
   the one run of MlaBody.lean, and from it the frame: the program ends, its arguments are unchanged, its counters are zero. -/
module

public import proofs.«01_k».proof.Proof.DaIdealBody

@[expose] public section

set_option maxRecDepth 16384

noncomputable section

namespace Cert.DaIdeal.Hand

open Cert.DaIdeal Cert.DaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the memrefs at a point -/

theorem hcond0_0 : ∀ t : Fin cfg0.N, cond0_0 (grid0.coords t) ↔ t.val % 4 = 0 :=
  (fun t => by
    have ht : t.val < 512 := Nat.lt_of_lt_of_eq t.isLt N_0
    have e3 : (grid0.coords t 3).val = t.val / 1 % 4 := Pipeline.Grid.coords_val t 3 (by decide) rfl
    simp only [cond0_0, e3]
    word_cmp
   : ∀ t : Fin grid0.N, cond0_0 (grid0.coords t) ↔ t.val % 4 = 0)

theorem hcond0_1 : ∀ t : Fin cfg0.N, cond0_1 (grid0.coords t) ↔ t.val % 4 = 3 :=
  (fun t => by
    have ht : t.val < 512 := Nat.lt_of_lt_of_eq t.isLt N_0
    have e3 : (grid0.coords t 3).val = t.val / 1 % 4 := Pipeline.Grid.coords_val t 3 (by decide) rfl
    simp only [cond0_1, k0_cond6, e3]
    word_cmp
   : ∀ t : Fin grid0.N, cond0_1 (grid0.coords t) ↔ t.val % 4 = 3)

theorem idle0_7 (t : Fin cfg0.N) : cfg0.idle 7 (grid0.coords t) = !(k0_cond6 (grid0.coords t) == 1#1) := rfl

abbrev ms0_0 (t : Fin cfg0.N) : Memref sig .tc .vmem S1x1024x128 .bf16 := win0_0.stage (cfg0.slots t 0)
abbrev ms0_1 (t : Fin cfg0.N) : Memref sig .tc .vmem S1x1x256x128 .bf16 := win0_1.stage (cfg0.slots t 1)
abbrev ms0_2 (t : Fin cfg0.N) : Memref sig .tc .vmem S1x128x256 .bf16 := win0_2.stage (cfg0.slots t 2)
abbrev ms0_3 (t : Fin cfg0.N) : Memref sig .tc .vmem S1x1x2048x128 .bf16 := win0_3.stage (cfg0.slots t 3)
abbrev ms0_4 (t : Fin cfg0.N) : Memref sig .tc .vmem S1x128x2048 .bf16 := win0_4.stage (cfg0.slots t 4)
abbrev ms0_5 (t : Fin cfg0.N) : Memref sig .tc .vmem S1x1 .f32 := win0_5.stage (cfg0.slots t 5)
abbrev ms0_6 (t : Fin cfg0.N) : Memref sig .tc .vmem S128x1 .f32 := win0_6.stage (cfg0.slots t 6)
abbrev ms0_7 (t : Fin cfg0.N) : Memref sig .tc .vmem S1x1024x128 .bf16 := win0_7.stage (cfg0.slots t 7)
abbrev scM0_0 : Memref sig .tc .vmem S2x1x1024 .f32 := Memref.whole cc0_scratch0
abbrev scM0_1 : Memref sig .tc .vmem S2x1x1024 .f32 := Memref.whole cc0_scratch1
abbrev scM0_2 : Memref sig .tc .vmem S2x128x1024 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the running buffers hold after each point -/

/-- The running buffers, component by component. -/
abbrev Running (F : FTy → Type) [FloatOps F] : Type := Comp F × Comp F

/-- One point's work on the running buffers. -/
def advance (c : Dev nD) (t : Fin cfg0.N) (p : Running F) : Running F :=
  (point (grid0.coords t) (k0_pay39 (iblk m c 0 t)) (iblk m c 1 t) (iblk m c 2 t) (iblk m c 3 t) (iblk m c 4 t) p.1,
   point (grid0.coords t) (k0_pay40 (iblk m c 0 t)) (iblk m c 1 t) (iblk m c 2 t) (iblk m c 3 t) (iblk m c 4 t) p.2)

/-- At the first key tile of a query tile nothing of the earlier contents is used. -/
theorem advance_first (c : Dev nD) (t : Fin cfg0.N) (h : t.val % 4 = 0) (p p' : Running F) : advance m c t p = advance m c t p' := by
  have hc := (hcond0_0 t).mpr h
  unfold advance point start
  simp only [if_pos hc]

/-- The running buffers after the point at position `n`. -/
def running (c : Dev nD) : (n : ℕ) → n < cfg0.N → Running F
  | 0, h => advance m c ⟨0, h⟩ (context (k0_pay39 (iblk m c 0 ⟨0, h⟩)) (iblk m c 1 ⟨0, h⟩) (iblk m c 2 ⟨0, h⟩),
      context (k0_pay40 (iblk m c 0 ⟨0, h⟩)) (iblk m c 1 ⟨0, h⟩) (iblk m c 2 ⟨0, h⟩))
  | n + 1, h => advance m c ⟨n + 1, h⟩ (running c n (Nat.lt_of_succ_lt h))

theorem running_first (c : Dev nD) (t : Fin cfg0.N) (h : t.val % 4 = 0) (p : Running F) :
    running m c t.val t.isLt = advance m c t p := by
  obtain ⟨n, hn⟩ := t
  cases n with
  | zero => exact advance_first m c _ h _ _
  | succ n => exact advance_first m c _ h _ _

theorem running_pos (c : Dev nD) (t : Fin cfg0.N) (h : t.val ≠ 0) :
    running m c t.val t.isLt = advance m c t (running m c (t.val - 1) (Nat.lt_of_le_of_lt (Nat.sub_le _ _) t.isLt)) := by
  obtain ⟨n, hn⟩ := t
  cases n with
  | zero => exact absurd rfl h
  | succ n => rfl

/-- The region's invariant before position `n`: at first the running buffers at anything, then at what the point before left. -/
def PhiS (c : Dev nD) : (n : ℕ) → n ≤ cfg0.N → sProp 𝕄
  | 0, _ => Pipeline.ΦA spec0 c
  | n + 1, hn => iprop(iprop(owns (c : Thread nD τ) scM0_0 fullShare (pairV (running m c n hn).1.1 (running m c n hn).2.1) ∗ owns (c : Thread nD τ) scM0_1 fullShare (pairV (running m c n hn).1.2.1 (running m c n hn).2.2.1) ∗ owns (c : Thread nD τ) scM0_2 fullShare (pairA (running m c n hn).1.2.2 (running m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (pairV (running m c n hn).1.1 (running m c n hn).2.1) ∗ owns (c : Thread nD τ) scM0_1 fullShare (pairV (running m c n hn).1.2.1 (running m c n hn).2.2.1) ∗ owns (c : Thread nD τ) scM0_2 fullShare (pairA (running m c n hn).1.2.2 (running m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare (pairV (running m c (n - 1) (by omega)).1.1 (running m c (n - 1) (by omega)).2.1) ∗ owns (c : Thread nD τ) scM0_1 fullShare (pairV (running m c (n - 1) (by omega)).1.2.1 (running m c (n - 1) (by omega)).2.2.1) ∗ owns (c : Thread nD τ) scM0_2 fullShare (pairA (running m c (n - 1) (by omega)).1.2.2 (running m c (n - 1) (by omega)).2.2.2)) ∗ (∃ r, prngReg c r)) := by
  cases n with
  | zero => exact absurd rfl hz
  | succ n => rfl

/-! ## The pipeline's proof data -/

/-- The finished difference of the two components' quotients. -/
def result (lam : Vec F S1x1 .f32) (sub : Vec F S128x1 .f32) (p : Running F) : Vec F S1x1024x128 .bf16 :=
  k0_pay35 p.1.2.2 p.1.2.1 lam p.2.2.2 p.2.2.1 sub

/-- What the last key tile's point leaves in the output block. -/
def quotient (c : Dev nD) (t : Fin cfg0.N) : Vec F S1x1024x128 .bf16 :=
  result (iblk m c 5 t) (iblk m c 6 t) (running m c t.val t.isLt)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => quotient m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = quotient m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The output block handed back: at the last key tile at the finished difference, elsewhere as it was found. -/
theorem leaves_7 (c : Dev nD) (t : Fin cfg0.N) (p : Running F) (hp : running m c t.val t.isLt = advance m c t p) (d) :
    owns (c : Thread nD τ) (ms0_7 t) fullShare (finish (grid0.coords t) (iblk m c 5 t) (iblk m c 6 t) (advance m c t p).1 (advance m c t p).2 ((dats m 0 c).before 7 t d))
      ⊢ ((dats m 0 c).leavesExact 7 t : sProp 𝕄) := by
  by_cases h1 : t.val % 4 = 3
  · have hc := (hcond0_1 t).mpr h1
    have hi : cfg0.idle 7 (grid0.coords t) = false := by rw [idle0_7, show k0_cond6 (grid0.coords t) = 1#1 from hc]; rfl
    rw [show (dats m 0 c).leavesExact 7 t = owns (c : Thread nD τ) (ms0_7 t) fullShare ((dats m 0 c).after 7 t) from by
      unfold Dat.leavesExact; rw [hi], after0_7]
    unfold finish quotient result
    rw [if_pos hc, hp]
  · have hc : ¬cond0_1 (grid0.coords t) := fun h => h1 ((hcond0_1 t).mp h)
    have hi : cfg0.idle 7 (grid0.coords t) = true := by
      rw [idle0_7]; simpa using (show ¬k0_cond6 (grid0.coords t) = 1#1 from hc)
    have hf : (cfg0.win 7).flush t = false := Bool.eq_false_iff.mpr fun h => h1 ((flush0_7 t).mp h)
    rw [Pipeline.Dat.leavesExact_idle (dats m 0 c) 7 t hi hf]
    unfold finish
    rw [if_neg hc]
    iintro H; iexists d; iexact H

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from rfl, after0_2,
    show (dats m 0 c).leavesExact 3 t = owns (c : Thread nD τ) (ms0_3 t) fullShare ((dats m 0 c).after 3 t) from rfl, after0_3,
    show (dats m 0 c).leavesExact 4 t = owns (c : Thread nD τ) (ms0_4 t) fullShare ((dats m 0 c).after 4 t) from rfl, after0_4,
    show (dats m 0 c).leavesExact 5 t = owns (c : Thread nD τ) (ms0_5 t) fullShare ((dats m 0 c).after 5 t) from rfl, after0_5,
    show (dats m 0 c).leavesExact 6 t = owns (c : Thread nD τ) (ms0_6 t) fullShare ((dats m 0 c).after 6 t) from rfl, after0_6]
  have key : ∀ (p : Running F) (hp : running m c t.val t.isLt = advance m c t p),
      iprop(iprop(iprop(owns (c : Thread nD τ) scM0_0 fullShare (pairV p.1.1 p.2.1) ∗ owns (c : Thread nD τ) scM0_1 fullShare (pairV p.1.2.1 p.2.2.1) ∗ owns (c : Thread nD τ) scM0_2 fullShare (pairA p.1.2.2 p.2.2.2)) ∗ (∃ r, prngReg c r)) ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
      ⊢ wp frame (wpE (defs₀ (F := F)) Variants.none c none) Set.univ (bodyAt0 t) (fun _ => iprop(iprop(iprop(owns (c : Thread nD τ) scM0_0 fullShare (pairV (running m c t.val t.isLt).1.1 (running m c t.val t.isLt).2.1) ∗ owns (c : Thread nD τ) scM0_1 fullShare (pairV (running m c t.val t.isLt).1.2.1 (running m c t.val t.isLt).2.2.1) ∗ owns (c : Thread nD τ) scM0_2 fullShare (pairA (running m c t.val t.isLt).1.2.2 (running m c t.val t.isLt).2.2.2)) ∗ (∃ r, prngReg c r)) ∗ (dats m 0 c).owesAt () t.castSucc
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (iblk m c 6 t)
        ∗ (dats m 0 c).leavesExact 7 t)) := by
    intro p hp
    unfold bodyAt0
    simp only [before0_0, before0_1, before0_2, before0_3, before0_4, before0_5, before0_6]
    rw [hp]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) p.1 p.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7 m c t p hp d7)
    iexact H7
  by_cases hz : t.val = 0
  · rw [PhiS_castSucc m c t, PhiS_zero m c _ _ hz, PhiA0_eq]
    iintro ⟨⟨⟨⟨%e0, HS0⟩, ⟨%e1, HS1⟩, ⟨%e2, HS2⟩⟩, Hg⟩, Hr⟩
    iapply (key ((rowV 0 e0, rowV 0 e1, rowA 0 e2), (rowV 1 e0, rowV 1 e1, rowA 1 e2)) (running_first m c t (by omega) _))
    simp only [pairV_rows, pairA_rows]
    isplitl [HS0 HS1 HS2 Hg]
    · isplitl [HS0 HS1 HS2]
      · isplitl [HS0]; · iexact HS0
        isplitl [HS1]; · iexact HS1
        iexact HS2
      iexact Hg
    iexact Hr
  · rw [PhiS_castSucc m c t, PhiS_pos m c _ _ hz]
    exact key _ (running_pos m c t hz)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program ends, its seven arguments are unchanged and every counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.DaIdeal.Hand

end
-- ==== Proof.DaIdealBlocks.lean ====
/- The blocks the differential attention kernel reads at a grid point, at their places in the arrays. -/
module

public import proofs.«01_k».proof.Proof.DaIdealFrame
public import Idealize.ShloMosaic.Lib.Pointwise
public import Idealize.ShloMosaic.Lib.Pipeline.ValueKit
public import Idealize.ShloMosaic.Lib.Pipeline.Covers

@[expose] public section

set_option maxRecDepth 16384

noncomputable section

namespace Cert.DaIdeal.Hand

open Cert.DaIdeal Cert.DaIdeal.Gen
open Idealize.ShloMosaic Idealize.ShloMosaic.TcCoe

variable (m : (ℓ : Loc nD τ sig) → Buf (Elt Ideal) ℓ)

theorem last (t : Fin cfg0.N) : (grid0.coords t 3).val = t.val % 4 := by
  have e3 : (grid0.coords t 3).val = t.val / 1 % 4 := Pipeline.Grid.coords_val t 3 (by decide) rfl
  rw [e3, Nat.div_one]

theorem coords_val (t : Fin cfg0.N) : ((grid0.coords t 0).val = t.val / 128 % 4 ∧ (grid0.coords t 1).val = t.val / 32 % 4)
    ∧ ((grid0.coords t 2).val = t.val / 4 % 8 ∧ (grid0.coords t 3).val = t.val % 4) :=
  ⟨⟨Pipeline.Grid.coords_val t 0 (by decide) rfl, Pipeline.Grid.coords_val t 1 (by decide) rfl⟩,
   ⟨Pipeline.Grid.coords_val t 2 (by decide) rfl, last t⟩⟩

theorem word (n k : ℕ) (h : n < k) (hk : k ≤ 4294967296) : (BitVec.ofNat 32 n).toNat = n := by
  rw [BitVec.toNat_ofNat]; exact Nat.mod_eq_of_lt (by omega)

theorem index0 (t : Fin cfg0.N) : win0_0.index t = ![t.val / 128 % 4, t.val / 4 % 8, t.val / 32 % 4] := by
  have e := coords_val t
  show cc0_transform_0 (grid0.coords t) = _
  unfold cc0_transform_0
  simp only [e.1.1, e.1.2, e.2.1, e.2.2]
  rw [word _ 4 (by omega) (by omega), word _ 8 (by omega) (by omega), word _ 4 (by omega) (by omega)]

theorem index1 (t : Fin cfg0.N) : win0_1.index t = ![t.val / 128 % 4, t.val / 32 % 4, 0, 0] := by
  have e := coords_val t
  show cc0_transform_1 (grid0.coords t) = _
  unfold cc0_transform_1
  simp only [e.1.1, e.1.2, e.2.1, e.2.2]
  rw [word _ 4 (by omega) (by omega), word _ 4 (by omega) (by omega)]; rfl

theorem index2 (t : Fin cfg0.N) : win0_2.index t = ![t.val / 128 % 4, t.val / 32 % 4, 0] := by
  have e := coords_val t
  show cc0_transform_2 (grid0.coords t) = _
  unfold cc0_transform_2
  simp only [e.1.1, e.1.2, e.2.1, e.2.2]
  rw [word _ 4 (by omega) (by omega), word _ 4 (by omega) (by omega)]; rfl

theorem index3 (t : Fin cfg0.N) : win0_3.index t = ![t.val / 128 % 4, t.val / 32 % 4, t.val % 4, 0] := by
  have e := coords_val t
  show cc0_transform_3 (grid0.coords t) = _
  unfold cc0_transform_3
  simp only [e.1.1, e.1.2, e.2.1, e.2.2]
  rw [word _ 4 (by omega) (by omega), word _ 4 (by omega) (by omega), word _ 4 (by omega) (by omega)]; rfl

theorem index4 (t : Fin cfg0.N) : win0_4.index t = ![t.val / 128 % 4, t.val / 32 % 4, t.val % 4] := by
  have e := coords_val t
  show cc0_transform_4 (grid0.coords t) = _
  unfold cc0_transform_4
  simp only [e.1.1, e.1.2, e.2.1, e.2.2]
  rw [word _ 4 (by omega) (by omega), word _ 4 (by omega) (by omega), word _ 4 (by omega) (by omega)]

theorem index5 (t : Fin cfg0.N) : win0_5.index t = ![0, 0] := rfl

theorem index6 (t : Fin cfg0.N) : win0_6.index t = ![0, 0] := rfl

theorem index7 (t : Fin cfg0.N) : win0_7.index t = ![t.val / 128 % 4, t.val / 4 % 8, t.val / 32 % 4] := by
  have e := coords_val t
  show cc0_transform_7 (grid0.coords t) = _
  unfold cc0_transform_7
  simp only [e.1.1, e.1.2, e.2.1, e.2.2]
  rw [word _ 4 (by omega) (by omega), word _ 8 (by omega) (by omega), word _ 4 (by omega) (by omega)]

theorem iblk0_at (c : Dev nD) (t : Fin cfg0.N) (x : Fin 1024) (d : Fin 128) :
    (iblk m c 0 t : Vec Ideal S1x1024x128 .bf16) (ix3 0 x d)
      = (V m c main_v6 : Vec Ideal S4x8192x512 .bf16) (ix3 ⟨t.val / 128 % 4, by omega⟩ ⟨t.val / 4 % 8 * 1024 + x.val, by omega⟩ ⟨t.val / 32 % 4 * 128 + d.val, by omega⟩) := by
  blk_ext [iblk, index0 t]

theorem iblk1_at (c : Dev nD) (t : Fin cfg0.N) (k : Fin 256) (d : Fin 128) :
    (iblk m c 1 t : Vec Ideal S1x1x256x128 .bf16) (ix4 0 0 k d)
      = (m ((c : Thread nD τ).loc main_arg1) : Vec Ideal S4x4x256x128 .bf16) (ix4 ⟨t.val / 128 % 4, by omega⟩ ⟨t.val / 32 % 4, by omega⟩ k d) := by
  rw [← V_main_arg1 m c]; blk_ext [iblk, index1 t]

theorem iblk2_at (c : Dev nD) (t : Fin cfg0.N) (e : Fin 128) (k : Fin 256) :
    (iblk m c 2 t : Vec Ideal S1x128x256 .bf16) (ix3 0 e k)
      = (m ((c : Thread nD τ).loc main_arg2) : Vec Ideal S4x512x256 .bf16) (ix3 ⟨t.val / 128 % 4, by omega⟩ ⟨t.val / 32 % 4 * 128 + e.val, by omega⟩ k) := by
  rw [← V_main_arg2 m c]; blk_ext [iblk, index2 t]

theorem iblk3_at (c : Dev nD) (t : Fin cfg0.N) (k : Fin 2048) (d : Fin 128) :
    (iblk m c 3 t : Vec Ideal S1x1x2048x128 .bf16) (ix4 0 0 k d)
      = (m ((c : Thread nD τ).loc main_arg3) : Vec Ideal S4x4x8192x128 .bf16) (ix4 ⟨t.val / 128 % 4, by omega⟩ ⟨t.val / 32 % 4, by omega⟩ ⟨t.val % 4 * 2048 + k.val, by omega⟩ d) := by
  rw [← V_main_arg3 m c]; blk_ext [iblk, index3 t]

theorem iblk4_at (c : Dev nD) (t : Fin cfg0.N) (e : Fin 128) (k : Fin 2048) :
    (iblk m c 4 t : Vec Ideal S1x128x2048 .bf16) (ix3 0 e k)
      = (m ((c : Thread nD τ).loc main_arg4) : Vec Ideal S4x512x8192 .bf16) (ix3 ⟨t.val / 128 % 4, by omega⟩ ⟨t.val / 32 % 4 * 128 + e.val, by omega⟩ ⟨t.val % 4 * 2048 + k.val, by omega⟩) := by
  rw [← V_main_arg4 m c]; blk_ext [iblk, index4 t]

theorem iblk5_at (c : Dev nD) (t : Fin cfg0.N) :
    (iblk m c 5 t : Vec Ideal S1x1 .f32) (ix2 0 0) = (m ((c : Thread nD τ).loc main_arg5) : Vec Ideal S1x1 .f32) (ix2 0 0) := by
  rw [← V_main_arg5 m c]; blk_ext [iblk, index5 t]

theorem iblk6_at (c : Dev nD) (t : Fin cfg0.N) (e : Fin 128) :
    (iblk m c 6 t : Vec Ideal S128x1 .f32) (ix2 e 0) = (m ((c : Thread nD τ).loc main_arg6) : Vec Ideal S128x1 .f32) (ix2 e 0) := by
  rw [← V_main_arg6 m c]; blk_ext [iblk, index6 t]

theorem two : Ideal.ofBits .f32 1073741824#32 = ((2 : ℝ) : EReal) := by
  simp [Ideal.ofBits, Ideal.ieee]; rw [← EReal.coe_mul]; norm_num

theorem width : Ideal.ofBits .f32 1115684864#32 = ((64 : ℝ) : EReal) := by
  simp [Ideal.ofBits, Ideal.ieee]; rw [← EReal.coe_mul]; norm_num

/-- The query array, as launched. -/
abbrev queries (c : Dev nD) : FVec Ideal S4x8192x512 .f32 := m ((c : Thread nD τ).loc main_arg0)

/-- The query the kernel reads: the array's, times a host constant. -/
theorem query_at (c : Dev nD) (b : Fin 4) (r : Fin 8192) (x : Fin 512) :
    (V m c main_v6 : FVec Ideal S4x8192x512 .bf16) (ix3 b r x)
      = queries m c (ix3 b r x) * Ideal.div 1 (Ideal.sqrt ((64 : ℝ) : EReal) * Ideal.log ((2 : ℝ) : EReal)) := by
  entry_read
  pointwise
  rw [width, two]

end Cert.DaIdeal.Hand

end
-- ==== Proof.Differential.lean ====
/- Differential attention: the difference of two softmax-weighted sums, and the norm that finishes it. -/
module

public import proofs.«01_k».proof.Proof.Attention

@[expose] public section

noncomputable section

namespace Cert.Differential

open Idealize.ShloMosaic Cert.Softmax

/-- Lane `d` of half `p` of a head's 128 lanes. -/
def lane (p : Fin 2) (d : Fin 64) : Fin 128 := ⟨p.val * 64 + d.val, by omega⟩

/-- A row over the root of its mean square, times a gain and times a constant: 128 entries, a small number added to the mean. -/
def finished (o g : Fin 128 → EReal) (e : Fin 128) : EReal :=
  o e * Ideal.rsqrt (Ideal.div (∑ j, o j * o j) (Ideal.ofBits .f32 0x43000000#32) + Ideal.ofBits .f32 0x358637BD#32) * g e * Ideal.ofBits .f32 0x3F4CCCCD#32

/-- A sum over 128 lanes of products with a factor that is zero on the second half. -/
theorem sum_low (k q : Fin 128 → EReal) : (∑ d : Fin 128, k d * (if d.val < 64 then q d else 0)) = ∑ d : Fin 64, k (lane 0 d) * q (lane 0 d) := by
  have e : (∑ d : Fin 128, k d * (if d.val < 64 then q d else 0)) = ∑ d : Fin (64 + 64), k (Fin.cast rfl d) * (if d.val < 64 then q (Fin.cast rfl d) else 0) := rfl
  rw [e, Fin.sum_univ_add]
  have h0 : ∑ d : Fin 64, k (Fin.cast rfl (Fin.natAdd 64 d)) * (if (Fin.natAdd 64 d).val < 64 then q (Fin.cast rfl (Fin.natAdd 64 d)) else 0) = 0 := by
    refine Finset.sum_eq_zero fun d _ => ?_
    rw [if_neg (by rw [Fin.val_natAdd]; omega), mul_zero]
  rw [h0, add_zero]
  refine Finset.sum_congr rfl fun d _ => ?_
  rw [if_pos (show (Fin.castAdd 64 d).val < 64 from d.isLt)]
  have hl : (Fin.cast rfl (Fin.castAdd 64 d) : Fin 128) = lane 0 d := Fin.ext (by show d.val = 0 * 64 + d.val; omega)
  rw [hl]

/-- A sum over 128 lanes of products with a factor that is zero on the first half. -/
theorem sum_high (k q : Fin 128 → EReal) : (∑ d : Fin 128, k d * (if d.val < 64 then 0 else q d)) = ∑ d : Fin 64, k (lane 1 d) * q (lane 1 d) := by
  have e : (∑ d : Fin 128, k d * (if d.val < 64 then 0 else q d)) = ∑ d : Fin (64 + 64), k (Fin.cast rfl d) * (if d.val < 64 then 0 else q (Fin.cast rfl d)) := rfl
  rw [e, Fin.sum_univ_add]
  have h0 : ∑ d : Fin 64, k (Fin.cast rfl (Fin.castAdd 64 d)) * (if (Fin.castAdd 64 d).val < 64 then 0 else q (Fin.cast rfl (Fin.castAdd 64 d))) = 0 := by
    refine Finset.sum_eq_zero fun d _ => ?_
    rw [if_pos (show (Fin.castAdd 64 d).val < 64 from d.isLt), mul_zero]
  rw [h0, zero_add]
  refine Finset.sum_congr rfl fun d _ => ?_
  rw [if_neg (by rw [Fin.val_natAdd]; omega)]
  have hl : (Fin.cast rfl (Fin.natAdd 64 d) : Fin 128) = lane 1 d := Fin.ext (by show 64 + d.val = 1 * 64 + d.val; omega)
  rw [hl]

/-- A key's share of the weight is real. -/
theorem share_real {N : ℕ} (hN : 0 < N) (T : Fin N → ℝ) (M : ℝ) (k : Fin N) :
    ∃ r : ℝ, Ideal.div (Ideal.exp ((T k : EReal) - (M : EReal))) (∑ k, Ideal.exp ((T k : EReal) - (M : EReal))) = (r : EReal) := by
  have hd : (∑ k, Ideal.exp ((T k : EReal) - (M : EReal))) = ((∑ k, Real.exp (T k - M) : ℝ) : EReal) := by
    rw [coe_sum]
    exact Finset.sum_congr rfl fun k _ => by rw [← EReal.coe_sub, Ideal.exp_coe]
  have hS : 0 < ∑ k, Real.exp (T k - M) := Finset.sum_pos (fun k _ => Real.exp_pos _) ⟨⟨0, hN⟩, Finset.mem_univ _⟩
  refine ⟨Real.exp (T k - M) * (1 / ∑ k, Real.exp (T k - M)), ?_⟩
  rw [hd, ← EReal.coe_sub, Ideal.exp_coe, Ideal.div_coe hS.ne', EReal.coe_mul]

/-- The difference of two weighted sums is the sum weighted by the difference, all factors real. -/
theorem difference {N : ℕ} (V P P' : Fin N → EReal) (l : EReal) (hV : ∀ k, ∃ r : ℝ, V k = r) (hP : ∀ k, ∃ r : ℝ, P k = r) (hP' : ∀ k, ∃ r : ℝ, P' k = r)
    (hl : ∃ r : ℝ, l = r) : (∑ k, V k * P k) - l * ∑ k, V k * P' k = ∑ k, V k * (P k - l * P' k) := by
  choose v hv using hV
  choose p hp using hP
  choose p' hp' using hP'
  obtain ⟨r, rfl⟩ := hl
  simp only [hv, hp, hp', ← EReal.coe_mul, ← EReal.coe_sub, ← coe_sum]
  congr 1
  rw [Finset.mul_sum, ← Finset.sum_sub_distrib]
  exact Finset.sum_congr rfl fun k _ => by ring

end Cert.Differential

end
-- ==== Proof.DaIdealPay.lean ====
/- The differential attention kernel's vector values read at an index, as sums and maxima over the keys of a tile. -/
module

public import proofs.«01_k».proof.Proof.DaIdealBody
public import proofs.«01_k».proof.Proof.Differential
public import Idealize.ShloMosaic.Lib.Pointwise
public import Idealize.ShloMosaic.Lib.Pipeline.ValueKit

@[expose] public section

set_option maxRecDepth 16384

noncomputable section

namespace Cert.DaIdeal.Hand

open Cert.DaIdeal Cert.DaIdeal.Gen Cert.Differential
open Idealize.ShloMosaic

/-- The start of a running maximum: the least extended real. -/
theorem least : Ideal.ofBits .f32 4286578688#32 = (⊥ : EReal) := by
  simp [Ideal.ofBits, Ideal.ieee]

theorem zero16 : Ideal.ofBits .bf16 0#16 = (0 : EReal) := by
  simp [Ideal.ofBits, Ideal.ieee]

/-- Whether a lane lies in the first half. -/
theorem lane_bit (x : Fin 1024) (d : Fin 128) : k0_pay37 (ix2 x d) = BitVec.ofBool (decide (d.val < 64)) := by
  have h : k0_pay37 (ix2 x d) = BitVec.ofBool ((BitVec.ofNat 32 d.val).slt 64#32) := by
    pointwise [k0_pay37]
    rfl
  rw [h]
  clear h
  revert d
  decide

theorem low_at (q : Vec Ideal S1x1024x128 .bf16) (x : Fin 1024) (d : Fin 128) : k0_pay39 q (ix2 x d) = if d.val < 64 then q (ix3 0 x d) else 0 := by
  have h : k0_pay39 q (ix2 x d) = if k0_pay37 (ix2 x d) = 1#1 then q (ix3 0 x d) else Ideal.ofBits .bf16 0#16 := by
    pointwise [k0_pay39, k0_pay36, k0_pay38]
    rfl
  rw [h, lane_bit, zero16]
  by_cases hd : d.val < 64 <;> simp [hd]

theorem high_at (q : Vec Ideal S1x1024x128 .bf16) (x : Fin 1024) (d : Fin 128) : k0_pay40 q (ix2 x d) = if d.val < 64 then 0 else q (ix3 0 x d) := by
  have h : k0_pay40 q (ix2 x d) = if k0_pay37 (ix2 x d) = 1#1 then Ideal.ofBits .bf16 0#16 else q (ix3 0 x d) := by
    pointwise [k0_pay40, k0_pay36, k0_pay38]
    rfl
  rw [h, lane_bit, zero16]
  by_cases hd : d.val < 64 <;> simp [hd]

/-- The queries with all lanes but those of half `p` cleared. -/
def mask (p : Fin 2) (q : Vec Ideal S1x1024x128 .bf16) : FVec Ideal S1024x128 .bf16 := ![k0_pay39 q, k0_pay40 q] p

/-- Against cleared queries a score is a sum over half the lanes. -/
theorem masked_sum (p : Fin 2) (q : Vec Ideal S1x1024x128 .bf16) (x : Fin 1024) (k : Fin 128 → EReal) :
    (∑ d : Fin 128, k d * mask p q (ix2 x d)) = ∑ d : Fin 64, k (lane p d) * q (ix3 0 x (lane p d)) := by
  match p with
  | 0 =>
    rw [← sum_low k fun d => q (ix3 0 x d)]
    exact Finset.sum_congr rfl fun d _ => congrArg (k d * ·) (low_at q x d)
  | 1 =>
    rw [← sum_high k fun d => q (ix3 0 x d)]
    exact Finset.sum_congr rfl fun d _ => congrArg (k d * ·) (high_at q x d)

theorem score_ctx (q : FVec Ideal S1024x128 .bf16) (k : Vec Ideal S1x1x256x128 .bf16) (i : Fin 256) (x : Fin 1024) :
    k0_pay31 q k (ix2 i x) = ∑ d : Fin 128, k (ix4 0 0 i d) * q (ix2 x d) := by
  pointwise [k0_pay31, k0_pay23]

theorem score_lat (q : FVec Ideal S1024x128 .bf16) (k : Vec Ideal S1x1x2048x128 .bf16) (i : Fin 2048) (x : Fin 1024) :
    k0_pay16 q (k0_pay43 k) (ix2 i x) = ∑ d : Fin 128, k (ix4 0 0 i d) * q (ix2 x d) := by
  pointwise [k0_pay16, k0_pay43]

theorem pay34_at (q : FVec Ideal S1024x128 .bf16) (k : Vec Ideal S1x1x256x128 .bf16) (x : Fin 1024) :
    k0_pay34 q k (ix3 0 0 x) = Finset.univ.fold max (⊥ : EReal) fun i : Fin 256 => k0_pay31 q k (ix2 i x) := by
  pointwise [k0_pay34, k0_pay32]
  rw [least]

theorem pay41_at (q : FVec Ideal S1024x128 .bf16) (k : Vec Ideal S1x1x256x128 .bf16) (x : Fin 1024) :
    k0_pay41 (k0_pay33 q k) (ix3 0 0 x) = ∑ i : Fin 256, Ideal.exp2 (k0_pay31 q k (ix2 i x) - k0_pay34 q k (ix3 0 0 x)) := by
  pointwise [k0_pay41, k0_pay34, k0_pay33]
  rfl

theorem pay42_at (q : FVec Ideal S1024x128 .bf16) (k : Vec Ideal S1x1x256x128 .bf16) (v : Vec Ideal S1x128x256 .bf16) (e : Fin 128) (x : Fin 1024) :
    k0_pay42 (k0_pay24 v) (k0_pay33 q k) (ix3 0 e x) = ∑ i : Fin 256, v (ix3 0 e i) * Ideal.exp2 (k0_pay31 q k (ix2 i x) - k0_pay34 q k (ix3 0 0 x)) := by
  pointwise [k0_pay42, k0_pay34, k0_pay33, k0_pay24]
  rfl

theorem pay14_at (q : FVec Ideal S1024x128 .bf16) (k : Vec Ideal S1x1x2048x128 .bf16) (mx l : Vec Ideal S1x1x1024 .f32) (x : Fin 1024) :
    k0_pay14 q (k0_pay43 k) mx l (ix3 0 0 x) = l (ix3 0 0 x) + ∑ i : Fin 2048, Ideal.exp2 (k0_pay16 q (k0_pay43 k) (ix2 i x) - mx (ix3 0 0 x)) := by
  pointwise [k0_pay14, k0_pay12, k0_pay11, k0_pay10, k0_pay16, k0_pay43]
  rfl

theorem pay15_at (q : FVec Ideal S1024x128 .bf16) (k : Vec Ideal S1x1x2048x128 .bf16) (v : Vec Ideal S1x128x2048 .bf16) (mx : Vec Ideal S1x1x1024 .f32)
    (a : Vec Ideal S1x128x1024 .f32) (e : Fin 128) (x : Fin 1024) :
    k0_pay15 q (k0_pay43 k) (k0_pay44 v) mx a (ix3 0 e x) = a (ix3 0 e x) + ∑ i : Fin 2048, v (ix3 0 e i) * Ideal.exp2 (k0_pay16 q (k0_pay43 k) (ix2 i x) - mx (ix3 0 0 x)) := by
  pointwise [k0_pay15, k0_pay11, k0_pay10, k0_pay44, k0_pay16, k0_pay43]
  rfl

theorem pay22_at (q : FVec Ideal S1024x128 .bf16) (k : Vec Ideal S1x1x2048x128 .bf16) (mx : Vec Ideal S1x1x1024 .f32) (x : Fin 1024) :
    k0_pay22 q (k0_pay43 k) mx (ix3 0 0 x) = max (mx (ix3 0 0 x)) (Finset.univ.fold max (⊥ : EReal) fun i : Fin 2048 => k0_pay16 q (k0_pay43 k) (ix2 i x)) := by
  pointwise [k0_pay22, k0_pay17, k0_pay10]
  rw [least]

theorem pay20_at (q : FVec Ideal S1024x128 .bf16) (k : Vec Ideal S1x1x2048x128 .bf16) (mx l : Vec Ideal S1x1x1024 .f32) (x : Fin 1024) :
    k0_pay20 q (k0_pay43 k) mx l (ix3 0 0 x) = Ideal.exp2 (mx (ix3 0 0 x) - k0_pay22 q (k0_pay43 k) mx (ix3 0 0 x)) * l (ix3 0 0 x)
      + ∑ i : Fin 2048, Ideal.exp2 (k0_pay16 q (k0_pay43 k) (ix2 i x) - k0_pay22 q (k0_pay43 k) mx (ix3 0 0 x)) := by
  pointwise [k0_pay20, k0_pay18, k0_pay19, k0_pay22, k0_pay10]
  rfl

theorem pay21_at (q : FVec Ideal S1024x128 .bf16) (k : Vec Ideal S1x1x2048x128 .bf16) (v : Vec Ideal S1x128x2048 .bf16) (mx : Vec Ideal S1x1x1024 .f32)
    (a : Vec Ideal S1x128x1024 .f32) (e : Fin 128) (x : Fin 1024) :
    k0_pay21 q (k0_pay43 k) (k0_pay44 v) mx a (ix3 0 e x) = Ideal.exp2 (mx (ix3 0 0 x) - k0_pay22 q (k0_pay43 k) mx (ix3 0 0 x)) * a (ix3 0 e x)
      + ∑ i : Fin 2048, v (ix3 0 e i) * Ideal.exp2 (k0_pay16 q (k0_pay43 k) (ix2 i x) - k0_pay22 q (k0_pay43 k) mx (ix3 0 0 x)) := by
  pointwise [k0_pay21, k0_pay18, k0_pay19, k0_pay22, k0_pay10, k0_pay44]
  rfl

theorem pay35_at (a a' : Vec Ideal S1x128x1024 .f32) (l l' : Vec Ideal S1x1x1024 .f32) (lam : Vec Ideal S1x1 .f32) (sub : Vec Ideal S128x1 .f32)
    (x : Fin 1024) (e : Fin 128) :
    k0_pay35 a l lam a' l' sub (ix3 0 x e)
      = finished (fun e => Ideal.div (a (ix3 0 e x)) (l (ix3 0 0 x)) - lam (ix2 0 0) * Ideal.div (a' (ix3 0 e x)) (l' (ix3 0 0 x))) (fun e => sub (ix2 e 0)) e := by
  pointwise [k0_pay35, finished]

end Cert.DaIdeal.Hand

end
-- ==== Proof.DaIdealSteps.lean ====
/- One query column through one component of the differential attention kernel: the three running buffers hold a reference value, the sum of the weights
   against it, and the weighted sums of the values, over the keys seen so far. -/
module

public import proofs.«01_k».proof.Proof.DaIdealPay
public import proofs.«01_k».proof.Proof.DaIdealFrame
public import proofs.«01_k».proof.Proof.Softmax

@[expose] public section

set_option maxRecDepth 16384

noncomputable section

namespace Cert.DaIdeal.Hand

open Cert.DaIdeal Cert.DaIdeal.Gen Cert.Softmax
open Idealize.ShloMosaic

/-- Column `x` of a component's running buffers describes the first `n` keys of scores `s` and values `v`. -/
def Holds (s : ℕ → ℝ) (v : Fin 128 → ℕ → EReal) (n : ℕ) (x : Fin 1024) (p : Comp Ideal) : Prop :=
  ∃ r : ℝ, p.1 (ix3 0 0 x) = (r : EReal) ∧ p.2.1 (ix3 0 0 x) = (Sums s n r : EReal) ∧ ∀ e, p.2.2 (ix3 0 e x) = Values s (v e) n r

/-- The context keys alone, from which every query tile starts. -/
theorem holds_start (s : ℕ → ℝ) (v : Fin 128 → ℕ → EReal) (x : Fin 1024) (q : FVec Ideal S1024x128 .bf16) (kc : Vec Ideal S1x1x256x128 .bf16)
    (vc : Vec Ideal S1x128x256 .bf16) (hS : ∀ i : Fin 256, k0_pay31 q kc (ix2 i x) = (s i.val : EReal)) (hV : ∀ e (i : Fin 256), vc (ix3 0 e i) = v e i.val) :
    Holds s v 256 x (context q kc vc) := by
  obtain ⟨r, hr⟩ := fold_real_pos (by decide : 0 < 256) (fun i : Fin 256 => k0_pay31 q kc (ix2 i x)) fun i => ⟨_, hS i⟩
  have hm : k0_pay34 q kc (ix3 0 0 x) = (r : EReal) := (pay34_at q kc x).trans hr
  unfold context Holds
  dsimp only
  refine ⟨r, hm, ?_, fun e => ?_⟩
  · rw [pay41_at, hm]
    have h := Sums_tile s 0 256 r (fun i => k0_pay31 q kc (ix2 i x)) fun i => by rw [hS, Nat.zero_add]
    rw [Nat.zero_add, show Sums s 0 r = 0 from rfl, EReal.coe_zero, zero_add] at h
    exact h
  · rw [pay42_at, hm]
    have h := Values_tile s (v e) 0 256 r (fun i => k0_pay31 q kc (ix2 i x)) (fun i => vc (ix3 0 e i)) (fun i => by rw [hS, Nat.zero_add])
      fun i => by rw [hV, Nat.zero_add]
    rw [Nat.zero_add, show Values s (v e) 0 r = 0 from rfl, zero_add] at h
    exact h

/-- A tile of 2048 keys more, with or without a new maximum. -/
theorem holds_step (s : ℕ → ℝ) (v : Fin 128 → ℕ → EReal) (n : ℕ) (x : Fin 1024) (q : FVec Ideal S1024x128 .bf16) (k : Vec Ideal S1x1x2048x128 .bf16)
    (vt : Vec Ideal S1x128x2048 .bf16) (p : Comp Ideal) (h : Holds s v n x p)
    (hS : ∀ i : Fin 2048, k0_pay16 q (k0_pay43 k) (ix2 i x) = (s (n + i.val) : EReal)) (hV : ∀ e (i : Fin 2048), vt (ix3 0 e i) = v e (n + i.val)) :
    Holds s v (n + 2048) x (step q k vt p) := by
  obtain ⟨mx, l, a⟩ := p
  obtain ⟨r, hm, hl, ha⟩ := h
  dsimp only at hm hl ha
  unfold step Holds
  by_cases hq : Moderate q k mx
  · rw [if_pos hq]
    dsimp only
    refine ⟨r, hm, ?_, fun e => ?_⟩
    · rw [pay14_at, hl, hm]
      exact Sums_tile s n 2048 r _ hS
    · rw [pay15_at, ha, hm]
      exact Values_tile s (v e) n 2048 r _ _ hS (hV e)
  · rw [if_neg hq]
    obtain ⟨r', hr'⟩ := fold_real (fun i : Fin 2048 => k0_pay16 q (k0_pay43 k) (ix2 i x)) (fun i => ⟨_, hS i⟩) r
    have hm' : k0_pay22 q (k0_pay43 k) mx (ix3 0 0 x) = (r' : EReal) := by rw [pay22_at, hm]; exact hr'
    dsimp only
    refine ⟨r', hm', ?_, fun e => ?_⟩
    · rw [pay20_at, hl, hm, hm', exp2_sub, ← EReal.coe_mul, Sums_shift]
      exact Sums_tile s n 2048 r' _ hS
    · rw [pay21_at, ha, hm, hm', exp2_sub, Values_shift]
      exact Values_tile s (v e) n 2048 r' _ _ hS (hV e)

end Cert.DaIdeal.Hand

end
-- ==== Proof.DaRefIdealValue.lean ====
/- The reference's differential attention read at an index: two softmaxes as plain sums, their difference, the norm. -/
module

public import proofs.«01_k».proof.Proof.Gen.DaRefIdeal.Run
public import proofs.«01_k».proof.Proof.Differential
public import Idealize.ShloMosaic.Lib.Pointwise
public import Idealize.ShloMosaic.Lib.Pipeline.ValueKit

@[expose] public section

set_option maxRecDepth 16384

noncomputable section

namespace Cert.DaRefIdeal.Value

open Cert.DaRefIdeal Cert.DaRefIdeal.Gen Cert.Attention Cert.Differential
open Idealize.ShloMosaic

def keys (kc : FVec Ideal S4x4x256x128 .bf16) (kl : FVec Ideal S4x4x8192x128 .bf16) : FVec Ideal S4x4x8448x128 .f32 :=
  extf .f32 (concatenate S4x4x8448x128 2 [⟨S4x4x256x128, kc⟩, ⟨S4x4x8192x128, kl⟩] concatenates_S4x4x256x128_S4x4x8192x128_S4x4x8448x128_d2) bitsLt_bf16_f32

def values (vc : FVec Ideal S4x512x256 .bf16) (vl : FVec Ideal S4x512x8192 .bf16) : FVec Ideal S4x512x8448 .f32 :=
  extf .f32 (concatenate S4x512x8448 2 [⟨S4x512x256, vc⟩, ⟨S4x512x8192, vl⟩] concatenates_S4x512x256_S4x512x8192_S4x512x8448_d2) bitsLt_bf16_f32

def lowQ (q : FVec Ideal S4x8192x512 .f32) : FVec Ideal S4x8192x4x64 .f32 :=
  extractStridedSlice S4x8192x4x64 ![0, 0, 0, 0] (shapeCast _ q shapeCasts_S4x8192x512_S4x8192x4x128) slices_S4x8192x4x128_S4x8192x4x64_0_0_0_0

def highQ (q : FVec Ideal S4x8192x512 .f32) : FVec Ideal S4x8192x4x64 .f32 :=
  extractStridedSlice S4x8192x4x64 ![0, 0, 0, 64] (shapeCast _ q shapeCasts_S4x8192x512_S4x8192x4x128) slices_S4x8192x4x128_S4x8192x4x64_0_0_0_64

def lowK (k : FVec Ideal S4x4x8448x128 .f32) : FVec Ideal S4x4x8448x64 .f32 :=
  extractStridedSlice S4x4x8448x64 ![0, 0, 0, 0] k slices_S4x4x8448x128_S4x4x8448x64_0_0_0_0

def highK (k : FVec Ideal S4x4x8448x128 .f32) : FVec Ideal S4x4x8448x64 .f32 :=
  extractStridedSlice S4x4x8448x64 ![0, 0, 0, 64] k slices_S4x4x8448x128_S4x4x8448x64_0_0_0_64

def products (q : FVec Ideal S4x8192x4x64 .f32) (k : FVec Ideal S4x4x8448x64 .f32) : FVec Ideal S4x4x8192x8448 .f32 :=
  Host.divf (Host.dotGeneral dot_S4x8192x4x64_S4x4x8448x64_S4x4x8192x8448_3_3_1_2_02_01 none q k)
    (broadcastInDim S4x4x8192x8448 ![] bcast_S_S4x4x8192x8448 (Host.sqrt (constant S_ .f32 0x42800000#32)))

/-- The scores of half `p` of the lanes. -/
def scores (p : Fin 2) (q : FVec Ideal S4x8192x512 .f32) (k : FVec Ideal S4x4x8448x128 .f32) : FVec Ideal S4x4x8192x8448 .f32 :=
  ![products (lowQ q) (lowK k), products (highQ q) (highK k)] p

def tops (s : FVec Ideal S4x4x8192x8448 .f32) : FVec Ideal S4x4x8192 .f32 :=
  maximumf (broadcastInDim S4x4x8192 ![] bcast_S_S4x4x8192 (constant S_ .f32 0xFF800000#32))
    (Host.reduce FloatOps.maximumf s (constant S_ .f32 0xFF800000#32) reducesTo_S4x4x8192x8448_S4x4x8192_d3 h_S_)

def weights (s : FVec Ideal S4x4x8192x8448 .f32) (t : FVec Ideal S4x4x8192 .f32) : FVec Ideal S4x4x8192x8448 .f32 :=
  Host.exp (subf s (broadcastInDim S4x4x8192x8448 ![0, 1, 2, 3] bcast_S4x4x8192x1_S4x4x8192x8448_0_1_2_3
    (broadcastInDim S4x4x8192x1 ![0, 1, 2] bcast_S4x4x8192_S4x4x8192x1_0_1_2 t)))

def shares (w : FVec Ideal S4x4x8192x8448 .f32) : FVec Ideal S4x4x8192x8448 .f32 :=
  Host.divf w (broadcastInDim S4x4x8192x8448 ![0, 1, 2, 3] bcast_S4x4x8192x1_S4x4x8192x8448_0_1_2_3
    (broadcastInDim S4x4x8192x1 ![0, 1, 2] bcast_S4x4x8192_S4x4x8192x1_0_1_2
      (Host.reduceAdd w (constant S_ .f32 0x00000000#32) reducesTo_S4x4x8192x8448_S4x4x8192_d3 h_S_)))

def differ (l : FVec Ideal S1x1 .f32) (p p' : FVec Ideal S4x4x8192x8448 .f32) : FVec Ideal S4x4x8192x8448 .f32 :=
  subf p (mulf (broadcastInDim S4x4x8192x8448 ![0, 1, 2, 3] bcast_S1x1x1x1_S4x4x8192x8448_0_1_2_3
    (broadcastInDim S1x1x1x1 ![2, 3] bcast_S1x1_S1x1x1x1_2_3 l)) p')

def mixed (v : FVec Ideal S4x512x8448 .f32) (p : FVec Ideal S4x4x8192x8448 .f32) : FVec Ideal S4x8192x4x128 .f32 :=
  transpose S4x8192x4x128 [0, 3, 1, 2]
    (Host.dotGeneral dot_S4x4x128x8448_S4x4x8192x8448_S4x4x128x8192_3_3_2_2_01_01 none (shapeCast _ v shapeCasts_S4x512x8448_S4x4x128x8448) p)
    transposes_S4x4x128x8192_S4x8192x4x128_0_3_1_2

def normed (o : FVec Ideal S4x8192x4x128 .f32) (g : FVec Ideal S128x1 .f32) : FVec Ideal S4x8192x512 .bf16 :=
  truncf .bf16 (shapeCast _ (mulf (mulf (mulf o (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf o o) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 (shapeCast _ g shapeCasts_S128x1_S128)))) (broadcastInDim S4x8192x4x128 ![] bcast_S_S4x8192x4x128 (constant S_ .f32 0x3F4CCCCD#32))) shapeCasts_S4x8192x4x128_S4x8192x512) bitsLt_bf16_f32

/-- The start of a running maximum: the least extended real. -/
theorem least : Ideal.ofBits .f32 4286578688#32 = (⊥ : EReal) := by
  simp [Ideal.ofBits, Ideal.ieee]

theorem width : Ideal.ofBits .f32 1115684864#32 = ((64 : ℝ) : EReal) := by
  simp [Ideal.ofBits, Ideal.ieee]; rw [← EReal.coe_mul]; norm_num

theorem keys_at (kc : FVec Ideal S4x4x256x128 .bf16) (kl : FVec Ideal S4x4x8192x128 .bf16) (b h : Fin 4) (n : Fin 8448) (d : Fin 128) :
    keys kc kl (ix4 b h n d) = key (fun b h n d => kc (ix4 b h n d)) (fun b h n d => kl (ix4 b h n d)) b h n d := by
  pointwise [keys, key]

theorem values_at (vc : FVec Ideal S4x512x256 .bf16) (vl : FVec Ideal S4x512x8192 .bf16) (b : Fin 4) (x : Fin 512) (n : Fin 8448) :
    values vc vl (ix3 b x n) = value (fun b x n => vc (ix3 b x n)) (fun b x n => vl (ix3 b x n)) b x n := by
  pointwise [values, value]

theorem products_at (q : FVec Ideal S4x8192x4x64 .f32) (k : FVec Ideal S4x4x8448x64 .f32) (b h : Fin 4) (r : Fin 8192) (n : Fin 8448) :
    products q k (ix4 b h r n) = Ideal.div (∑ d : Fin 64, q (ix4 b r h d) * k (ix4 b h n d)) (Ideal.sqrt ((64 : ℝ) : EReal)) := by
  pointwise [products]
  rw [width]

theorem lowQ_at (q : FVec Ideal S4x8192x512 .f32) (b h : Fin 4) (r : Fin 8192) (d : Fin 64) :
    lowQ q (ix4 b r h d) = q (ix3 b r ⟨h.val * 128 + (lane 0 d).val, by omega⟩) := by
  pointwise [lowQ, lane]

theorem highQ_at (q : FVec Ideal S4x8192x512 .f32) (b h : Fin 4) (r : Fin 8192) (d : Fin 64) :
    highQ q (ix4 b r h d) = q (ix3 b r ⟨h.val * 128 + (lane 1 d).val, by omega⟩) := by
  pointwise [highQ, lane]

theorem lowK_at (k : FVec Ideal S4x4x8448x128 .f32) (b h : Fin 4) (n : Fin 8448) (d : Fin 64) : lowK k (ix4 b h n d) = k (ix4 b h n (lane 0 d)) := by
  pointwise [lowK, lane]

theorem highK_at (k : FVec Ideal S4x4x8448x128 .f32) (b h : Fin 4) (n : Fin 8448) (d : Fin 64) : highK k (ix4 b h n d) = k (ix4 b h n (lane 1 d)) := by
  pointwise [highK, lane]

theorem scores_at (p : Fin 2) (q : FVec Ideal S4x8192x512 .f32) (k : FVec Ideal S4x4x8448x128 .f32) (b h : Fin 4) (r : Fin 8192) (n : Fin 8448) :
    scores p q k (ix4 b h r n)
      = Ideal.div (∑ d : Fin 64, q (ix3 b r ⟨h.val * 128 + (lane p d).val, by omega⟩) * k (ix4 b h n (lane p d))) (Ideal.sqrt ((64 : ℝ) : EReal)) := by
  match p with
  | 0 =>
    refine (products_at (lowQ q) (lowK k) b h r n).trans ?_
    simp only [lowQ_at, lowK_at]
  | 1 =>
    refine (products_at (highQ q) (highK k) b h r n).trans ?_
    simp only [highQ_at, highK_at]

/-- The greatest of finitely many reals, at least one of them there, is real. -/
theorem fold_real {ι : Type} (u : Finset ι) (x : ι → EReal) (hx : ∀ i, ∃ r : ℝ, x i = r) (hu : u.Nonempty) :
    ∃ r : ℝ, u.fold max ⊥ x = r := by
  classical
  induction hu using Finset.Nonempty.cons_induction with
  | singleton a => obtain ⟨r, hr⟩ := hx a; exact ⟨r, by rw [Finset.fold_singleton, hr]; simp⟩
  | cons a u ha hu ih =>
    obtain ⟨r, hr⟩ := hx a
    obtain ⟨r', hr'⟩ := ih
    exact ⟨max r r', by rw [Finset.fold_cons, hr, hr']; exact (EReal.coe_strictMono.monotone.map_max).symm⟩

/-- A maximum over an axis of reals is real. -/
theorem reduce_real {s t u : Shape} {axes : List (Fin s.rank)} (x : FVec Ideal s .f32) (init : FVec Ideal u .f32) (h : s.ReducesTo axes t)
    (hu : 0 < u.numel) (j : t.Idx) (hi : init (Shape.Idx.first hu) = (⊥ : EReal)) (hx : ∀ i, ∃ r : ℝ, x i = (r : EReal))
    (hj : ∃ i, h.drop i = j) : ∃ r : ℝ, Host.reduce FloatOps.maximumf x init h hu j = (r : EReal) := by
  rw [Host.reduce_eq_fold, hi]
  obtain ⟨i, hij⟩ := hj
  exact fold_real _ x hx ⟨i, Finset.mem_filter.mpr ⟨Finset.mem_univ i, hij⟩⟩

theorem drop_at (b h : Fin 4) (r : Fin 8192) (n : Fin 8448) :
    (reducesTo_S4x4x8192x8448_S4x4x8192_d3).drop (ix4 b h r n) = ix3 b h r := by
  funext a
  apply Fin.ext
  fin_cases a
  · exact Shape.ReducesTo.drop_apply_val_of_eq reducesTo_S4x4x8192x8448_S4x4x8192_d3 (ix4 b h r n) (0 : Fin 3) 0
  · exact Shape.ReducesTo.drop_apply_val_of_eq reducesTo_S4x4x8192x8448_S4x4x8192_d3 (ix4 b h r n) (1 : Fin 3) 1
  · exact Shape.ReducesTo.drop_apply_val_of_eq reducesTo_S4x4x8192x8448_S4x4x8192_d3 (ix4 b h r n) (2 : Fin 3) 2

theorem top_at (y : FVec Ideal S4x4x8192 .f32) (j : S4x4x8192.Idx) :
    maximumf (broadcastInDim S4x4x8192 ![] bcast_S_S4x4x8192 (constant S_ .f32 0xFF800000#32)) y j = max (⊥ : EReal) (y j) := by
  pointwise
  rw [least]

theorem tops_real (s : FVec Ideal S4x4x8192x8448 .f32) (hs : ∀ i, ∃ r : ℝ, s i = (r : EReal)) (b h : Fin 4) (r : Fin 8192) :
    ∃ r' : ℝ, tops s (ix3 b h r) = (r' : EReal) := by
  obtain ⟨r', hr'⟩ := reduce_real s (constant S_ .f32 0xFF800000#32) reducesTo_S4x4x8192x8448_S4x4x8192_d3 h_S_ (ix3 b h r) least hs ⟨_, drop_at b h r 0⟩
  refine ⟨r', ?_⟩
  unfold tops
  rw [top_at, hr']
  simp

theorem weights_at (s : FVec Ideal S4x4x8192x8448 .f32) (t : FVec Ideal S4x4x8192 .f32) (b h : Fin 4) (r : Fin 8192) (n : Fin 8448) :
    weights s t (ix4 b h r n) = Ideal.exp (s (ix4 b h r n) - t (ix3 b h r)) := by
  pointwise [weights]

theorem shares_at (w : FVec Ideal S4x4x8192x8448 .f32) (b h : Fin 4) (r : Fin 8192) (n : Fin 8448) :
    shares w (ix4 b h r n) = Ideal.div (w (ix4 b h r n)) (∑ n : Fin 8448, w (ix4 b h r n)) := by
  pointwise [shares]

theorem differ_at (l : FVec Ideal S1x1 .f32) (p p' : FVec Ideal S4x4x8192x8448 .f32) (b h : Fin 4) (r : Fin 8192) (n : Fin 8448) :
    differ l p p' (ix4 b h r n) = p (ix4 b h r n) - l (ix2 0 0) * p' (ix4 b h r n) := by
  pointwise [differ]

theorem mixed_at (v : FVec Ideal S4x512x8448 .f32) (p : FVec Ideal S4x4x8192x8448 .f32) (b h : Fin 4) (r : Fin 8192) (e : Fin 128) :
    mixed v p (ix4 b r h e) = ∑ n : Fin 8448, v (ix3 b ⟨h.val * 128 + e.val, by omega⟩ n) * p (ix4 b h r n) := by
  pointwise [mixed]

theorem normed_at (o : FVec Ideal S4x8192x4x128 .f32) (g : FVec Ideal S128x1 .f32) (b : Fin 4) (r : Fin 8192) (x : Fin 512) :
    normed o g (ix3 b r x) = finished (fun e => o (ix4 b r ⟨x.val / 128, by omega⟩ e)) (fun e => g (ix2 e 0)) ⟨x.val % 128, by omega⟩ := by
  pointwise [normed, finished]

/-- The weights of half `p` of the lanes. -/
def shared (p : Fin 2) (q : FVec Ideal S4x8192x512 .f32) (k : FVec Ideal S4x4x8448x128 .f32) : FVec Ideal S4x4x8192x8448 .f32 :=
  shares (weights (scores p q k) (tops (scores p q k)))

/-- The reference's result: differential attention over context and latent keys, normed. -/
def attended (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32) :
    FVec Ideal S4x8192x512 .bf16 :=
  normed (mixed (values vc vl) (differ l (shared 0 q (keys kc kl)) (shared 1 q (keys kc kl)))) g

theorem res_eq (m : (ℓ : Loc nD τ sig) → Buf (Elt Ideal) ℓ) (c : Dev nD) :
    res_main_v63 m c = attended (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem shared_at (p : Fin 2) (q : FVec Ideal S4x8192x512 .f32) (k : FVec Ideal S4x4x8448x128 .f32) (b h : Fin 4) (r : Fin 8192) (n : Fin 8448) :
    shared p q k (ix4 b h r n) = Ideal.div (Ideal.exp (scores p q k (ix4 b h r n) - tops (scores p q k) (ix3 b h r)))
      (∑ n : Fin 8448, Ideal.exp (scores p q k (ix4 b h r n) - tops (scores p q k) (ix3 b h r))) := by
  unfold shared
  simp only [shares_at, weights_at]

theorem attended_at (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (b h : Fin 4) (r : Fin 8192) (e : Fin 128) :
    attended q kc vc kl vl l g (ix3 b r ⟨h.val * 128 + e.val, by omega⟩)
      = finished (fun e => ∑ n : Fin 8448, values vc vl (ix3 b ⟨h.val * 128 + e.val, by omega⟩ n)
          * (shared 0 q (keys kc kl) (ix4 b h r n) - l (ix2 0 0) * shared 1 q (keys kc kl) (ix4 b h r n))) (fun e => g (ix2 e 0)) e := by
  have hh : (⟨(h.val * 128 + e.val) / 128, by omega⟩ : Fin 4) = h := Fin.ext (by show (h.val * 128 + e.val) / 128 = h.val; omega)
  have he : (⟨(h.val * 128 + e.val) % 128, by omega⟩ : Fin 128) = e := Fin.ext (by show (h.val * 128 + e.val) % 128 = e.val; omega)
  unfold attended
  rw [normed_at]
  simp only [hh, he, mixed_at, differ_at]

/-- Every key entry is real when the two arrays' are. -/
theorem keys_real (kc : FVec Ideal S4x4x256x128 .bf16) (kl : FVec Ideal S4x4x8192x128 .bf16) (hkc : ∀ i, ∃ r : ℝ, kc i = (r : EReal))
    (hkl : ∀ i, ∃ r : ℝ, kl i = (r : EReal)) (b h : Fin 4) (n : Fin 8448) (d : Fin 128) : ∃ r : ℝ, keys kc kl (ix4 b h n d) = (r : EReal) := by
  rw [keys_at]; unfold key
  split_ifs
  · exact hkc _
  · exact hkl _

/-- Every value entry is real when the two arrays' are. -/
theorem values_real (vc : FVec Ideal S4x512x256 .bf16) (vl : FVec Ideal S4x512x8192 .bf16) (hvc : ∀ i, ∃ r : ℝ, vc i = (r : EReal))
    (hvl : ∀ i, ∃ r : ℝ, vl i = (r : EReal)) (b : Fin 4) (x : Fin 512) (n : Fin 8448) : ∃ r : ℝ, values vc vl (ix3 b x n) = (r : EReal) := by
  rw [values_at]; unfold value
  split_ifs
  · exact hvc _
  · exact hvl _

/-- Every score is real when the queries and the keys are. -/
theorem scores_real (p : Fin 2) (q : FVec Ideal S4x8192x512 .f32) (k : FVec Ideal S4x4x8448x128 .f32) (hq : ∀ i, ∃ r : ℝ, q i = (r : EReal))
    (hk : ∀ b h n d, ∃ r : ℝ, k (ix4 b h n d) = (r : EReal)) (i : S4x4x8192x8448.Idx) : ∃ r : ℝ, scores p q k i = (r : EReal) := by
  idx_vars i
  rw [scores_at]
  obtain ⟨t, ht, -⟩ := score_real_of 64 (by norm_num) (fun d : Fin 64 => q (ix3 i0 i2 ⟨i1.val * 128 + (lane p d).val, by omega⟩))
    (fun d => k (ix4 i0 i1 i3 (lane p d))) (fun d => hq _) (fun d => hk _ _ _ _)
  exact ⟨t, ht⟩

end Cert.DaRefIdeal.Value

end
-- ==== Proof.DaIdealValue.lean ====
/- The differential attention kernel's result array: at every index the normed difference of the two components' quotients,
   which is the reference's differential attention. -/
module

public import proofs.«01_k».proof.Proof.DaIdealBlocks
public import proofs.«01_k».proof.Proof.DaIdealSteps
public import proofs.«01_k».proof.Proof.DaRefIdealValue

@[expose] public section

set_option maxRecDepth 16384

noncomputable section

namespace Cert.DaIdeal.Hand

open Cert.DaIdeal Cert.DaIdeal.Gen Cert.Softmax Cert.Attention Cert.Differential
open Idealize.ShloMosaic Idealize.ShloMosaic.TcCoe

variable (m : (ℓ : Loc nD τ sig) → Buf (Elt Ideal) ℓ)

abbrev ctxKeys (c : Dev nD) : FVec Ideal S4x4x256x128 .bf16 := m ((c : Thread nD τ).loc main_arg1)
abbrev ctxValues (c : Dev nD) : FVec Ideal S4x512x256 .bf16 := m ((c : Thread nD τ).loc main_arg2)
abbrev latKeys (c : Dev nD) : FVec Ideal S4x4x8192x128 .bf16 := m ((c : Thread nD τ).loc main_arg3)
abbrev latValues (c : Dev nD) : FVec Ideal S4x512x8192 .bf16 := m ((c : Thread nD τ).loc main_arg4)
abbrev lambda (c : Dev nD) : FVec Ideal S1x1 .f32 := m ((c : Thread nD τ).loc main_arg5)
abbrev gain (c : Dev nD) : FVec Ideal S128x1 .f32 := m ((c : Thread nD τ).loc main_arg6)

/-- Key `n` of head `h`, context first. -/
abbrev keyAt (c : Dev nD) (b h : Fin 4) (n : Fin 8448) (d : Fin 128) : EReal :=
  key (fun b h n d => ctxKeys m c (ix4 b h n d)) (fun b h n d => latKeys m c (ix4 b h n d)) b h n d

/-- Value `n` of channel `x`, context first. -/
abbrev valueAt (c : Dev nD) (b : Fin 4) (x : Fin 512) (n : Fin 8448) : EReal :=
  value (fun b x n => ctxValues m c (ix3 b x n)) (fun b x n => latValues m c (ix3 b x n)) b x n

/-- A component's score: the query scaled first. -/
abbrev scoreAt (c : Dev nD) (p : Fin 2) (b h : Fin 4) (r : Fin 8192) (n : Fin 8448) : EReal :=
  ∑ d : Fin 64, keyAt m c b h n (lane p d) * (queries m c (ix3 b r ⟨h.val * 128 + (lane p d).val, by omega⟩)
    * Ideal.div 1 (Ideal.sqrt ((64 : ℝ) : EReal) * Ideal.log ((2 : ℝ) : EReal)))

/-- A grid point `t` works on batch `b`, head `h` and, in its column `x`, query row `r`. -/
structure At (t : Fin cfg0.N) (b h : Fin 4) (r : Fin 8192) (x : Fin 1024) : Prop where
  batch : t.val / 128 % 4 = b.val
  head : t.val / 32 % 4 = h.val
  row : t.val / 4 % 8 * 1024 + x.val = r.val

theorem score_ctx_at (c : Dev nD) (t : Fin cfg0.N) (b h : Fin 4) (r : Fin 8192) (x : Fin 1024) (p : At t b h r x) (u : Fin 2) (i : Fin 256) :
    k0_pay31 (mask u (iblk m c 0 t)) (iblk m c 1 t) (ix2 i x) = scoreAt m c u b h r ⟨i.val, by omega⟩ := by
  obtain ⟨hb, hh, hr⟩ := p
  rw [score_ctx, masked_sum u _ x fun d => (iblk m c 1 t : Vec Ideal S1x1x256x128 .bf16) (ix4 0 0 i d)]
  refine Finset.sum_congr rfl fun d _ => ?_
  rw [iblk0_at, iblk1_at, query_at]
  unfold keyAt key
  rw [dif_pos i.isLt]
  simp only [hb, hh, hr, Fin.eta]

theorem score_lat_at (c : Dev nD) (t : Fin cfg0.N) (b h : Fin 4) (r : Fin 8192) (x : Fin 1024) (p : At t b h r x) (u : Fin 2) (i : Fin 2048) :
    k0_pay16 (mask u (iblk m c 0 t)) (k0_pay43 (iblk m c 3 t)) (ix2 i x) = scoreAt m c u b h r ⟨256 + 2048 * (t.val % 4) + i.val, by omega⟩ := by
  obtain ⟨hb, hh, hr⟩ := p
  rw [score_lat, masked_sum u _ x fun d => (iblk m c 3 t : Vec Ideal S1x1x2048x128 .bf16) (ix4 0 0 i d)]
  refine Finset.sum_congr rfl fun d _ => ?_
  rw [iblk0_at, iblk3_at, query_at]
  unfold keyAt key
  rw [dif_neg (by show ¬(256 + 2048 * (t.val % 4) + i.val < 256); omega)]
  have hn : 256 + 2048 * (t.val % 4) + i.val - 256 = t.val % 4 * 2048 + i.val := by omega
  simp only [hb, hh, hr, hn, Fin.eta]

theorem value_ctx_at (c : Dev nD) (t : Fin cfg0.N) (b h : Fin 4) (r : Fin 8192) (x : Fin 1024) (p : At t b h r x) (e : Fin 128) (i : Fin 256) :
    (iblk m c 2 t : Vec Ideal S1x128x256 .bf16) (ix3 0 e i) = valueAt m c b ⟨h.val * 128 + e.val, by omega⟩ ⟨i.val, by omega⟩ := by
  obtain ⟨hb, hh, hr⟩ := p
  rw [iblk2_at]
  unfold valueAt value
  rw [dif_pos i.isLt]
  simp only [hb, hh, Fin.eta]

theorem value_lat_at (c : Dev nD) (t : Fin cfg0.N) (b h : Fin 4) (r : Fin 8192) (x : Fin 1024) (p : At t b h r x) (e : Fin 128) (i : Fin 2048) :
    (iblk m c 4 t : Vec Ideal S1x128x2048 .bf16) (ix3 0 e i)
      = valueAt m c b ⟨h.val * 128 + e.val, by omega⟩ ⟨256 + 2048 * (t.val % 4) + i.val, by omega⟩ := by
  obtain ⟨hb, hh, hr⟩ := p
  rw [iblk4_at]
  unfold valueAt value
  rw [dif_neg (by show ¬(256 + 2048 * (t.val % 4) + i.val < 256); omega)]
  have hn : 256 + 2048 * (t.val % 4) + i.val - 256 = t.val % 4 * 2048 + i.val := by omega
  simp only [hb, hh, hn, Fin.eta]

/-- A component of the running buffers. -/
def part (u : Fin 2) (p : Running Ideal) : Comp Ideal := ![p.1, p.2] u

theorem part_zero (p : Running Ideal) : part 0 p = p.1 := rfl
theorem part_one (p : Running Ideal) : part 1 p = p.2 := rfl
theorem mask_zero (q : Vec Ideal S1x1024x128 .bf16) : mask 0 q = k0_pay39 q := rfl
theorem mask_one (q : Vec Ideal S1x1024x128 .bf16) : mask 1 q = k0_pay40 q := rfl

theorem part_advance (c : Dev nD) (u : Fin 2) (t : Fin cfg0.N) (p : Running Ideal) :
    part u (advance m c t p)
      = point (grid0.coords t) (mask u (iblk m c 0 t)) (iblk m c 1 t) (iblk m c 2 t) (iblk m c 3 t) (iblk m c 4 t) (part u p) := by
  match u with
  | 0 => rw [part_zero, part_zero, mask_zero]; unfold advance; dsimp only
  | 1 => rw [part_one, part_one, mask_one]; unfold advance; dsimp only

/-- After the point of key tile `j` a component's running buffers describe the context keys and the first `j + 1` tiles. -/
theorem running_holds (c : Dev nD) (u : Fin 2) (b h : Fin 4) (r : Fin 8192) (x : Fin 1024) (s : ℕ → ℝ) (v : Fin 128 → ℕ → EReal)
    (hs : ∀ n : Fin 8448, scoreAt m c u b h r n = (s n.val : EReal))
    (hv : ∀ e (n : Fin 8448), valueAt m c b ⟨h.val * 128 + e.val, by omega⟩ n = v e n.val) :
    ∀ (j : ℕ) (t : Fin cfg0.N), t.val % 4 = j → At t b h r x →
      Holds s v (256 + 2048 * j + 2048) x (part u (running m c t.val t.isLt)) := by
  have next : ∀ (j : ℕ) (t : Fin cfg0.N) (ht : t.val % 4 = j) (p : At t b h r x) (k : Comp Ideal),
      Holds s v (256 + 2048 * j) x k →
      Holds s v (256 + 2048 * j + 2048) x (step (mask u (iblk m c 0 t)) (iblk m c 3 t) (iblk m c 4 t) k) := by
    intro j t ht p k hh
    refine holds_step s v _ x _ _ _ k hh (fun i => ?_) fun e i => ?_
    · rw [score_lat_at m c t b h r x p u i, hs]; simp only [ht]
    · rw [value_lat_at m c t b h r x p e i, hv]; simp only [ht]
  intro j
  induction j with
  | zero =>
    intro t ht p
    have hc := (hcond0_0 t).mpr ht
    rw [running_first m c t ht (running m c t.val t.isLt), part_advance]
    unfold point start
    rw [if_pos hc]
    refine next 0 t ht p _ (holds_start s v x _ _ _ (fun i => ?_) fun e i => ?_)
    · rw [score_ctx_at m c t b h r x p u i, hs]
    · rw [value_ctx_at m c t b h r x p e i, hv]
  | succ j ih =>
    intro t ht p
    have hc : ¬cond0_0 (grid0.coords t) := fun hc => by have := (hcond0_0 t).mp hc; omega
    have hN : t.val < 512 := Nat.lt_of_lt_of_eq t.isLt N_0
    rw [running_pos m c t (by omega), part_advance]
    unfold point start
    rw [if_neg hc]
    obtain ⟨hb, hh, hr⟩ := p
    exact next (j + 1) t ht ⟨hb, hh, hr⟩ _ (ih ⟨t.val - 1, Nat.lt_of_le_of_lt (Nat.sub_le _ _) t.isLt⟩ (by show (t.val - 1) % 4 = j; omega)
      ⟨by show (t.val - 1) / 128 % 4 = _; omega, by show (t.val - 1) / 32 % 4 = _; omega, by show (t.val - 1) / 4 % 8 * 1024 + _ = _; omega⟩)

/-- The keys and values of both kinds, as the reference joins them. -/
abbrev allKeys (c : Dev nD) : FVec Ideal DaRefIdeal.S4x4x8448x128 .f32 := DaRefIdeal.Value.keys (ctxKeys m c) (latKeys m c)
abbrev allValues (c : Dev nD) : FVec Ideal DaRefIdeal.S4x512x8448 .f32 := DaRefIdeal.Value.values (ctxValues m c) (latValues m c)

/-- The reference's differential attention of the kernel's arrays. -/
abbrev target (c : Dev nD) : FVec Ideal S4x8192x512 .bf16 :=
  DaRefIdeal.Value.attended (queries m c) (ctxKeys m c) (ctxValues m c) (latKeys m c) (latValues m c) (lambda m c) (gain m c)

/-- All entries real, but for the gain's. -/
structure Reals (c : Dev nD) : Prop where
  queries : ∀ i, ∃ r : ℝ, queries m c i = (r : EReal)
  ctxKeys : ∀ i, ∃ r : ℝ, ctxKeys m c i = (r : EReal)
  latKeys : ∀ i, ∃ r : ℝ, latKeys m c i = (r : EReal)
  ctxValues : ∀ i, ∃ r : ℝ, ctxValues m c i = (r : EReal)
  latValues : ∀ i, ∃ r : ℝ, latValues m c i = (r : EReal)
  lambda : ∀ i, ∃ r : ℝ, lambda m c i = (r : EReal)

/-- After the last key tile a component's quotient is the reference's weighted sum of the values, its weights real. -/
theorem part_at (c : Dev nD) (H : Reals m c) (u : Fin 2) (t : Fin cfg0.N) (ht : t.val % 4 = 3) (x : Fin 1024) (b h : Fin 4) (r : Fin 8192)
    (p : At t b h r x) :
    (∀ e : Fin 128, Ideal.div ((part u (running m c t.val t.isLt)).2.2 (ix3 0 e x)) ((part u (running m c t.val t.isLt)).2.1 (ix3 0 0 x))
        = ∑ n : Fin 8448, allValues m c (ix3 b ⟨h.val * 128 + e.val, by omega⟩ n) * DaRefIdeal.Value.shared u (queries m c) (allKeys m c) (ix4 b h r n))
      ∧ ∀ n : Fin 8448, ∃ r' : ℝ, DaRefIdeal.Value.shared u (queries m c) (allKeys m c) (ix4 b h r n) = (r' : EReal) := by
  have hkey : ∀ b h n d, ∃ r : ℝ, allKeys m c (ix4 b h n d) = (r : EReal) := DaRefIdeal.Value.keys_real _ _ H.ctxKeys H.latKeys
  choose T hT hT' using fun n : Fin 8448 => score_real_of 64 (by norm_num)
    (fun d : Fin 64 => queries m c (ix3 b r ⟨h.val * 128 + (lane u d).val, by omega⟩))
    (fun d => allKeys m c (ix4 b h n (lane u d))) (fun d => H.queries _) (fun d => hkey b h n _)
  obtain ⟨M, hM⟩ := DaRefIdeal.Value.tops_real _ (DaRefIdeal.Value.scores_real u _ _ H.queries hkey) b h r
  obtain ⟨ρ, -, hl, ha⟩ := running_holds m c u b h r x (fun n => (if hn : n < 8448 then T ⟨n, hn⟩ else 0) / Real.log 2)
    (fun e n => if hn : n < 8448 then valueAt m c b ⟨h.val * 128 + e.val, by omega⟩ ⟨n, hn⟩ else 0)
    (fun n => by
      rw [dif_pos n.isLt, ← hT' n]
      refine Finset.sum_congr rfl fun d _ => ?_
      exact congrArg (· * _) (DaRefIdeal.Value.keys_at _ _ b h n (lane u d)).symm)
    (fun e n => by rw [dif_pos n.isLt]) 3 t ht p
  have hs : ∀ n, DaRefIdeal.Value.scores u (queries m c) (allKeys m c) (ix4 b h r n) = (T n : EReal) := by
    intro n; rw [DaRefIdeal.Value.scores_at]; exact hT n
  refine ⟨fun e => ?_, fun n => ?_⟩
  · rw [hl, ha]
    refine (Softmax.quotient _ (fun n => if hn : n < 8448 then T ⟨n, hn⟩ else 0) _ 8448 (by decide) (fun k => rfl) ρ M
      (fun n => (T n : EReal)) (fun n => valueAt m c b ⟨h.val * 128 + e.val, by omega⟩ n) (fun n => by rw [dif_pos n.isLt]) (fun n => by dsimp only; rw [dif_pos n.isLt])).trans ?_
    simp only [DaRefIdeal.Value.shared_at, hs, hM, DaRefIdeal.Value.values_at]
  · simp only [DaRefIdeal.Value.shared_at, hs, hM]
    exact share_real (by decide) T M n

/-- What the last key tile's point leaves in the output block is the reference's differential attention there. -/
theorem quotient_at (c : Dev nD) (H : Reals m c) (t : Fin cfg0.N) (ht : t.val % 4 = 3) (x : Fin 1024) (e : Fin 128) (b h : Fin 4) (r : Fin 8192)
    (p : At t b h r x) :
    quotient m c t (ix3 0 x e) = target m c (ix3 b r ⟨h.val * 128 + e.val, by omega⟩) := by
  obtain ⟨q0, r0⟩ := part_at m c H 0 t ht x b h r p
  obtain ⟨q1, r1⟩ := part_at m c H 1 t ht x b h r p
  unfold target
  rw [DaRefIdeal.Value.attended_at]
  unfold quotient result
  rw [pay35_at]
  have e1 : ∀ e : Fin 128, Ideal.div ((running m c t.val t.isLt).1.2.2 (ix3 0 e x)) ((running m c t.val t.isLt).1.2.1 (ix3 0 0 x)) = _ := q0
  have e2 : ∀ e : Fin 128, Ideal.div ((running m c t.val t.isLt).2.2.2 (ix3 0 e x)) ((running m c t.val t.isLt).2.2.1 (ix3 0 0 x)) = _ := q1
  refine congrArg₂ (fun o g => finished o g e) (funext fun e => ?_) (funext fun e => iblk6_at m c t e)
  rw [e1, e2, iblk5_at]
  exact difference _ _ _ _ (fun n => DaRefIdeal.Value.values_real _ _ H.ctxValues H.latValues _ _ _) r0 r1 (H.lambda _)

/-- The block of the output that a point writes holds the reference's differential attention at its place in the array. -/
theorem block_at (c : Dev nD) (H : Reals m c) (t : Fin cfg0.N) (ht : t.val % 4 = 3) (y : S1x1024x128.Idx) :
    quotient m c t y = target m c ((win0_7.blk t).view.emb y) := by
  idx_vars y
  obtain rfl : y0 = 0 := Subsingleton.elim _ _
  rw [quotient_at m c H t ht y1 y2 ⟨t.val / 128 % 4, by omega⟩ ⟨t.val / 32 % 4, by omega⟩ ⟨t.val / 4 % 8 * 1024 + y1.val, by omega⟩ ⟨rfl, rfl, rfl⟩]
  blk_ext [index7 t]

/-- The result array after the run is the reference's differential attention. -/
theorem out_eq (c : Dev nD) (H : Reals m c) : (dats m 0 c).arrAt 7 (cfgs 0).N = target m c := by
  refine (dats m 0 c).arrAt_eq_of_covers 7 _ ((cfg0.win 7).covers_of_indexMap_surj rfl (by decide) fun β => ?_) fun t hf y => ?_
  · have b0 : (β (0 : Fin 3)).val < 4 := lt_of_lt_of_eq (β (0 : Fin 3)).isLt (by decide : (cfg0.win 7).nblk (0 : Fin 3) = 4)
    have b1 : (β (1 : Fin 3)).val < 8 := lt_of_lt_of_eq (β (1 : Fin 3)).isLt (by decide : (cfg0.win 7).nblk (1 : Fin 3) = 8)
    have b2 : (β (2 : Fin 3)).val < 4 := lt_of_lt_of_eq (β (2 : Fin 3)).isLt (by decide : (cfg0.win 7).nblk (2 : Fin 3) = 4)
    let i : grid0.Coords := fun | ⟨0, _⟩ => ⟨(β (0 : Fin 3)).val, b0⟩ | ⟨1, _⟩ => ⟨(β (2 : Fin 3)).val, b2⟩ | ⟨2, _⟩ => ⟨(β (1 : Fin 3)).val, b1⟩ | ⟨3, _⟩ => ⟨0, (Nat.zero_lt_succ 3 : 0 < 4)⟩
    refine ⟨i, fun a => ?_⟩
    show cc0_transform_7 i a = _
    fin_cases a
    · exact word _ 4 b0 (by omega)
    · exact word _ 8 b1 (by omega)
    · exact word _ 4 b2 (by omega)
  · blk_simp
    rw [after0_7]
    exact block_at m c H t ((flush0_7 t).mp hf) y

end Cert.DaIdeal.Hand

end
-- ==== Proof.DaFinite.lean ====
/- What the precondition says: the queries, the keys, the values and the factor are real numbers. -/
module

public import proofs.«01_k».proof.Pre_da_finite
public import Idealize.ShloMosaic.Lib.Pointwise
public import Idealize.ShloMosaic.PureOps.Ideal.Laws

@[expose] public section

noncomputable section

namespace Cert.Pre_da_finite

open Idealize.ShloMosaic

instance facts : Facts := ⟨by decide, by decide, by decide, by decide, by decide, by decide⟩

theorem inf_f32 : Ideal.ofBits .f32 2139095040#32 = (⊤ : EReal) := by
  simp [Ideal.ofBits, Ideal.ieee]

theorem inf_bf16 : Ideal.ofBits .bf16 32640#16 = (⊤ : EReal) := by
  simp [Ideal.ofBits, Ideal.ieee]

/-- An extended real whose absolute value lies below infinity is real. -/
theorem real_of_bit {x : EReal} (h : BitVec.ofBool (decide (max x (-x) < ⊤)) = 1#1) : ∃ r : ℝ, x = (r : EReal) := by
  have hx : max x (-x) < ⊤ := by
    by_contra hn
    rw [decide_eq_false hn] at h
    exact absurd h (by decide)
  obtain ⟨h1, h2⟩ := max_lt_iff.mp hx
  refine ⟨x.toReal, (EReal.coe_toReal h1.ne fun hb => ?_).symm⟩
  rw [hb] at h2
  exact absurd h2 (by simp)

theorem queries_real (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (h : (fn q kc vc kl vl l g).1 = fun _ => 1#1) (i : S4x8192x512.Idx) : ∃ r : ℝ, q i = (r : EReal) := by
  have h := congrFun h i
  dsimp only [fn] at h
  have e : (cmpf .olt (Host.absf q) (broadcastInDim S4x8192x512 ![] Facts.bcast_S_S4x8192x512 (constant S_ .f32 0x7F800000#32)) : IVec S4x8192x512 1) i
      = BitVec.ofBool (decide (max (q i) (-q i) < (⊤ : EReal))) := by
    pointwise
    rw [inf_f32]
    rfl
  exact real_of_bit (e.symm.trans h)

theorem ctx_real (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (h : (fn q kc vc kl vl l g).2.1 = fun _ => 1#1) (i : S4x4x256x128.Idx) : ∃ r : ℝ, kc i = (r : EReal) := by
  have h := congrFun h i
  dsimp only [fn] at h
  have e : (cmpf .olt (Host.absf kc) (broadcastInDim S4x4x256x128 ![] Facts.bcast_S_S4x4x256x128 (constant S_ .bf16 0x7F80#16)) : IVec S4x4x256x128 1) i
      = BitVec.ofBool (decide (max (kc i) (-kc i) < (⊤ : EReal))) := by
    pointwise
    rw [inf_bf16]
    rfl
  exact real_of_bit (e.symm.trans h)

theorem lat_real (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (h : (fn q kc vc kl vl l g).2.2.1 = fun _ => 1#1) (i : S4x4x8192x128.Idx) : ∃ r : ℝ, kl i = (r : EReal) := by
  have h := congrFun h i
  dsimp only [fn] at h
  have e : (cmpf .olt (Host.absf kl) (broadcastInDim S4x4x8192x128 ![] Facts.bcast_S_S4x4x8192x128 (constant S_ .bf16 0x7F80#16)) : IVec S4x4x8192x128 1) i
      = BitVec.ofBool (decide (max (kl i) (-kl i) < (⊤ : EReal))) := by
    pointwise
    rw [inf_bf16]
    rfl
  exact real_of_bit (e.symm.trans h)

theorem ctxValues_real (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (h : (fn q kc vc kl vl l g).2.2.2.1 = fun _ => 1#1) (i : S4x512x256.Idx) : ∃ r : ℝ, vc i = (r : EReal) := by
  have h := congrFun h i
  dsimp only [fn] at h
  have e : (cmpf .olt (Host.absf vc) (broadcastInDim S4x512x256 ![] Facts.bcast_S_S4x512x256 (constant S_ .bf16 0x7F80#16)) : IVec S4x512x256 1) i
      = BitVec.ofBool (decide (max (vc i) (-vc i) < (⊤ : EReal))) := by
    pointwise
    rw [inf_bf16]
    rfl
  exact real_of_bit (e.symm.trans h)

theorem latValues_real (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (h : (fn q kc vc kl vl l g).2.2.2.2.1 = fun _ => 1#1) (i : S4x512x8192.Idx) : ∃ r : ℝ, vl i = (r : EReal) := by
  have h := congrFun h i
  dsimp only [fn] at h
  have e : (cmpf .olt (Host.absf vl) (broadcastInDim S4x512x8192 ![] Facts.bcast_S_S4x512x8192 (constant S_ .bf16 0x7F80#16)) : IVec S4x512x8192 1) i
      = BitVec.ofBool (decide (max (vl i) (-vl i) < (⊤ : EReal))) := by
    pointwise
    rw [inf_bf16]
    rfl
  exact real_of_bit (e.symm.trans h)

theorem lambda_real (q : FVec Ideal S4x8192x512 .f32) (kc : FVec Ideal S4x4x256x128 .bf16) (vc : FVec Ideal S4x512x256 .bf16)
    (kl : FVec Ideal S4x4x8192x128 .bf16) (vl : FVec Ideal S4x512x8192 .bf16) (l : FVec Ideal S1x1 .f32) (g : FVec Ideal S128x1 .f32)
    (h : (fn q kc vc kl vl l g).2.2.2.2.2 = fun _ => 1#1) (i : S1x1.Idx) : ∃ r : ℝ, l i = (r : EReal) := by
  have h := congrFun h i
  dsimp only [fn] at h
  have e : (cmpf .olt (Host.absf l) (broadcastInDim S1x1 ![] Facts.bcast_S_S1x1 (constant S_ .f32 0x7F800000#32)) : IVec S1x1 1) i
      = BitVec.ofBool (decide (max (l i) (-l i) < (⊤ : EReal))) := by
    pointwise
    rw [inf_f32]
    rfl
  exact real_of_bit (e.symm.trans h)

end Cert.Pre_da_finite

end
-- ==== Proof.DaClaims.lean ====
/- The claims about the differential attention kernel: frames, and its result against the reference's. -/
module

public import proofs.«01_k».proof.Defs
public import proofs.«01_k».proof.Proof.Gen.Da
public import proofs.«01_k».proof.Proof.Gen.DaRef
public import proofs.«01_k».proof.Proof.Gen.DaRef.Run
public import proofs.«01_k».proof.Proof.DaFrame
public import proofs.«01_k».proof.Proof.DaIdealValue
public import proofs.«01_k».proof.Proof.DaFinite
public import Idealize.ShloMosaic.Lib.Quiescent

@[expose] public section

set_option maxRecDepth 16384

noncomputable section

namespace Cert.DaClaims

open Idealize.ShloMosaic Idealize.ShloMosaic.TcCoe Idealize.SL.Sem

theorem da : Cert.quiescent_Da (hDa := Cert.Da.Gen.facts) := fun m g _ => Cert.Da.Hand.frame m g

theorem daIdeal : Cert.quiescent_DaIdeal (hDaIdeal := Cert.DaIdeal.Gen.facts) := fun m g _ => Cert.DaIdeal.Hand.frame m g

theorem daIdeal_finite : Cert.quiescent_DaIdeal_pre_da_finite (hDaIdeal := Cert.DaIdeal.Gen.facts) (hPre_da_finite := Cert.Pre_da_finite.facts) :=
  fun m g _ => Cert.DaIdeal.Hand.frame m g

theorem daRef : Cert.quiescent_DaRef (hDaRef := Cert.DaRef.Gen.facts) := fun m g _ =>
  (θ_run _ _ _).mono (fun r h => ⟨fun c => (h c).2, sem_eq_zero_of_no_sems (by decide) _⟩) (Cert.DaRef.Value.run m g)

theorem daRefIdeal : Cert.quiescent_DaRefIdeal (hDaRefIdeal := Cert.DaRefIdeal.Gen.facts) := fun m g _ =>
  (θ_run _ _ _).mono (fun r h => ⟨fun c => (h c).2, sem_eq_zero_of_no_sems (by decide) _⟩) (Cert.DaRefIdeal.Value.run m g)

theorem daRefIdeal_finite : Cert.quiescent_DaRefIdeal_pre_da_finite (hDaRefIdeal := Cert.DaRefIdeal.Gen.facts)
    (hPre_da_finite := Cert.Pre_da_finite.facts) := fun m g _ => daRefIdeal m g trivial

theorem algebraic : Cert.algebraic_DaIdeal_DaRefIdeal_pre_da_finite (hDaIdeal := Cert.DaIdeal.Gen.facts)
    (hDaRefIdeal := Cert.DaRefIdeal.Gen.facts) (hPre_da_finite := Cert.Pre_da_finite.facts) := by
  intro m g m' g' hp hargs
  refine ⟨fun c => Cert.DaIdeal.Hand.target m c, ?_, ?_⟩
  · refine (θ_run _ _ _).mono (fun r h c => ⟨?_, h.2.1 c⟩) (θ_run_and (Cert.DaIdeal.Hand.run_main_quiescent m g) (Cert.DaIdeal.Hand.frame m g))
    refine ((h.1.1 c).1 7).trans (Cert.DaIdeal.Hand.out_eq m c ⟨?_, ?_, ?_, ?_, ?_, ?_⟩)
    · exact Cert.Pre_da_finite.queries_real _ _ _ _ _ _ _ (hp c).1
    · exact Cert.Pre_da_finite.ctx_real _ _ _ _ _ _ _ (hp c).2.1
    · exact Cert.Pre_da_finite.lat_real _ _ _ _ _ _ _ (hp c).2.2.1
    · exact Cert.Pre_da_finite.ctxValues_real _ _ _ _ _ _ _ (hp c).2.2.2.1
    · exact Cert.Pre_da_finite.latValues_real _ _ _ _ _ _ _ (hp c).2.2.2.2.1
    · exact Cert.Pre_da_finite.lambda_real _ _ _ _ _ _ _ (hp c).2.2.2.2.2
  · refine (θ_run _ _ _).mono (fun r h c => ⟨?_, (h c).2⟩) (Cert.DaRefIdeal.Value.run m' g')
    rw [(h c).1, Cert.DaRefIdeal.Value.res_eq]
    obtain ⟨h0, h1, h2, h3, h4, h5, h6⟩ := hargs c
    rw [h0, h1, h2, h3, h4, h5, h6]

end Cert.DaClaims

end
-- ==== Proof.Projection.lean ====
/- A token's projections: the root mean square over fewer columns, and pairs of columns turned by the token's angles. -/
module

public import proofs.«01_k».proof.Proof.Rows
public import Idealize.ShloMosaic.PureOps.Ideal

@[expose] public section

noncomputable section

namespace Cert.Projection

open Idealize.ShloMosaic

/-- Column `i` with the pairs (i, i + 32) of every 64 columns turned by the angles whose cosines and sines are given. -/
def turned {n : Nat} (x : Fin n → EReal) (c s : Fin 32 → EReal) (i : Fin n) : EReal :=
  if i.val % 64 < 32 then
    x i * c ⟨i.val % 32, Nat.mod_lt _ (by decide)⟩ - x ⟨(i.val + 32) % n, Nat.mod_lt _ (Fin.pos i)⟩ * s ⟨i.val % 32, Nat.mod_lt _ (by decide)⟩
  else
    x i * c ⟨i.val % 32, Nat.mod_lt _ (by decide)⟩ + x ⟨i.val - 32, by omega⟩ * s ⟨i.val % 32, Nat.mod_lt _ (by decide)⟩

/-- Turning 128 of the columns is turning them all, at one of the 128. -/
theorem turned_part {n : Nat} (x : Fin n → EReal) (c s : Fin 32 → EReal) (o : Nat) (ho : o % 64 = 0) (hn : o + 128 ≤ n) (j : Fin 128) :
    turned (fun l : Fin 128 => x ⟨o + l.val, by omega⟩) c s j = turned x c s ⟨o + j.val, by omega⟩ := by
  have e64 : (o + j.val) % 64 = j.val % 64 := by omega
  have e32 : (o + j.val) % 32 = j.val % 32 := by omega
  unfold turned
  simp only [e64, e32]
  split
  · rename_i h
    have e1 : (j.val + 32) % 128 = j.val + 32 := Nat.mod_eq_of_lt (by omega)
    have e2 : (o + j.val + 32) % n = o + (j.val + 32) := by
      rw [Nat.mod_eq_of_lt (by omega)]; omega
    simp only [e1, e2]
  · rename_i h
    have e3 : o + j.val - 32 = o + (j.val - 32) := by omega
    simp only [e3]

/-- Heads of 256 columns, the last 128 of each turned. -/
def headed (x : Fin 1024 → EReal) (c s : Fin 32 → EReal) (i : Fin 1024) : EReal :=
  if i.val % 256 < 128 then x i else turned x c s i

/-- A head of 256 columns: 128 of its own, then the last 128 of a row of 768, turned. -/
def joined (x : Fin 512 → EReal) (y : Fin 768 → EReal) (c s : Fin 32 → EReal) (n : Fin 4) (j : Fin 256) : EReal :=
  if h : j.val < 128 then x ⟨n.val * 128 + j.val, by omega⟩ else turned y c s ⟨512 + j.val, by omega⟩

/-- A row over the root of its mean square, times a gain: the mean is the sum over `N`, a small number added to it. -/
def rms {n : Nat} (N : EReal) (x g : Fin n → EReal) (i : Fin n) : EReal :=
  x i * Ideal.rsqrt (Ideal.div (∑ j, x j * x j) N + Ideal.ofBits .f32 0x358637BD#32) * g i

theorem two : Ideal.ofBits .f32 1073741824#32 = ((2 : ℝ) : EReal) := by
  simp [Ideal.ofBits, Ideal.ieee]; rw [← EReal.coe_mul]; norm_num

theorem width64 : Ideal.ofBits .f32 1115684864#32 = ((64 : ℝ) : EReal) := by
  simp [Ideal.ofBits, Ideal.ieee]; rw [← EReal.coe_mul]; norm_num

theorem width192 : Ideal.ofBits .f32 1128267776#32 = ((192 : ℝ) : EReal) := by
  simp [Ideal.ofBits, Ideal.ieee]; rw [← EReal.coe_mul]; norm_num

/-- Dividing by a root and by the logarithm of two is multiplying with one real number. -/
theorem scaled (x : EReal) (N : ℝ) (hN : 0 < N) :
    Ideal.div (Ideal.div x (Ideal.sqrt (N : EReal))) (Ideal.log ((2 : ℝ) : EReal)) = x * (((Real.sqrt N)⁻¹ * (Real.log 2)⁻¹ : ℝ) : EReal) := by
  have h1 : Real.sqrt N ≠ 0 := (Real.sqrt_pos.mpr hN).ne'
  have h2 : Real.log 2 ≠ 0 := (Real.log_pos one_lt_two).ne'
  have hs : Ideal.sqrt (N : EReal) = ((Real.sqrt N : ℝ) : EReal) := by
    rw [Ideal.sqrt_coe, if_neg (not_lt.mpr hN.le)]
  have hl : Ideal.log ((2 : ℝ) : EReal) = ((Real.log 2 : ℝ) : EReal) := by
    rw [Ideal.log_coe, if_neg (not_le.mpr two_pos)]
  rw [hs, hl, Ideal.div_coe h2, Ideal.div_coe h1, mul_assoc, ← EReal.coe_mul, one_div, one_div]

end Cert.Projection

end
-- ==== Proof.InprojIdealPay.lean ====
/- The input projection kernel's vector values read at an index. -/
module

public import proofs.«01_k».proof.Proof.Gen.InprojIdeal.Value
public import proofs.«01_k».proof.Proof.Projection
public import Idealize.ShloMosaic.Lib.Pointwise
public import Idealize.ShloMosaic.Lib.Pipeline.ValueKit

@[expose] public section

set_option maxRecDepth 16384

noncomputable section

namespace Cert.InprojIdeal.Hand

open Cert.InprojIdeal Cert.InprojIdeal.Gen Cert.Rows Cert.Projection
open Idealize.ShloMosaic

/-- Whether a lane lies in the first half of its 64. -/
theorem lane_bit (r : Fin 512) (i : Fin 128) : k0_pay7 (ix2 r i) = BitVec.ofBool (decide (i.val % 64 < 32)) := by
  have h : k0_pay7 (ix2 r i) = BitVec.ofBool ((BitVec.ofNat 32 i.val &&& 32#32) == 0#32) := by
    pointwise [k0_pay7]
    rfl
  rw [h]
  clear h
  revert i
  decide

theorem lane_bit' (r : Fin 512) (i : Fin 128) : k0_pay25 (ix2 r i) = BitVec.ofBool (decide (i.val % 64 < 32)) := lane_bit r i

/-- The turn as the kernel writes it: a lane times the cosine, and its partner, found by rotating the lanes, times the signed sine. -/
def spun (v : IVec S512x128 1) (x c s : FVec Ideal S512x128 .f32) : FVec Ideal S512x128 .f32 :=
  addf (mulf x c) (mulf (select v (dynamicRotate 1 96#32 none x rotates_S512x128_d1) (dynamicRotate 1 32#32 none x rotates_S512x128_d1)) s)

/-- With the tables of cosines and signed sines it is the turn of the pairs. -/
theorem spun_at (v : IVec S512x128 1) (x c s : FVec Ideal S512x128 .f32) (C S : Fin 32 → EReal) (r : Fin 512) (i : Fin 128)
    (hv : v (ix2 r i) = BitVec.ofBool (decide (i.val % 64 < 32)))
    (hc : c (ix2 r i) = C ⟨i.val % 32, Nat.mod_lt _ (by decide)⟩)
    (hs : s (ix2 r i) = if i.val % 64 < 32 then -S ⟨i.val % 32, Nat.mod_lt _ (by decide)⟩ else S ⟨i.val % 32, Nat.mod_lt _ (by decide)⟩) :
    spun v x c s (ix2 r i) = turned (fun l => x (ix2 r l)) C S i := by
  have h : spun v x c s (ix2 r i) = x (ix2 r i) * c (ix2 r i)
      + (if v (ix2 r i) = 1#1 then x (ix2 r ⟨(i.val + 32) % 128, Nat.mod_lt _ (by decide)⟩)
          else x (ix2 r ⟨(i.val + 96) % 128, Nat.mod_lt _ (by decide)⟩)) * s (ix2 r i) := by
    pointwise [spun]
    have e1 : (⟨(i.val + 128 - 96) % 128, Nat.mod_lt _ (by decide)⟩ : Fin 128) = ⟨(i.val + 32) % 128, Nat.mod_lt _ (by decide)⟩ := Fin.ext (by simp only; omega)
    have e2 : (⟨(i.val + 128 - 32) % 128, Nat.mod_lt _ (by decide)⟩ : Fin 128) = ⟨(i.val + 96) % 128, Nat.mod_lt _ (by decide)⟩ := Fin.ext (by simp only; omega)
    rw [← e1, ← e2]
    rfl
  rw [h, hv, hc, hs]
  unfold turned
  by_cases hi : i.val % 64 < 32
  · simp only [hi, if_true, decide_true]
    simp [sub_eq_add_neg]
  · have e : (i.val + 96) % 128 = i.val - 32 := by omega
    simp [hi, e]

/-- The row that the kernel normalises and modulates. -/
theorem pay6_at (x : Vec Ideal S1x512x1024 .f32) (g : Vec Ideal S1x1024 .f32) (s c : Vec Ideal S1x1x1024 .f32) (r : Fin 512) (i : Fin 1024) :
    k0_pay6 x g s c (ix2 r i) = modded (fun j => x (ix3 0 r j)) (fun j => g (ix2 0 j)) (fun j => s (ix3 0 0 j)) (fun j => c (ix3 0 0 j)) i := by
  pointwise [k0_pay6, modded, normed]

theorem pay8_at (h : FVec Ideal S512x1024 .bf16) (w : Vec Ideal S1024x512 .bf16) (r k : Fin 512) :
    k0_pay8 h w (ix2 r k) = ∑ d, h (ix2 r d) * w (ix2 d k) := by
  pointwise [k0_pay8]

/-- The scale of the differential attention's queries. -/
def kda : EReal := (((Real.sqrt 64)⁻¹ * (Real.log 2)⁻¹ : ℝ) : EReal)

/-- The scale of the latent attention's queries. -/
def kmla : EReal := (((Real.sqrt 192)⁻¹ * (Real.log 2)⁻¹ : ℝ) : EReal)

/-- The tables a tile turns its columns with: the lane's half, the cosine, the signed sine. -/
structure Tables (v : IVec S512x128 1) (c s : FVec Ideal S512x128 .f32) (C S : Fin 32 → EReal) (r : Fin 512) : Prop where
  bit : ∀ i : Fin 128, v (ix2 r i) = BitVec.ofBool (decide (i.val % 64 < 32))
  cosine : ∀ i : Fin 128, c (ix2 r i) = C ⟨i.val % 32, Nat.mod_lt _ (by decide)⟩
  sine : ∀ i : Fin 128, s (ix2 r i) = if i.val % 64 < 32 then -S ⟨i.val % 32, Nat.mod_lt _ (by decide)⟩ else S ⟨i.val % 32, Nat.mod_lt _ (by decide)⟩

/-- A turned part of the columns is a part of the turned columns. -/
theorem spun_part {n : Nat} {v : IVec S512x128 1} {c s : FVec Ideal S512x128 .f32} {C S : Fin 32 → EReal} {r : Fin 512} (t : Tables v c s C S r)
    (x : FVec Ideal S512x128 .f32) (P : Fin n → EReal) (o : Nat) (ho : o % 64 = 0) (hn : o + 128 ≤ n)
    (hx : ∀ l : Fin 128, x (ix2 r l) = P ⟨o + l.val, by omega⟩) (i : Fin 128) :
    spun v x c s (ix2 r i) = turned P C S ⟨o + i.val, by omega⟩ := by
  rw [spun_at v x c s C S r i (t.bit i) (t.cosine i) (t.sine i), ← turned_part P C S o ho hn i]
  simp only [hx]

theorem pay9_at {v : IVec S512x128 1} {c s : FVec Ideal S512x128 .f32} {C S : Fin 32 → EReal} {r : Fin 512} (t : Tables v c s C S r) (h : FVec Ideal S512x1024 .bf16) (w : Vec Ideal S1024x512 .bf16) (i : Fin 128) :
    k0_pay9 c s h v w (ix3 0 r i) = turned (fun l => (k0_pay8 h w) (ix2 r l)) C S ⟨0 + i.val, by omega⟩ * kda := by
  have hp := spun_part t (extractStridedSlice S512x128 ![0, 0] (k0_pay8 h w) slices_S512x512_o0_0_S512x128) (fun l => (k0_pay8 h w) (ix2 r l)) 0 (by decide) (by decide) (fun l => by pointwise) i
  simp only [Nat.zero_add] at hp
  rw [show k0_pay9 c s h v w = shapeCast S1x512x128 (truncf .bf16 (mulf (spun v (extractStridedSlice S512x128 ![0, 0] (k0_pay8 h w) slices_S512x512_o0_0_S512x128) c s) (broadcast S512x128 (Named.named (F := Ideal) κ "da_scale" (φ := .f32) 0x3E38AA3B#32))) bitsLt_bf16_f32) shapeCasts_S512x128_S1x512x128 from rfl]
  pointwise
  rw [hp]
  rfl

theorem pay10_at {v : IVec S512x128 1} {c s : FVec Ideal S512x128 .f32} {C S : Fin 32 → EReal} {r : Fin 512} (t : Tables v c s C S r) (h : FVec Ideal S512x1024 .bf16) (w : Vec Ideal S1024x512 .bf16) (i : Fin 128) :
    k0_pay10 c s h v w (ix3 0 r i) = turned (fun l => (k0_pay8 h w) (ix2 r l)) C S ⟨128 + i.val, by omega⟩ * kda := by
  have hp := spun_part t (extractStridedSlice S512x128 ![0, 128] (k0_pay8 h w) slices_S512x512_o0_128_S512x128) (fun l => (k0_pay8 h w) (ix2 r l)) 128 (by decide) (by decide) (fun l => by pointwise) i
  rw [show k0_pay10 c s h v w = shapeCast S1x512x128 (truncf .bf16 (mulf (spun v (extractStridedSlice S512x128 ![0, 128] (k0_pay8 h w) slices_S512x512_o0_128_S512x128) c s) (broadcast S512x128 (Named.named (F := Ideal) κ "da_scale" (φ := .f32) 0x3E38AA3B#32))) bitsLt_bf16_f32) shapeCasts_S512x128_S1x512x128 from rfl]
  pointwise
  rw [hp]
  rfl

theorem pay11_at {v : IVec S512x128 1} {c s : FVec Ideal S512x128 .f32} {C S : Fin 32 → EReal} {r : Fin 512} (t : Tables v c s C S r) (h : FVec Ideal S512x1024 .bf16) (w : Vec Ideal S1024x512 .bf16) (i : Fin 128) :
    k0_pay11 c s h v w (ix2 r i) = turned (fun l => (k0_pay8 h w) (ix2 r l)) C S ⟨256 + i.val, by omega⟩ * kda := by
  have hp := spun_part t (extractStridedSlice S512x128 ![0, 256] (k0_pay8 h w) slices_S512x512_o0_256_S512x128) (fun l => (k0_pay8 h w) (ix2 r l)) 256 (by decide) (by decide) (fun l => by pointwise) i
  rw [show k0_pay11 c s h v w = truncf .bf16 (mulf (spun v (extractStridedSlice S512x128 ![0, 256] (k0_pay8 h w) slices_S512x512_o0_256_S512x128) c s) (broadcast S512x128 (Named.named (F := Ideal) κ "da_scale" (φ := .f32) 0x3E38AA3B#32))) bitsLt_bf16_f32 from rfl]
  pointwise
  rw [hp]
  rfl

theorem pay13_at {v : IVec S512x128 1} {c s : FVec Ideal S512x128 .f32} {C S : Fin 32 → EReal} {r : Fin 512} (t : Tables v c s C S r) (x : FVec Ideal S512x512 .f32) (i : Fin 128) :
    k0_pay13 c s v x (ix3 0 r i) = turned (fun l => x (ix2 r l)) C S ⟨384 + i.val, by omega⟩ * kda := by
  have hp := spun_part t (extractStridedSlice S512x128 ![0, 384] x slices_S512x512_o0_384_S512x128) (fun l => x (ix2 r l)) 384 (by decide) (by decide) (fun l => by pointwise) i
  rw [show k0_pay13 c s v x = shapeCast S1x512x128 (truncf .bf16 (mulf (spun v (extractStridedSlice S512x128 ![0, 384] x slices_S512x512_o0_384_S512x128) c s) (broadcast S512x128 (Named.named (F := Ideal) κ "da_scale" (φ := .f32) 0x3E38AA3B#32))) bitsLt_bf16_f32) shapeCasts_S512x128_S1x512x128 from rfl]
  pointwise
  rw [hp]
  rfl

theorem pay15_at {v : IVec S512x128 1} {c s : FVec Ideal S512x128 .f32} {C S : Fin 32 → EReal} {r : Fin 512} (t : Tables v c s C S r) (h : FVec Ideal S512x1024 .bf16) (w : Vec Ideal S1024x512 .bf16) (i : Fin 128) :
    k0_pay15 c s h v w (ix4 0 0 r i) = turned (fun l => (k0_pay14 h w) (ix2 r l)) C S ⟨0 + i.val, by omega⟩ := by
  have hp := spun_part t (extractStridedSlice S512x128 ![0, 0] (k0_pay14 h w) slices_S512x512_o0_0_S512x128) (fun l => (k0_pay14 h w) (ix2 r l)) 0 (by decide) (by decide) (fun l => by pointwise) i
  simp only [Nat.zero_add] at hp
  rw [show k0_pay15 c s h v w = shapeCast S1x1x512x128 (truncf .bf16 (spun v (extractStridedSlice S512x128 ![0, 0] (k0_pay14 h w) slices_S512x512_o0_0_S512x128) c s) bitsLt_bf16_f32) shapeCasts_S512x128_S1x1x512x128 from rfl]
  pointwise
  rw [hp]

theorem pay16_at {v : IVec S512x128 1} {c s : FVec Ideal S512x128 .f32} {C S : Fin 32 → EReal} {r : Fin 512} (t : Tables v c s C S r) (h : FVec Ideal S512x1024 .bf16) (w : Vec Ideal S1024x512 .bf16) (i : Fin 128) :
    k0_pay16 c s h v w (ix2 r i) = turned (fun l => (k0_pay14 h w) (ix2 r l)) C S ⟨128 + i.val, by omega⟩ := by
  have hp := spun_part t (extractStridedSlice S512x128 ![0, 128] (k0_pay14 h w) slices_S512x512_o0_128_S512x128) (fun l => (k0_pay14 h w) (ix2 r l)) 128 (by decide) (by decide) (fun l => by pointwise) i
  rw [show k0_pay16 c s h v w = truncf .bf16 (spun v (extractStridedSlice S512x128 ![0, 128] (k0_pay14 h w) slices_S512x512_o0_128_S512x128) c s) bitsLt_bf16_f32 from rfl]
  pointwise
  rw [hp]

theorem pay18_at {v : IVec S512x128 1} {c s : FVec Ideal S512x128 .f32} {C S : Fin 32 → EReal} {r : Fin 512} (t : Tables v c s C S r) (x : FVec Ideal S512x512 .f32) (i : Fin 128) :
    k0_pay18 c s v x (ix4 0 0 r i) = turned (fun l => x (ix2 r l)) C S ⟨256 + i.val, by omega⟩ := by
  have hp := spun_part t (extractStridedSlice S512x128 ![0, 256] x slices_S512x512_o0_256_S512x128) (fun l => x (ix2 r l)) 256 (by decide) (by decide) (fun l => by pointwise) i
  rw [show k0_pay18 c s v x = shapeCast S1x1x512x128 (truncf .bf16 (spun v (extractStridedSlice S512x128 ![0, 256] x slices_S512x512_o0_256_S512x128) c s) bitsLt_bf16_f32) shapeCasts_S512x128_S1x1x512x128 from rfl]
  pointwise
  rw [hp]

theorem pay19_at {v : IVec S512x128 1} {c s : FVec Ideal S512x128 .f32} {C S : Fin 32 → EReal} {r : Fin 512} (t : Tables v c s C S r) (x : FVec Ideal S512x512 .f32) (i : Fin 128) :
    k0_pay19 c s v x (ix4 0 0 r i) = turned (fun l => x (ix2 r l)) C S ⟨384 + i.val, by omega⟩ := by
  have hp := spun_part t (extractStridedSlice S512x128 ![0, 384] x slices_S512x512_o0_384_S512x128) (fun l => x (ix2 r l)) 384 (by decide) (by decide) (fun l => by pointwise) i
  rw [show k0_pay19 c s v x = shapeCast S1x1x512x128 (truncf .bf16 (spun v (extractStridedSlice S512x128 ![0, 384] x slices_S512x512_o0_384_S512x128) c s) bitsLt_bf16_f32) shapeCasts_S512x128_S1x1x512x128 from rfl]
  pointwise
  rw [hp]

theorem pay31_at {v : IVec S512x128 1} {c s : FVec Ideal S512x128 .f32} {C S : Fin 32 → EReal} {r : Fin 512} (t : Tables v c s C S r) (x : FVec Ideal S512x768 .f32) (i : Fin 128) :
    k0_pay31 c s v x (ix2 r i) = turned (fun l => x (ix2 r l)) C S ⟨640 + i.val, by omega⟩ := by
  have hp := spun_part t (extractStridedSlice S512x128 ![0, 640] x slices_S512x768_o0_640_S512x128) (fun l => x (ix2 r l)) 640 (by decide) (by decide) (fun l => by pointwise) i
  rw [show k0_pay31 c s v x = truncf .bf16 (spun v (extractStridedSlice S512x128 ![0, 640] x slices_S512x768_o0_640_S512x128) c s) bitsLt_bf16_f32 from rfl]
  pointwise
  rw [hp]

theorem pay32_at {v : IVec S512x128 1} {c s : FVec Ideal S512x128 .f32} {C S : Fin 32 → EReal} {r : Fin 512} (t : Tables v c s C S r) (h : FVec Ideal S512x384 .bf16) (w : Vec Ideal S384x1024 .bf16) (i : Fin 128) :
    k0_pay32 c s v h w (ix2 r i) = turned (fun l => (k0_pay29 h w) (ix2 r l)) C S ⟨128 + i.val, by omega⟩ := by
  have hp := spun_part t (extractStridedSlice S512x128 ![0, 128] (k0_pay29 h w) slices_S512x1024_o0_128_S512x128) (fun l => (k0_pay29 h w) (ix2 r l)) 128 (by decide) (by decide) (fun l => by pointwise) i
  rw [show k0_pay32 c s v h w = spun v (extractStridedSlice S512x128 ![0, 128] (k0_pay29 h w) slices_S512x1024_o0_128_S512x128) c s from rfl]
  skip
  rw [hp]

theorem pay38_at {v : IVec S512x128 1} {c s : FVec Ideal S512x128 .f32} {C S : Fin 32 → EReal} {r : Fin 512} (t : Tables v c s C S r) (x : FVec Ideal S512x1024 .f32) (i : Fin 128) :
    k0_pay38 c s v x (ix2 r i) = turned (fun l => x (ix2 r l)) C S ⟨384 + i.val, by omega⟩ * kmla := by
  have hp := spun_part t (extractStridedSlice S512x128 ![0, 384] x slices_S512x1024_o0_384_S512x128) (fun l => x (ix2 r l)) 384 (by decide) (by decide) (fun l => by pointwise) i
  rw [show k0_pay38 c s v x = truncf .bf16 (mulf (spun v (extractStridedSlice S512x128 ![0, 384] x slices_S512x1024_o0_384_S512x128) c s) (broadcast S512x128 (Named.named (F := Ideal) κ "mla_scale" (φ := .f32) 0x3DD53B95#32))) bitsLt_bf16_f32 from rfl]
  pointwise
  rw [hp]
  rfl

theorem pay43_at {v : IVec S512x128 1} {c s : FVec Ideal S512x128 .f32} {C S : Fin 32 → EReal} {r : Fin 512} (t : Tables v c s C S r) (x : FVec Ideal S512x1024 .f32) (i : Fin 128) :
    k0_pay43 c s v x (ix3 0 r i) = turned (fun l => x (ix2 r l)) C S ⟨640 + i.val, by omega⟩ * kmla := by
  have hp := spun_part t (extractStridedSlice S512x128 ![0, 640] x slices_S512x1024_o0_640_S512x128) (fun l => x (ix2 r l)) 640 (by decide) (by decide) (fun l => by pointwise) i
  rw [show k0_pay43 c s v x = shapeCast S1x512x128 (truncf .bf16 (mulf (spun v (extractStridedSlice S512x128 ![0, 640] x slices_S512x1024_o0_640_S512x128) c s) (broadcast S512x128 (Named.named (F := Ideal) κ "mla_scale" (φ := .f32) 0x3DD53B95#32))) bitsLt_bf16_f32) shapeCasts_S512x128_S1x512x128 from rfl]
  pointwise
  rw [hp]
  rfl

theorem pay48_at {v : IVec S512x128 1} {c s : FVec Ideal S512x128 .f32} {C S : Fin 32 → EReal} {r : Fin 512} (t : Tables v c s C S r) (x : FVec Ideal S512x1024 .f32) (i : Fin 128) :
    k0_pay48 c s v x (ix3 0 r i) = turned (fun l => x (ix2 r l)) C S ⟨896 + i.val, by omega⟩ * kmla := by
  have hp := spun_part t (extractStridedSlice S512x128 ![0, 896] x slices_S512x1024_o0_896_S512x128) (fun l => x (ix2 r l)) 896 (by decide) (by decide) (fun l => by pointwise) i
  rw [show k0_pay48 c s v x = shapeCast S1x512x128 (truncf .bf16 (mulf (spun v (extractStridedSlice S512x128 ![0, 896] x slices_S512x1024_o0_896_S512x128) c s) (broadcast S512x128 (Named.named (F := Ideal) κ "mla_scale" (φ := .f32) 0x3DD53B95#32))) bitsLt_bf16_f32) shapeCasts_S512x128_S1x512x128 from rfl]
  pointwise
  rw [hp]
  rfl

theorem pay12_at (x : FVec Ideal S512x128 .bf16) (r : Fin 512) (i : Fin 128) :
    k0_pay12 x (ix3 0 r i) = x (ix2 r i) := by
  pointwise [k0_pay12]

theorem pay39_at (x : FVec Ideal S512x128 .bf16) (r : Fin 512) (i : Fin 128) :
    k0_pay39 x (ix3 0 r i) = x (ix2 r i) := by
  pointwise [k0_pay39]

theorem pay17_at (x : FVec Ideal S512x128 .bf16) (r : Fin 512) (i : Fin 128) :
    k0_pay17 x (ix4 0 0 r i) = x (ix2 r i) := by
  pointwise [k0_pay17]

theorem pay36_at (x : FVec Ideal S512x128 .bf16) (r : Fin 512) (i : Fin 128) :
    k0_pay36 x (ix4 0 0 r i) = x (ix2 r i) := by
  pointwise [k0_pay36]

theorem pay41_at (x : FVec Ideal S512x128 .bf16) (r : Fin 512) (i : Fin 128) :
    k0_pay41 x (ix4 0 0 r i) = x (ix2 r i) := by
  pointwise [k0_pay41]

theorem pay45_at (x : FVec Ideal S512x128 .bf16) (r : Fin 512) (i : Fin 128) :
    k0_pay45 x (ix4 0 0 r i) = x (ix2 r i) := by
  pointwise [k0_pay45]

theorem pay46_at (x : FVec Ideal S512x128 .bf16) (r : Fin 512) (i : Fin 128) :
    k0_pay46 x (ix4 0 0 r i) = x (ix2 r i) := by
  pointwise [k0_pay46]

theorem pay50_at (x : FVec Ideal S512x128 .bf16) (r : Fin 512) (i : Fin 128) :
    k0_pay50 x (ix4 0 0 r i) = x (ix2 r i) := by
  pointwise [k0_pay50]

theorem pay35_at (x : FVec Ideal S512x512 .f32) (r : Fin 512) (i : Fin 128) :
    k0_pay35 x (ix4 0 0 r i) = x (ix2 r ⟨0 + i.val, by omega⟩) := by
  pointwise [k0_pay35]

theorem pay40_at (x : FVec Ideal S512x512 .f32) (r : Fin 512) (i : Fin 128) :
    k0_pay40 x (ix4 0 0 r i) = x (ix2 r ⟨128 + i.val, by omega⟩) := by
  pointwise [k0_pay40]

theorem pay49_at (x : FVec Ideal S512x512 .f32) (r : Fin 512) (i : Fin 128) :
    k0_pay49 x (ix4 0 0 r i) = x (ix2 r ⟨384 + i.val, by omega⟩) := by
  pointwise [k0_pay49]

theorem pay44_at (x : FVec Ideal S512x512 .f32) (r : Fin 512) (i : Fin 128) :
    k0_pay44 x (ix2 r i) = x (ix2 r ⟨256 + i.val, by omega⟩) := by
  pointwise [k0_pay44]

theorem pay33_at (h : FVec Ideal S512x384 .bf16) (w : Vec Ideal S384x1024 .bf16) (r : Fin 512) (i : Fin 128) :
    k0_pay33 h w (ix3 0 r i) = k0_pay29 h w (ix2 r ⟨0 + i.val, by omega⟩) * kmla := by
  rw [show k0_pay33 h w = shapeCast S1x512x128 (truncf .bf16 (mulf (extractStridedSlice S512x128 ![0, 0] (k0_pay29 h w) slices_S512x1024_o0_0_S512x128)
    (broadcast S512x128 (Named.named (F := Ideal) κ "mla_scale" (φ := .f32) 0x3DD53B95#32))) bitsLt_bf16_f32) shapeCasts_S512x128_S1x512x128 from rfl]
  pointwise
  rfl

theorem pay34_at (x : FVec Ideal S512x128 .f32) (r : Fin 512) (i : Fin 128) :
    k0_pay34 x (ix3 0 r i) = x (ix2 r i) * kmla := by
  rw [show k0_pay34 x = shapeCast S1x512x128 (truncf .bf16 (mulf (x)
    (broadcast S512x128 (Named.named (F := Ideal) κ "mla_scale" (φ := .f32) 0x3DD53B95#32))) bitsLt_bf16_f32) shapeCasts_S512x128_S1x512x128 from rfl]
  pointwise
  rfl

theorem pay37_at (x : FVec Ideal S512x1024 .f32) (r : Fin 512) (i : Fin 128) :
    k0_pay37 x (ix3 0 r i) = x (ix2 r ⟨256 + i.val, by omega⟩) * kmla := by
  rw [show k0_pay37 x = shapeCast S1x512x128 (truncf .bf16 (mulf (extractStridedSlice S512x128 ![0, 256] x slices_S512x1024_o0_256_S512x128)
    (broadcast S512x128 (Named.named (F := Ideal) κ "mla_scale" (φ := .f32) 0x3DD53B95#32))) bitsLt_bf16_f32) shapeCasts_S512x128_S1x512x128 from rfl]
  pointwise
  rfl

theorem pay42_at (x : FVec Ideal S512x1024 .f32) (r : Fin 512) (i : Fin 128) :
    k0_pay42 x (ix3 0 r i) = x (ix2 r ⟨512 + i.val, by omega⟩) * kmla := by
  rw [show k0_pay42 x = shapeCast S1x512x128 (truncf .bf16 (mulf (extractStridedSlice S512x128 ![0, 512] x slices_S512x1024_o0_512_S512x128)
    (broadcast S512x128 (Named.named (F := Ideal) κ "mla_scale" (φ := .f32) 0x3DD53B95#32))) bitsLt_bf16_f32) shapeCasts_S512x128_S1x512x128 from rfl]
  pointwise
  rfl

theorem pay47_at (x : FVec Ideal S512x1024 .f32) (r : Fin 512) (i : Fin 128) :
    k0_pay47 x (ix3 0 r i) = x (ix2 r ⟨768 + i.val, by omega⟩) * kmla := by
  rw [show k0_pay47 x = shapeCast S1x512x128 (truncf .bf16 (mulf (extractStridedSlice S512x128 ![0, 768] x slices_S512x1024_o0_768_S512x128)
    (broadcast S512x128 (Named.named (F := Ideal) κ "mla_scale" (φ := .f32) 0x3DD53B95#32))) bitsLt_bf16_f32) shapeCasts_S512x128_S1x512x128 from rfl]
  pointwise
  rfl

theorem pay14_at (h : FVec Ideal S512x1024 .bf16) (w : Vec Ideal S1024x512 .bf16) (r k : Fin 512) :
    k0_pay14 h w (ix2 r k) = ∑ d, h (ix2 r d) * w (ix2 d k) := by
  pointwise [k0_pay14]

theorem pay21_at (h : FVec Ideal S512x1024 .bf16) (w : Vec Ideal S1024x512 .bf16) (r k : Fin 512) :
    k0_pay21 h w (ix2 r k) = ∑ d, h (ix2 r d) * w (ix2 d k) := by
  pointwise [k0_pay21]

theorem pay22_at (x : FVec Ideal S512x512 .f32) (r k : Fin 512) :
    k0_pay22 x (ix3 0 r k) = x (ix2 r k) := by
  pointwise [k0_pay22]

theorem pay2_at (h : FVec Ideal S512x1024 .bf16) (w : Vec Ideal S1024x512 .bf16) (r k : Fin 512) :
    k0_pay2 h w (ix3 0 r k) = ∑ d, h (ix2 r d) * w (ix2 d k) := by
  pointwise [k0_pay2]

theorem pay3_at (h : FVec Ideal S512x1024 .bf16) (w : Vec Ideal S1024x512 .bf16) (r k : Fin 512) :
    k0_pay3 h w (ix3 0 r k) = ∑ d, h (ix2 r d) * w (ix2 d k) := by
  pointwise [k0_pay3]

theorem pay4_at (h : FVec Ideal S512x1024 .bf16) (w : Vec Ideal S1024x512 .bf16) (r k : Fin 512) :
    k0_pay4 h w (ix3 0 r k) = ∑ d, h (ix2 r d) * w (ix2 d k) := by
  pointwise [k0_pay4]

theorem pay23_at (h : FVec Ideal S512x1024 .bf16) (w : Vec Ideal S1024x1024 .bf16) (r : Fin 512) (k : Fin 1024) :
    k0_pay23 h w (ix3 0 r k) = ∑ d, h (ix2 r d) * w (ix2 d k) := by
  pointwise [k0_pay23]

theorem pay24_at (h : FVec Ideal S512x1024 .bf16) (w : Vec Ideal S1024x128 .bf16) (r : Fin 512) (k : Fin 128) :
    k0_pay24 h w (ix3 0 r k) = ∑ d, h (ix2 r d) * w (ix2 d k) := by
  pointwise [k0_pay24]

theorem pay26_at (h : FVec Ideal S512x1024 .bf16) (w : Vec Ideal S1024x768 .bf16) (r : Fin 512) (k : Fin 768) :
    k0_pay26 h w (ix2 r k) = ∑ d, h (ix2 r d) * w (ix2 d k) := by
  pointwise [k0_pay26]

theorem pay20_at (h : FVec Ideal S512x1024 .bf16) (w : Vec Ideal S512x1024 .bf16) (e r : Fin 512) :
    k0_pay20 h w (ix3 0 e r) = ∑ d, w (ix2 e d) * h (ix2 r d) := by
  pointwise [k0_pay20]

theorem pay1_at (h w : FVec Ideal S512x256 .bf16) (e r : Fin 512) :
    k0_pay1 h w (ix3 0 e r) = ∑ d, w (ix2 e d) * h (ix2 r d) := by
  pointwise [k0_pay1]

theorem pay29_at (h : FVec Ideal S512x384 .bf16) (w : Vec Ideal S384x1024 .bf16) (r : Fin 512) (k : Fin 1024) :
    k0_pay29 h w (ix2 r k) = ∑ d, h (ix2 r d) * w (ix2 d k) := by
  pointwise [k0_pay29]

theorem pay27_at (h : FVec Ideal S512x1024 .bf16) (w : Vec Ideal S1024x768 .bf16) (g : Vec Ideal S1x384 .f32) (r : Fin 512) (k : Fin 384) :
    k0_pay27 h w g (ix2 r k) = rms (Ideal.ofBits .f32 0x43C00000#32) (fun d => k0_pay26 h w (ix2 r ⟨d.val, by omega⟩)) (fun d => g (ix2 0 d)) k := by
  pointwise [k0_pay27, rms]

theorem pay28_at (x : FVec Ideal S512x768 .f32) (g : Vec Ideal S1x256 .f32) (r : Fin 512) (k : Fin 256) :
    k0_pay28 x g (ix2 r k) = rms (Ideal.ofBits .f32 0x43800000#32) (fun d => x (ix2 r ⟨384 + d.val, by omega⟩)) (fun d => g (ix2 0 d)) k := by
  pointwise [k0_pay28, rms]

theorem pay30_at (x : FVec Ideal S512x768 .f32) (g : Vec Ideal S1x256 .f32) (w : Vec Ideal S256x512 .bf16) (r k : Fin 512) :
    k0_pay30 x g w (ix2 r k) = ∑ d, k0_pay28 x g (ix2 r d) * w (ix2 d k) := by
  pointwise [k0_pay30]

theorem pay5_at (x : Vec Ideal S512x128 .f32) (r : Fin 512) (i : Fin 128) :
    k0_pay5 x (ix2 r i) = x (ix2 r i) := by
  pointwise [k0_pay5]

end Cert.InprojIdeal.Hand

end
-- ==== Proof.InprojIdealOut.lean ====
/- The input projection's output blocks, at an index: each product of the modulated row, its turned columns, its scale. -/
module

public import proofs.«01_k».proof.Proof.InprojIdealPay
public import Idealize.ShloMosaic.Lib.Pointwise
public import Idealize.ShloMosaic.Lib.Pipeline.ValueKit

@[expose] public section

set_option maxRecDepth 16384

noncomputable section

namespace Cert.InprojIdeal.Hand

open Cert.InprojIdeal Cert.InprojIdeal.Gen Cert.Rows Cert.Projection
open Idealize.ShloMosaic

variable (x0 : Vec Ideal S1x512x1024 .f32) (x1 : Vec Ideal S1x1024 .f32) (x2 : Vec Ideal S1x1x1024 .f32) (x3 : Vec Ideal S1x1x1024 .f32) (x4 : Vec Ideal S1024x1024 .bf16) (x5 : Vec Ideal S512x1024 .bf16) (x6 : Vec Ideal S1024x1664 .bf16) (x7 : Vec Ideal S1024x768 .bf16) (x8 : Vec Ideal S1x384 .f32) (x9 : Vec Ideal S384x1024 .bf16) (x10 : Vec Ideal S1x256 .f32) (x11 : Vec Ideal S256x512 .bf16) (x12 : Vec Ideal S512x256 .bf16) (x13 : Vec Ideal S1024x1536 .bf16) (x14 : Vec Ideal S512x128 .f32) (x15 : Vec Ideal S512x128 .f32)

/-- The modulated row of a token of the block. -/
def row (x0 : Vec Ideal S1x512x1024 .f32) (x1 : Vec Ideal S1x1024 .f32) (x2 x3 : Vec Ideal S1x1x1024 .f32) (r : Fin 512) : Fin 1024 → EReal :=
  modded (fun j => x0 (ix3 0 r j)) (fun j => x1 (ix2 0 j)) (fun j => x2 (ix3 0 0 j)) (fun j => x3 (ix3 0 0 j))

theorem pay52_at (r : Fin 512) (d : Fin 1024) : k0_pay52 x0 x1 x2 x3 x4 x5 x6 x7 x8 x9 x10 x11 x12 x13 x14 x15 (ix2 r d) = row x0 x1 x2 x3 r d := by
  rw [show k0_pay52 x0 x1 x2 x3 x4 x5 x6 x7 x8 x9 x10 x11 x12 x13 x14 x15 = k0_pay6 (View.ld x0 r0_1) (View.ld x1 r0_2) (View.ld x2 r0_3) (View.ld x3 r0_3) from rfl, pay6_at]
  unfold row
  pointwise

theorem tables {C S : Fin 32 → EReal} {r : Fin 512} (hc : ∀ i : Fin 128, x14 (ix2 r i) = C ⟨i.val % 32, Nat.mod_lt _ (by decide)⟩)
    (hs : ∀ i : Fin 128, x15 (ix2 r i) = if i.val % 64 < 32 then -S ⟨i.val % 32, Nat.mod_lt _ (by decide)⟩ else S ⟨i.val % 32, Nat.mod_lt _ (by decide)⟩) :
    Tables (k0_pay53 x0 x1 x2 x3 x4 x5 x6 x7 x8 x9 x10 x11 x12 x13 x14 x15) (View.ld x14 r0_0) (k0_pay51 x0 x1 x2 x3 x4 x5 x6 x7 x8 x9 x10 x11 x12 x13 x14 x15) C S r where
  bit i := lane_bit r i
  cosine i := by
    rw [← hc i]
    pointwise
  sine i := by
    rw [← hs i, show k0_pay51 x0 x1 x2 x3 x4 x5 x6 x7 x8 x9 x10 x11 x12 x13 x14 x15 = k0_pay5 (View.ld x15 r0_0) from rfl, pay5_at]
    pointwise

theorem tables' {C S : Fin 32 → EReal} {r : Fin 512} (hc : ∀ i : Fin 128, x14 (ix2 r i) = C ⟨i.val % 32, Nat.mod_lt _ (by decide)⟩)
    (hs : ∀ i : Fin 128, x15 (ix2 r i) = if i.val % 64 < 32 then -S ⟨i.val % 32, Nat.mod_lt _ (by decide)⟩ else S ⟨i.val % 32, Nat.mod_lt _ (by decide)⟩) :
    Tables (k0_pay55 x0 x1 x2 x3 x4 x5 x6 x7 x8 x9 x10 x11 x12 x13 x14 x15) (View.ld x14 r0_0) (k0_pay51 x0 x1 x2 x3 x4 x5 x6 x7 x8 x9 x10 x11 x12 x13 x14 x15) C S r where
  bit i := lane_bit' r i
  cosine i := by
    rw [← hc i]
    pointwise
  sine i := by
    rw [← hs i, show k0_pay51 x0 x1 x2 x3 x4 x5 x6 x7 x8 x9 x10 x11 x12 x13 x14 x15 = k0_pay5 (View.ld x15 r0_0) from rfl, pay5_at]
    pointwise

theorem pay8_row (r : Fin 512) (k : Fin 512) : k0_pay8 (k0_pay52 x0 x1 x2 x3 x4 x5 x6 x7 x8 x9 x10 x11 x12 x13 x14 x15) (View.ld x4 r0_4) (ix2 r k) = ∑ d, row x0 x1 x2 x3 r d * x4 (ix2 d ⟨k.val, by omega⟩) := by
  rw [pay8_at]
  simp only [pay52_at]
  pointwise

theorem pay14_row (r : Fin 512) (k : Fin 512) : k0_pay14 (k0_pay52 x0 x1 x2 x3 x4 x5 x6 x7 x8 x9 x10 x11 x12 x13 x14 x15) (View.ld x4 r0_9) (ix2 r k) = ∑ d, row x0 x1 x2 x3 r d * x4 (ix2 d ⟨512 + k.val, by omega⟩) := by
  rw [pay14_at]
  simp only [pay52_at]
  pointwise

theorem pay21_row (r : Fin 512) (k : Fin 512) : k0_pay21 (k0_pay52 x0 x1 x2 x3 x4 x5 x6 x7 x8 x9 x10 x11 x12 x13 x14 x15) (View.ld x6 r0_16) (ix2 r k) = ∑ d, row x0 x1 x2 x3 r d * x6 (ix2 d ⟨k.val, by omega⟩) := by
  rw [pay21_at]
  simp only [pay52_at]
  pointwise

theorem pay23_row (r : Fin 512) (k : Fin 1024) : k0_pay23 (k0_pay52 x0 x1 x2 x3 x4 x5 x6 x7 x8 x9 x10 x11 x12 x13 x14 x15) (View.ld x6 r0_17) (ix3 0 r k) = ∑ d, row x0 x1 x2 x3 r d * x6 (ix2 d ⟨512 + k.val, by omega⟩) := by
  rw [pay23_at]
  simp only [pay52_at]
  pointwise

theorem pay24_row (r : Fin 512) (k : Fin 128) : k0_pay24 (k0_pay52 x0 x1 x2 x3 x4 x5 x6 x7 x8 x9 x10 x11 x12 x13 x14 x15) (View.ld x6 r0_18) (ix3 0 r k) = ∑ d, row x0 x1 x2 x3 r d * x6 (ix2 d ⟨1536 + k.val, by omega⟩) := by
  rw [pay24_at]
  simp only [pay52_at]
  pointwise

theorem pay2_row (r : Fin 512) (k : Fin 512) : k0_pay2 (k0_pay52 x0 x1 x2 x3 x4 x5 x6 x7 x8 x9 x10 x11 x12 x13 x14 x15) (View.ld x13 r0_42) (ix3 0 r k) = ∑ d, row x0 x1 x2 x3 r d * x13 (ix2 d ⟨k.val, by omega⟩) := by
  rw [pay2_at]
  simp only [pay52_at]
  pointwise

theorem pay3_row (r : Fin 512) (k : Fin 512) : k0_pay3 (k0_pay52 x0 x1 x2 x3 x4 x5 x6 x7 x8 x9 x10 x11 x12 x13 x14 x15) (View.ld x13 r0_44) (ix3 0 r k) = ∑ d, row x0 x1 x2 x3 r d * x13 (ix2 d ⟨512 + k.val, by omega⟩) := by
  rw [pay3_at]
  simp only [pay52_at]
  pointwise

theorem pay4_row (r : Fin 512) (k : Fin 512) : k0_pay4 (k0_pay52 x0 x1 x2 x3 x4 x5 x6 x7 x8 x9 x10 x11 x12 x13 x14 x15) (View.ld x13 r0_46) (ix3 0 r k) = ∑ d, row x0 x1 x2 x3 r d * x13 (ix2 d ⟨1024 + k.val, by omega⟩) := by
  rw [pay4_at]
  simp only [pay52_at]
  pointwise

theorem pay26_row (r : Fin 512) (k : Fin 768) : k0_pay26 (k0_pay52 x0 x1 x2 x3 x4 x5 x6 x7 x8 x9 x10 x11 x12 x13 x14 x15) (View.ld x7 r0_20) (ix2 r k) = ∑ d, row x0 x1 x2 x3 r d * x7 (ix2 d k) := by
  rw [pay26_at]
  simp only [pay52_at]
  pointwise

theorem pay56_at (r : Fin 512) (k : Fin 768) : k0_pay56 x0 x1 x2 x3 x4 x5 x6 x7 x8 x9 x10 x11 x12 x13 x14 x15 (ix2 r k) = ∑ d, row x0 x1 x2 x3 r d * x7 (ix2 d k) := pay26_row x0 x1 x2 x3 x4 x5 x6 x7 x8 x9 x10 x11 x12 x13 x14 x15 r k

/-- The latent part of the queries: the first 384 columns of the latent product, normed. -/
def latentQ (x0 : Vec Ideal S1x512x1024 .f32) (x1 : Vec Ideal S1x1024 .f32) (x2 x3 : Vec Ideal S1x1x1024 .f32) (x7 : Vec Ideal S1024x768 .bf16)
    (x8 : Vec Ideal S1x384 .f32) (r : Fin 512) : Fin 384 → EReal :=
  rms (Ideal.ofBits .f32 0x43C00000#32) (fun d : Fin 384 => ∑ e, row x0 x1 x2 x3 r e * x7 (ix2 e ⟨d.val, by omega⟩)) (fun d => x8 (ix2 0 d))

/-- The latent part of the keys and values: the next 256 columns, normed. -/
def latentKv (x0 : Vec Ideal S1x512x1024 .f32) (x1 : Vec Ideal S1x1024 .f32) (x2 x3 : Vec Ideal S1x1x1024 .f32) (x7 : Vec Ideal S1024x768 .bf16)
    (x10 : Vec Ideal S1x256 .f32) (r : Fin 512) : Fin 256 → EReal :=
  rms (Ideal.ofBits .f32 0x43800000#32) (fun d : Fin 256 => ∑ e, row x0 x1 x2 x3 r e * x7 (ix2 e ⟨384 + d.val, by omega⟩)) (fun d => x10 (ix2 0 d))

theorem pay57_at (r : Fin 512) (k : Fin 384) : k0_pay57 x0 x1 x2 x3 x4 x5 x6 x7 x8 x9 x10 x11 x12 x13 x14 x15 (ix2 r k) = latentQ x0 x1 x2 x3 x7 x8 r k := by
  rw [show k0_pay57 x0 x1 x2 x3 x4 x5 x6 x7 x8 x9 x10 x11 x12 x13 x14 x15 = k0_pay27 (k0_pay52 x0 x1 x2 x3 x4 x5 x6 x7 x8 x9 x10 x11 x12 x13 x14 x15) (View.ld x7 r0_20) (View.ld x8 r0_21) from rfl, pay27_at]
  simp only [pay26_row]
  unfold latentQ rms
  pointwise

theorem ckv_at (r : Fin 512) (k : Fin 256) : k0_pay28 (k0_pay56 x0 x1 x2 x3 x4 x5 x6 x7 x8 x9 x10 x11 x12 x13 x14 x15) (View.ld x10 r0_22) (ix2 r k) = latentKv x0 x1 x2 x3 x7 x10 r k := by
  rw [pay28_at]
  simp only [pay56_at]
  unfold latentKv rms
  pointwise

theorem pay29_row (r : Fin 512) (k : Fin 1024) :
    k0_pay29 (k0_pay57 x0 x1 x2 x3 x4 x5 x6 x7 x8 x9 x10 x11 x12 x13 x14 x15) (View.ld x9 r0_23) (ix2 r k) = ∑ d, latentQ x0 x1 x2 x3 x7 x8 r d * x9 (ix2 d k) := by
  rw [pay29_at]
  simp only [pay57_at]
  pointwise

theorem pay58_at (r : Fin 512) (k : Fin 1024) : k0_pay58 x0 x1 x2 x3 x4 x5 x6 x7 x8 x9 x10 x11 x12 x13 x14 x15 (ix2 r k) = ∑ d, latentQ x0 x1 x2 x3 x7 x8 r d * x9 (ix2 d k) := pay29_row x0 x1 x2 x3 x4 x5 x6 x7 x8 x9 x10 x11 x12 x13 x14 x15 r k

theorem pay59_at (r k : Fin 512) : k0_pay59 x0 x1 x2 x3 x4 x5 x6 x7 x8 x9 x10 x11 x12 x13 x14 x15 (ix2 r k) = ∑ d, latentKv x0 x1 x2 x3 x7 x10 r d * x11 (ix2 d k) := by
  rw [show k0_pay59 x0 x1 x2 x3 x4 x5 x6 x7 x8 x9 x10 x11 x12 x13 x14 x15 = k0_pay30 (k0_pay56 x0 x1 x2 x3 x4 x5 x6 x7 x8 x9 x10 x11 x12 x13 x14 x15) (View.ld x10 r0_22) (View.ld x11 r0_24) from rfl, pay30_at]
  simp only [ckv_at]
  pointwise

theorem pay54_at (r k : Fin 512) : k0_pay54 x0 x1 x2 x3 x4 x5 x6 x7 x8 x9 x10 x11 x12 x13 x14 x15 (ix2 r k) = ∑ d, row x0 x1 x2 x3 r d * x4 (ix2 d ⟨512 + k.val, by omega⟩) := pay14_row x0 x1 x2 x3 x4 x5 x6 x7 x8 x9 x10 x11 x12 x13 x14 x15 r k

theorem pay60_at {C S : Fin 32 → EReal} (r : Fin 512) (i : Fin 128) (t : Tables (k0_pay55 x0 x1 x2 x3 x4 x5 x6 x7 x8 x9 x10 x11 x12 x13 x14 x15) (View.ld x14 r0_0) (k0_pay51 x0 x1 x2 x3 x4 x5 x6 x7 x8 x9 x10 x11 x12 x13 x14 x15) C S r) :
    k0_pay60 x0 x1 x2 x3 x4 x5 x6 x7 x8 x9 x10 x11 x12 x13 x14 x15 (ix2 r i) = turned (fun k : Fin 768 => ∑ d, row x0 x1 x2 x3 r d * x7 (ix2 d k)) C S ⟨640 + i.val, by omega⟩ := by
  rw [show k0_pay60 x0 x1 x2 x3 x4 x5 x6 x7 x8 x9 x10 x11 x12 x13 x14 x15 = k0_pay31 (View.ld x14 r0_0) (k0_pay51 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) from rfl, pay31_at t]
  simp only [pay56_at]

theorem out16_at {C S : Fin 32 → EReal} (r i : Fin 512) (t : Tables (k0_pay53 x0 x1 x2 x3 x4 x5 x6 x7 x8 x9 x10 x11 x12 x13 x14 x15) (View.ld x14 r0_0) (k0_pay51 x0 x1 x2 x3 x4 x5 x6 x7 x8 x9 x10 x11 x12 x13 x14 x15) C S r) :
    out0_16 x0 x1 x2 x3 x4 x5 x6 x7 x8 x9 x10 x11 x12 x13 x14 x15 (ix3 0 r i) = turned (fun k : Fin 512 => ∑ d, row x0 x1 x2 x3 r d * x4 (ix2 d ⟨k.val, by omega⟩)) C S i * kda := by
  unfold out0_16
  canon_tiles y h
  all_goals
    idx_vars y
  all_goals
    obtain rfl : y0 = 0 := Subsingleton.elim _ _
    obtain rfl : r = y1 := Fin.ext h1
    first | rw [pay13_at t] | rw [pay12_at, pay11_at t] | rw [pay10_at t] | rw [pay9_at t]
    simp only [pay8_row]
    exact congrArg (turned _ C S · * kda) (Fin.ext (by dsimp only; omega))

theorem out17_at {C S : Fin 32 → EReal} (n : Fin 4) (r : Fin 512) (j : Fin 128) (t : Tables (k0_pay53 x0 x1 x2 x3 x4 x5 x6 x7 x8 x9 x10 x11 x12 x13 x14 x15) (View.ld x14 r0_0) (k0_pay51 x0 x1 x2 x3 x4 x5 x6 x7 x8 x9 x10 x11 x12 x13 x14 x15) C S r) :
    out0_17 x0 x1 x2 x3 x4 x5 x6 x7 x8 x9 x10 x11 x12 x13 x14 x15 (ix4 0 n r j) = turned (fun k : Fin 512 => ∑ d, row x0 x1 x2 x3 r d * x4 (ix2 d ⟨512 + k.val, by omega⟩)) C S ⟨n.val * 128 + j.val, by omega⟩ := by
  unfold out0_17
  canon_tiles y h
  all_goals
    idx_vars y
  all_goals
    obtain rfl : y0 = 0 := Subsingleton.elim _ _
    obtain rfl : y1 = 0 := Subsingleton.elim _ _
    obtain rfl : r = y2 := Fin.ext h2
    obtain rfl : j = y3 := Fin.ext h3
    first | rw [pay19_at t] | rw [pay18_at t] | rw [pay17_at, pay16_at t] | rw [pay15_at t]
    simp only [pay54_at, pay14_row]
    exact congrArg (turned _ C S ·) (Fin.ext (by dsimp only; omega))

theorem out18_at (r : Fin 512) (i : Fin 512) :
    out0_18 x0 x1 x2 x3 x4 x5 x6 x7 x8 x9 x10 x11 x12 x13 x14 x15 (ix3 0 r i) = ∑ d, row x0 x1 x2 x3 r d * x6 (ix2 d ⟨i.val, by omega⟩) := by
  unfold out0_18
  canon_tiles y h
  all_goals
    idx_vars y
  all_goals
    obtain rfl : y0 = 0 := Subsingleton.elim _ _
    obtain rfl : r = y1 := Fin.ext h1
    obtain rfl : i = y2 := Fin.ext h2
    rw [pay22_at, pay21_row]

theorem out19_at (r : Fin 512) (i : Fin 1024) :
    out0_19 x0 x1 x2 x3 x4 x5 x6 x7 x8 x9 x10 x11 x12 x13 x14 x15 (ix3 0 r i) = ∑ d, row x0 x1 x2 x3 r d * x6 (ix2 d ⟨512 + i.val, by omega⟩) := by
  unfold out0_19
  canon_tiles y h
  all_goals
    idx_vars y
  all_goals
    obtain rfl : y0 = 0 := Subsingleton.elim _ _
    obtain rfl : r = y1 := Fin.ext h1
    obtain rfl : i = y2 := Fin.ext h2
    rw [pay23_row]

theorem out20_at (r : Fin 512) (i : Fin 128) :
    out0_20 x0 x1 x2 x3 x4 x5 x6 x7 x8 x9 x10 x11 x12 x13 x14 x15 (ix3 0 r i) = ∑ d, row x0 x1 x2 x3 r d * x6 (ix2 d ⟨1536 + i.val, by omega⟩) := by
  unfold out0_20
  canon_tiles y h
  all_goals
    idx_vars y
  all_goals
    obtain rfl : y0 = 0 := Subsingleton.elim _ _
    obtain rfl : r = y1 := Fin.ext h1
    obtain rfl : i = y2 := Fin.ext h2
    rw [pay24_row]

theorem out21_at {C S : Fin 32 → EReal} (r : Fin 512) (i : Fin 1024) (t : Tables (k0_pay55 x0 x1 x2 x3 x4 x5 x6 x7 x8 x9 x10 x11 x12 x13 x14 x15) (View.ld x14 r0_0) (k0_pay51 x0 x1 x2 x3 x4 x5 x6 x7 x8 x9 x10 x11 x12 x13 x14 x15) C S r) :
    out0_21 x0 x1 x2 x3 x4 x5 x6 x7 x8 x9 x10 x11 x12 x13 x14 x15 (ix3 0 r i) = headed (fun k : Fin 1024 => ∑ d, latentQ x0 x1 x2 x3 x7 x8 r d * x9 (ix2 d k)) C S i * kmla := by
  unfold out0_21 headed
  canon_tiles y h
  all_goals
    idx_vars y
  all_goals
    obtain rfl : y0 = 0 := Subsingleton.elim _ _
    obtain rfl : r = y1 := Fin.ext h1
    first
      | rw [pay48_at t, if_neg (by omega)]
      | rw [pay47_at, if_pos (by omega)]
      | rw [pay43_at t, if_neg (by omega)]
      | rw [pay42_at, if_pos (by omega)]
      | rw [pay39_at, pay38_at t, if_neg (by omega)]
      | rw [pay37_at, if_pos (by omega)]
      | rw [pay34_at, pay32_at t, if_neg (by omega)]
      | rw [pay33_at, if_pos (by omega)]
    simp only [pay58_at, pay29_row]
    first
      | exact congrArg (turned _ C S · * kmla) (Fin.ext (by dsimp only; omega))
      | exact congrArg (fun k : Fin 1024 => (∑ d, latentQ x0 x1 x2 x3 x7 x8 r d * x9 (ix2 d k)) * kmla) (Fin.ext (by dsimp only; omega))

theorem out22_at {C S : Fin 32 → EReal} (n : Fin 4) (r : Fin 512) (j : Fin 256) (t : Tables (k0_pay55 x0 x1 x2 x3 x4 x5 x6 x7 x8 x9 x10 x11 x12 x13 x14 x15) (View.ld x14 r0_0) (k0_pay51 x0 x1 x2 x3 x4 x5 x6 x7 x8 x9 x10 x11 x12 x13 x14 x15) C S r) :
    out0_22 x0 x1 x2 x3 x4 x5 x6 x7 x8 x9 x10 x11 x12 x13 x14 x15 (ix4 0 n r j) = joined (fun k : Fin 512 => ∑ d, latentKv x0 x1 x2 x3 x7 x10 r d * x11 (ix2 d k))
      (fun k : Fin 768 => ∑ d, row x0 x1 x2 x3 r d * x7 (ix2 d k)) C S n j := by
  unfold out0_22 joined
  canon_tiles y h
  all_goals
    idx_vars y
  all_goals
    obtain rfl : y0 = 0 := Subsingleton.elim _ _
    obtain rfl : y1 = 0 := Subsingleton.elim _ _
    obtain rfl : r = y2 := Fin.ext h2
    first
      | rw [pay50_at, pay60_at x0 x1 x2 x3 x4 x5 x6 x7 x8 x9 x10 x11 x12 x13 x14 x15 r _ t, dif_neg (by omega)]
      | rw [pay49_at, pay59_at, dif_pos (by omega)]
      | rw [pay46_at, pay60_at x0 x1 x2 x3 x4 x5 x6 x7 x8 x9 x10 x11 x12 x13 x14 x15 r _ t, dif_neg (by omega)]
      | rw [pay45_at, pay44_at, pay59_at, dif_pos (by omega)]
      | rw [pay41_at, pay60_at x0 x1 x2 x3 x4 x5 x6 x7 x8 x9 x10 x11 x12 x13 x14 x15 r _ t, dif_neg (by omega)]
      | rw [pay40_at, pay59_at, dif_pos (by omega)]
      | rw [pay36_at, pay60_at x0 x1 x2 x3 x4 x5 x6 x7 x8 x9 x10 x11 x12 x13 x14 x15 r _ t, dif_neg (by omega)]
      | rw [pay35_at, pay59_at, dif_pos (by omega)]
    first
      | exact congrArg (turned _ C S ·) (Fin.ext (by dsimp only; omega))
      | exact congrArg (fun k : Fin 512 => ∑ d, latentKv x0 x1 x2 x3 x7 x10 r d * x11 (ix2 d k)) (Fin.ext (by dsimp only; omega))

theorem out23_at (r : Fin 512) (i : Fin 1536) :
    out0_23 x0 x1 x2 x3 x4 x5 x6 x7 x8 x9 x10 x11 x12 x13 x14 x15 (ix3 0 r i) = ∑ d, row x0 x1 x2 x3 r d * x13 (ix2 d i) := by
  unfold out0_23
  canon_tiles y h
  all_goals
    idx_vars y
  all_goals
    obtain rfl : y0 = 0 := Subsingleton.elim _ _
    obtain rfl : r = y1 := Fin.ext h1
    first | rw [pay4_row] | rw [pay3_row] | rw [pay2_row]
    exact congrArg (fun k : Fin 1536 => ∑ d, row x0 x1 x2 x3 r d * x13 (ix2 d k)) (Fin.ext (by dsimp only; omega))

theorem out24_at (e r : Fin 512) :
    out0_24 x0 x1 x2 x3 x4 x5 x6 x7 x8 x9 x10 x11 x12 x13 x14 x15 (ix3 0 e r) = ∑ d, x5 (ix2 e d) * row x0 x1 x2 x3 r d := by
  unfold out0_24
  canon_tiles y h
  all_goals
    idx_vars y
  all_goals
    obtain rfl : y0 = 0 := Subsingleton.elim _ _
    obtain rfl : e = y1 := Fin.ext h1
    obtain rfl : r = y2 := Fin.ext h2
    rw [pay20_at]
    simp only [pay52_at]
    pointwise

theorem out25_at (e r : Fin 512) :
    out0_25 x0 x1 x2 x3 x4 x5 x6 x7 x8 x9 x10 x11 x12 x13 x14 x15 (ix3 0 e r) = ∑ d, x12 (ix2 e d) * latentKv x0 x1 x2 x3 x7 x10 r d := by
  unfold out0_25
  canon_tiles y h
  all_goals
    idx_vars y
  all_goals
    obtain rfl : y0 = 0 := Subsingleton.elim _ _
    obtain rfl : e = y1 := Fin.ext h1
    obtain rfl : r = y2 := Fin.ext h2
    rw [pay1_at]
    simp only [ckv_at]
    pointwise

end Cert.InprojIdeal.Hand

end
-- ==== Proof.InprojRefIdealValue.lean ====
/- The reference's input projection read at an index. -/
module

public import proofs.«01_k».proof.Proof.Gen.InprojRefIdeal.Run
public import proofs.«01_k».proof.Proof.Projection
public import Idealize.ShloMosaic.Lib.Pointwise
public import Idealize.ShloMosaic.Lib.Pipeline.ValueKit

@[expose] public section

set_option maxRecDepth 16384

noncomputable section

namespace Cert.InprojRefIdeal.Value

open Cert.InprojRefIdeal Cert.InprojRefIdeal.Gen Cert.Rows Cert.Projection
open Idealize.ShloMosaic

/-- Every row over the root of its mean square, times a gain, shifted and scaled. -/
def hidden (x : FVec Ideal S4x8192x1024 .f32) (g : FVec Ideal S1x1024 .f32) (s c : FVec Ideal S4x1x1024 .f32) : FVec Ideal S4x8192x1024 .f32 :=
  addf (mulf (mulf (mulf x (broadcastInDim S4x8192x1024 ![0, 1, 2] bcast_S4x8192x1_S4x8192x1024_0_1_2 (Host.rsqrt (addf
      (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024))))
    (broadcastInDim S4x8192x1024 ![0, 1, 2] bcast_S4x1x1024_S4x8192x1024_0_1_2
      (addf (broadcastInDim S4x1x1024 ![] bcast_S_S4x1x1024 (constant S_ .f32 0x3F800000#32)) c)))
    (broadcastInDim S4x8192x1024 ![0, 1, 2] bcast_S4x1x1024_S4x8192x1024_0_1_2 s)

/-- The modulated row of a token. -/
def row (x : FVec Ideal S4x8192x1024 .f32) (g : FVec Ideal S1x1024 .f32) (s c : FVec Ideal S4x1x1024 .f32) (b : Fin 4) (r : Fin 8192) : Fin 1024 → EReal :=
  modded (fun j => x (ix3 b r j)) (fun j => g (ix2 0 j)) (fun j => s (ix3 b 0 j)) (fun j => c (ix3 b 0 j))

theorem hidden_at (x : FVec Ideal S4x8192x1024 .f32) (g : FVec Ideal S1x1024 .f32) (s c : FVec Ideal S4x1x1024 .f32) (b : Fin 4) (r : Fin 8192) (i : Fin 1024) :
    hidden x g s c (ix3 b r i) = row x g s c b r i := by
  pointwise [hidden, row, modded, Rows.normed]

/-- Rows of 384 columns over the root of their mean square, times a gain. -/
def normed384 (x : FVec Ideal S4x8192x384 .f32) (g : FVec Ideal S1x384 .f32) : FVec Ideal S4x8192x384 .f32 :=
  mulf (mulf x (broadcastInDim S4x8192x384 ![0, 1, 2] bcast_S4x8192x1_S4x8192x384_0_1_2 (Host.rsqrt (addf
      (Host.divf (broadcastInDim S4x8192x1 ![0, 1] bcast_S4x8192_S4x8192x1_0_1
          (Host.reduceAdd (mulf x x) (constant S_ .f32 0x00000000#32) reducesTo_S4x8192x384_S4x8192_d2 h_S_))
        (broadcastInDim S4x8192x1 ![] bcast_S_S4x8192x1 (constant S_ .f32 0x43C00000#32)))
      (broadcastInDim S4x8192x1 ![] bcast_S_S4x8192x1 (constant S_ .f32 0x358637BD#32))))))
    (broadcastInDim S4x8192x384 ![0, 1, 2] bcast_S1x1x384_S4x8192x384_0_1_2
      (broadcastInDim S1x1x384 ![2] bcast_S384_S1x1x384_2 (shapeCast _ g shapeCasts_S1x384_S384)))

theorem normed384_at (x : FVec Ideal S4x8192x384 .f32) (g : FVec Ideal S1x384 .f32) (b : Fin 4) (r : Fin 8192) (i : Fin 384) :
    normed384 x g (ix3 b r i) = rms (Ideal.ofBits .f32 0x43C00000#32) (fun d => x (ix3 b r d)) (fun d => g (ix2 0 d)) i := by
  pointwise [normed384, rms]

/-- Rows of 256 columns over the root of their mean square, times a gain. -/
def normed256 (x : FVec Ideal S4x8192x256 .f32) (g : FVec Ideal S1x256 .f32) : FVec Ideal S4x8192x256 .f32 :=
  mulf (mulf x (broadcastInDim S4x8192x256 ![0, 1, 2] bcast_S4x8192x1_S4x8192x256_0_1_2 (Host.rsqrt (addf
      (Host.divf (broadcastInDim S4x8192x1 ![0, 1] bcast_S4x8192_S4x8192x1_0_1
          (Host.reduceAdd (mulf x x) (constant S_ .f32 0x00000000#32) reducesTo_S4x8192x256_S4x8192_d2 h_S_))
        (broadcastInDim S4x8192x1 ![] bcast_S_S4x8192x1 (constant S_ .f32 0x43800000#32)))
      (broadcastInDim S4x8192x1 ![] bcast_S_S4x8192x1 (constant S_ .f32 0x358637BD#32))))))
    (broadcastInDim S4x8192x256 ![0, 1, 2] bcast_S1x1x256_S4x8192x256_0_1_2
      (broadcastInDim S1x1x256 ![2] bcast_S256_S1x1x256_2 (shapeCast _ g shapeCasts_S1x256_S256)))

theorem normed256_at (x : FVec Ideal S4x8192x256 .f32) (g : FVec Ideal S1x256 .f32) (b : Fin 4) (r : Fin 8192) (i : Fin 256) :
    normed256 x g (ix3 b r i) = rms (Ideal.ofBits .f32 0x43800000#32) (fun d => x (ix3 b r d)) (fun d => g (ix2 0 d)) i := by
  pointwise [normed256, rms]

/-- 8 groups of 64 columns, the pairs of each turned. -/
def turn8 (y : FVec Ideal S4x8192x8x64 .f32) (c s : FVec Ideal S8192x32 .f32) : FVec Ideal S4x8192x8x64 .f32 :=
  concatenate S4x8192x8x64 3 [⟨S4x8192x8x32, (subf (mulf (extractStridedSlice S4x8192x8x32 ![0, 0, 0, 0] y slices_S4x8192x8x64_S4x8192x8x32_0_0_0_0)
        (broadcastInDim S4x8192x8x32 ![0, 1, 2, 3] bcast_S1x8192x1x32_S4x8192x8x32_0_1_2_3 (broadcastInDim S1x8192x1x32 ![1, 2, 3] bcast_S8192x1x32_S1x8192x1x32_1_2_3 (broadcastInDim S8192x1x32 ![0, 2] bcast_S8192x32_S8192x1x32_0_2 c))))
      (mulf (extractStridedSlice S4x8192x8x32 ![0, 0, 0, 32] y slices_S4x8192x8x64_S4x8192x8x32_0_0_0_32)
        (broadcastInDim S4x8192x8x32 ![0, 1, 2, 3] bcast_S1x8192x1x32_S4x8192x8x32_0_1_2_3 (broadcastInDim S1x8192x1x32 ![1, 2, 3] bcast_S8192x1x32_S1x8192x1x32_1_2_3 (broadcastInDim S8192x1x32 ![0, 2] bcast_S8192x32_S8192x1x32_0_2 s)))))⟩,
    ⟨S4x8192x8x32, (addf (mulf (extractStridedSlice S4x8192x8x32 ![0, 0, 0, 32] y slices_S4x8192x8x64_S4x8192x8x32_0_0_0_32)
        (broadcastInDim S4x8192x8x32 ![0, 1, 2, 3] bcast_S1x8192x1x32_S4x8192x8x32_0_1_2_3 (broadcastInDim S1x8192x1x32 ![1, 2, 3] bcast_S8192x1x32_S1x8192x1x32_1_2_3 (broadcastInDim S8192x1x32 ![0, 2] bcast_S8192x32_S8192x1x32_0_2 c))))
      (mulf (extractStridedSlice S4x8192x8x32 ![0, 0, 0, 0] y slices_S4x8192x8x64_S4x8192x8x32_0_0_0_0)
        (broadcastInDim S4x8192x8x32 ![0, 1, 2, 3] bcast_S1x8192x1x32_S4x8192x8x32_0_1_2_3 (broadcastInDim S1x8192x1x32 ![1, 2, 3] bcast_S8192x1x32_S1x8192x1x32_1_2_3 (broadcastInDim S8192x1x32 ![0, 2] bcast_S8192x32_S8192x1x32_0_2 s)))))⟩]
    concatenates_S4x8192x8x32_S4x8192x8x32_S4x8192x8x64_d3

theorem turn8_low (y : FVec Ideal S4x8192x8x64 .f32) (c s : FVec Ideal S8192x32 .f32) (b : Fin 4) (r : Fin 8192) (h : Fin 8) (j : Fin 64) (hj : j.val < 32) :
    turn8 y c s (ix4 b r h j) = y (ix4 b r h j) * c (ix2 r ⟨j.val, hj⟩) - y (ix4 b r h ⟨j.val + 32, by omega⟩) * s (ix2 r ⟨j.val, hj⟩) := by
  pointwise [turn8]
  rw [dif_pos hj]
  simp only [Nat.add_comm]

theorem turn8_high (y : FVec Ideal S4x8192x8x64 .f32) (c s : FVec Ideal S8192x32 .f32) (b : Fin 4) (r : Fin 8192) (h : Fin 8) (j : Fin 64) (hj : ¬ j.val < 32) :
    turn8 y c s (ix4 b r h j) = y (ix4 b r h j) * c (ix2 r ⟨j.val - 32, by omega⟩) + y (ix4 b r h ⟨j.val - 32, by omega⟩) * s (ix2 r ⟨j.val - 32, by omega⟩) := by
  pointwise [turn8]
  rw [dif_neg hj]
  have e : (⟨32 + (j.val - 32), by omega⟩ : Fin 64) = j := Fin.ext (by dsimp only; omega)
  rw [e]

/-- The turned rows of 512 columns. -/
def rope8 (x : FVec Ideal S4x8192x512 .f32) (c s : FVec Ideal S8192x32 .f32) : FVec Ideal S4x8192x512 .f32 :=
  shapeCast _ (turn8 (shapeCast _ x shapeCasts_S4x8192x512_S4x8192x8x64) c s) shapeCasts_S4x8192x8x64_S4x8192x512

theorem group8_at (x : FVec Ideal S4x8192x512 .f32) (b : Fin 4) (r : Fin 8192) (h : Fin 8) (j : Fin 64) :
    (shapeCast S4x8192x8x64 x shapeCasts_S4x8192x512_S4x8192x8x64 : FVec Ideal S4x8192x8x64 .f32) (ix4 b r h j) = x (ix3 b r ⟨h.val * 64 + j.val, by omega⟩) := by
  pointwise

theorem rope8_at (x : FVec Ideal S4x8192x512 .f32) (c s : FVec Ideal S8192x32 .f32) (b : Fin 4) (r : Fin 8192) (i : Fin 512) :
    rope8 x c s (ix3 b r i) = turned (fun k => x (ix3 b r k)) (fun l => c (ix2 r l)) (fun l => s (ix2 r l)) i := by
  have h : rope8 x c s (ix3 b r i) = turn8 (shapeCast _ x shapeCasts_S4x8192x512_S4x8192x8x64) c s
      (ix4 b r ⟨i.val / 64, by omega⟩ ⟨i.val % 64, by omega⟩) := by
    pointwise [rope8]
  rw [h]
  unfold turned
  by_cases hi : i.val % 64 < 32
  · rw [turn8_low _ c s b r _ _ hi, if_pos hi, group8_at, group8_at]
    have e1 : (⟨i.val / 64 * 64 + i.val % 64, by omega⟩ : Fin 512) = i := Fin.ext (by dsimp only; omega)
    have e2 : (⟨i.val / 64 * 64 + (i.val % 64 + 32), by omega⟩ : Fin 512) = ⟨(i.val + 32) % 512, Nat.mod_lt _ (by decide)⟩ := Fin.ext (by dsimp only; omega)
    have e3 : (⟨i.val % 64, hi⟩ : Fin 32) = ⟨i.val % 32, Nat.mod_lt _ (by decide)⟩ := Fin.ext (by dsimp only; omega)
    rw [e1, e2, e3]
  · rw [turn8_high _ c s b r _ _ hi, if_neg hi, group8_at, group8_at]
    have e1 : (⟨i.val / 64 * 64 + i.val % 64, by omega⟩ : Fin 512) = i := Fin.ext (by dsimp only; omega)
    have e2 : (⟨i.val / 64 * 64 + (i.val % 64 - 32), by omega⟩ : Fin 512) = ⟨i.val - 32, by omega⟩ := Fin.ext (by dsimp only; omega)
    have e3 : (⟨i.val % 64 - 32, by omega⟩ : Fin 32) = ⟨i.val % 32, Nat.mod_lt _ (by decide)⟩ := Fin.ext (by dsimp only; omega)
    rw [e1, e2, e3]

/-- 2 groups of 64 columns, the pairs of each turned. -/
def turn2 (y : FVec Ideal S4x8192x2x64 .f32) (c s : FVec Ideal S8192x32 .f32) : FVec Ideal S4x8192x2x64 .f32 :=
  concatenate S4x8192x2x64 3 [⟨S4x8192x2x32, (subf (mulf (extractStridedSlice S4x8192x2x32 ![0, 0, 0, 0] y slices_S4x8192x2x64_S4x8192x2x32_0_0_0_0)
        (broadcastInDim S4x8192x2x32 ![0, 1, 2, 3] bcast_S1x8192x1x32_S4x8192x2x32_0_1_2_3 (broadcastInDim S1x8192x1x32 ![1, 2, 3] bcast_S8192x1x32_S1x8192x1x32_1_2_3 (broadcastInDim S8192x1x32 ![0, 2] bcast_S8192x32_S8192x1x32_0_2 c))))
      (mulf (extractStridedSlice S4x8192x2x32 ![0, 0, 0, 32] y slices_S4x8192x2x64_S4x8192x2x32_0_0_0_32)
        (broadcastInDim S4x8192x2x32 ![0, 1, 2, 3] bcast_S1x8192x1x32_S4x8192x2x32_0_1_2_3 (broadcastInDim S1x8192x1x32 ![1, 2, 3] bcast_S8192x1x32_S1x8192x1x32_1_2_3 (broadcastInDim S8192x1x32 ![0, 2] bcast_S8192x32_S8192x1x32_0_2 s)))))⟩,
    ⟨S4x8192x2x32, (addf (mulf (extractStridedSlice S4x8192x2x32 ![0, 0, 0, 32] y slices_S4x8192x2x64_S4x8192x2x32_0_0_0_32)
        (broadcastInDim S4x8192x2x32 ![0, 1, 2, 3] bcast_S1x8192x1x32_S4x8192x2x32_0_1_2_3 (broadcastInDim S1x8192x1x32 ![1, 2, 3] bcast_S8192x1x32_S1x8192x1x32_1_2_3 (broadcastInDim S8192x1x32 ![0, 2] bcast_S8192x32_S8192x1x32_0_2 c))))
      (mulf (extractStridedSlice S4x8192x2x32 ![0, 0, 0, 0] y slices_S4x8192x2x64_S4x8192x2x32_0_0_0_0)
        (broadcastInDim S4x8192x2x32 ![0, 1, 2, 3] bcast_S1x8192x1x32_S4x8192x2x32_0_1_2_3 (broadcastInDim S1x8192x1x32 ![1, 2, 3] bcast_S8192x1x32_S1x8192x1x32_1_2_3 (broadcastInDim S8192x1x32 ![0, 2] bcast_S8192x32_S8192x1x32_0_2 s)))))⟩]
    concatenates_S4x8192x2x32_S4x8192x2x32_S4x8192x2x64_d3

theorem turn2_low (y : FVec Ideal S4x8192x2x64 .f32) (c s : FVec Ideal S8192x32 .f32) (b : Fin 4) (r : Fin 8192) (h : Fin 2) (j : Fin 64) (hj : j.val < 32) :
    turn2 y c s (ix4 b r h j) = y (ix4 b r h j) * c (ix2 r ⟨j.val, hj⟩) - y (ix4 b r h ⟨j.val + 32, by omega⟩) * s (ix2 r ⟨j.val, hj⟩) := by
  pointwise [turn2]
  rw [dif_pos hj]
  simp only [Nat.add_comm]

theorem turn2_high (y : FVec Ideal S4x8192x2x64 .f32) (c s : FVec Ideal S8192x32 .f32) (b : Fin 4) (r : Fin 8192) (h : Fin 2) (j : Fin 64) (hj : ¬ j.val < 32) :
    turn2 y c s (ix4 b r h j) = y (ix4 b r h j) * c (ix2 r ⟨j.val - 32, by omega⟩) + y (ix4 b r h ⟨j.val - 32, by omega⟩) * s (ix2 r ⟨j.val - 32, by omega⟩) := by
  pointwise [turn2]
  rw [dif_neg hj]
  have e : (⟨32 + (j.val - 32), by omega⟩ : Fin 64) = j := Fin.ext (by dsimp only; omega)
  rw [e]

/-- The turned rows of 128 columns. -/
def rope2 (x : FVec Ideal S4x8192x128 .f32) (c s : FVec Ideal S8192x32 .f32) : FVec Ideal S4x8192x128 .f32 :=
  shapeCast _ (turn2 (shapeCast _ x shapeCasts_S4x8192x128_S4x8192x2x64) c s) shapeCasts_S4x8192x2x64_S4x8192x128

theorem group2_at (x : FVec Ideal S4x8192x128 .f32) (b : Fin 4) (r : Fin 8192) (h : Fin 2) (j : Fin 64) :
    (shapeCast S4x8192x2x64 x shapeCasts_S4x8192x128_S4x8192x2x64 : FVec Ideal S4x8192x2x64 .f32) (ix4 b r h j) = x (ix3 b r ⟨h.val * 64 + j.val, by omega⟩) := by
  pointwise

theorem rope2_at (x : FVec Ideal S4x8192x128 .f32) (c s : FVec Ideal S8192x32 .f32) (b : Fin 4) (r : Fin 8192) (i : Fin 128) :
    rope2 x c s (ix3 b r i) = turned (fun k => x (ix3 b r k)) (fun l => c (ix2 r l)) (fun l => s (ix2 r l)) i := by
  have h : rope2 x c s (ix3 b r i) = turn2 (shapeCast _ x shapeCasts_S4x8192x128_S4x8192x2x64) c s
      (ix4 b r ⟨i.val / 64, by omega⟩ ⟨i.val % 64, by omega⟩) := by
    pointwise [rope2]
  rw [h]
  unfold turned
  by_cases hi : i.val % 64 < 32
  · rw [turn2_low _ c s b r _ _ hi, if_pos hi, group2_at, group2_at]
    have e1 : (⟨i.val / 64 * 64 + i.val % 64, by omega⟩ : Fin 128) = i := Fin.ext (by dsimp only; omega)
    have e2 : (⟨i.val / 64 * 64 + (i.val % 64 + 32), by omega⟩ : Fin 128) = ⟨(i.val + 32) % 128, Nat.mod_lt _ (by decide)⟩ := Fin.ext (by dsimp only; omega)
    have e3 : (⟨i.val % 64, hi⟩ : Fin 32) = ⟨i.val % 32, Nat.mod_lt _ (by decide)⟩ := Fin.ext (by dsimp only; omega)
    rw [e1, e2, e3]
  · rw [turn2_high _ c s b r _ _ hi, if_neg hi, group2_at, group2_at]
    have e1 : (⟨i.val / 64 * 64 + i.val % 64, by omega⟩ : Fin 128) = i := Fin.ext (by dsimp only; omega)
    have e2 : (⟨i.val / 64 * 64 + (i.val % 64 - 32), by omega⟩ : Fin 128) = ⟨i.val - 32, by omega⟩ := Fin.ext (by dsimp only; omega)
    have e3 : (⟨i.val % 64 - 32, by omega⟩ : Fin 32) = ⟨i.val % 32, Nat.mod_lt _ (by decide)⟩ := Fin.ext (by dsimp only; omega)
    rw [e1, e2, e3]

/-- Queries and keys of the differential attention. -/
def wide (h : FVec Ideal S4x8192x1024 .f32) (w : FVec Ideal S1024x1024 .bf16) : FVec Ideal S4x8192x1024 .f32 :=
  Host.dotGeneral dot_S4x8192x1024_S1024x1024_S4x8192x1024_2_0_01_1_n_n none h (extf .f32 w bitsLt_bf16_f32)

theorem wide_at (h : FVec Ideal S4x8192x1024 .f32) (w : FVec Ideal S1024x1024 .bf16) (b : Fin 4) (r : Fin 8192) (i : Fin 1024) :
    wide h w (ix3 b r i) = ∑ d, h (ix3 b r d) * w (ix2 d i) := by
  pointwise [wide]

/-- The state-space branch's columns. -/
def ssd (h : FVec Ideal S4x8192x1024 .f32) (w : FVec Ideal S1024x1664 .bf16) : FVec Ideal S4x8192x1664 .f32 :=
  Host.dotGeneral dot_S4x8192x1024_S1024x1664_S4x8192x1664_2_0_01_1_n_n none h (extf .f32 w bitsLt_bf16_f32)

theorem ssd_at (h : FVec Ideal S4x8192x1024 .f32) (w : FVec Ideal S1024x1664 .bf16) (b : Fin 4) (r : Fin 8192) (i : Fin 1664) :
    ssd h w (ix3 b r i) = ∑ d, h (ix3 b r d) * w (ix2 d i) := by
  pointwise [ssd]

/-- The latent attention's columns. -/
def latent (h : FVec Ideal S4x8192x1024 .f32) (w : FVec Ideal S1024x768 .bf16) : FVec Ideal S4x8192x768 .f32 :=
  Host.dotGeneral dot_S4x8192x1024_S1024x768_S4x8192x768_2_0_01_1_n_n none h (extf .f32 w bitsLt_bf16_f32)

theorem latent_at (h : FVec Ideal S4x8192x1024 .f32) (w : FVec Ideal S1024x768 .bf16) (b : Fin 4) (r : Fin 8192) (i : Fin 768) :
    latent h w (ix3 b r i) = ∑ d, h (ix3 b r d) * w (ix2 d i) := by
  pointwise [latent]

/-- The convolution branch's columns. -/
def hyena (h : FVec Ideal S4x8192x1024 .f32) (w : FVec Ideal S1024x1536 .bf16) : FVec Ideal S4x8192x1536 .f32 :=
  Host.dotGeneral dot_S4x8192x1024_S1024x1536_S4x8192x1536_2_0_01_1_n_n none h (extf .f32 w bitsLt_bf16_f32)

theorem hyena_at (h : FVec Ideal S4x8192x1024 .f32) (w : FVec Ideal S1024x1536 .bf16) (b : Fin 4) (r : Fin 8192) (i : Fin 1536) :
    hyena h w (ix3 b r i) = ∑ d, h (ix3 b r d) * w (ix2 d i) := by
  pointwise [hyena]

/-- Queries from their latent part. -/
def upQ (h : FVec Ideal S4x8192x384 .f32) (w : FVec Ideal S384x1024 .bf16) : FVec Ideal S4x8192x1024 .f32 :=
  Host.dotGeneral dot_S4x8192x384_S384x1024_S4x8192x1024_2_0_01_1_n_n none h (extf .f32 w bitsLt_bf16_f32)

theorem upQ_at (h : FVec Ideal S4x8192x384 .f32) (w : FVec Ideal S384x1024 .bf16) (b : Fin 4) (r : Fin 8192) (i : Fin 1024) :
    upQ h w (ix3 b r i) = ∑ d, h (ix3 b r d) * w (ix2 d i) := by
  pointwise [upQ]

/-- Keys from their latent part. -/
def upK (h : FVec Ideal S4x8192x256 .f32) (w : FVec Ideal S256x512 .bf16) : FVec Ideal S4x8192x512 .f32 :=
  Host.dotGeneral dot_S4x8192x256_S256x512_S4x8192x512_2_0_01_1_n_n none h (extf .f32 w bitsLt_bf16_f32)

theorem upK_at (h : FVec Ideal S4x8192x256 .f32) (w : FVec Ideal S256x512 .bf16) (b : Fin 4) (r : Fin 8192) (i : Fin 512) :
    upK h w (ix3 b r i) = ∑ d, h (ix3 b r d) * w (ix2 d i) := by
  pointwise [upK]

/-- Values of the differential attention, a column per token. -/
def valuesT (h : FVec Ideal S4x8192x1024 .f32) (w : FVec Ideal S512x1024 .bf16) : FVec Ideal S4x512x8192 .bf16 :=
  truncf .bf16 (transpose S4x512x8192 [0, 2, 1] (Host.dotGeneral dot_S4x8192x1024_S512x1024_S4x8192x512_2_1_01_0_n_n none h (extf .f32 w bitsLt_bf16_f32))
    transposes_S4x8192x512_S4x512x8192_0_2_1) bitsLt_bf16_f32

theorem valuesT_at (h : FVec Ideal S4x8192x1024 .f32) (w : FVec Ideal S512x1024 .bf16) (b : Fin 4) (e : Fin 512) (r : Fin 8192) :
    valuesT h w (ix3 b e r) = ∑ d, w (ix2 e d) * h (ix3 b r d) := by
  pointwise [valuesT]
  exact Finset.sum_congr rfl fun d _ => mul_comm _ _

/-- Values of the latent attention, a column per token. -/
def latentT (h : FVec Ideal S4x8192x256 .f32) (w : FVec Ideal S512x256 .bf16) : FVec Ideal S4x512x8192 .bf16 :=
  truncf .bf16 (transpose S4x512x8192 [0, 2, 1] (Host.dotGeneral dot_S4x8192x256_S512x256_S4x8192x512_2_1_01_0_n_n none h (extf .f32 w bitsLt_bf16_f32))
    transposes_S4x8192x512_S4x512x8192_0_2_1) bitsLt_bf16_f32

theorem latentT_at (h : FVec Ideal S4x8192x256 .f32) (w : FVec Ideal S512x256 .bf16) (b : Fin 4) (e : Fin 512) (r : Fin 8192) :
    latentT h w (ix3 b e r) = ∑ d, w (ix2 e d) * h (ix3 b r d) := by
  pointwise [latentT]
  exact Finset.sum_congr rfl fun d _ => mul_comm _ _

/-- Rows of 512 columns over the root of 64 and over the logarithm of two. -/
def scaled512 (x : FVec Ideal S4x8192x512 .f32) : FVec Ideal S4x8192x512 .bf16 :=
  truncf .bf16 (Host.divf (Host.divf x (broadcastInDim S4x8192x512 ![] bcast_S_S4x8192x512 (Host.sqrt (constant S_ .f32 0x42800000#32))))
    (broadcastInDim S4x8192x512 ![] bcast_S_S4x8192x512 (Host.log (constant S_ .f32 0x40000000#32)))) bitsLt_bf16_f32

theorem scaled512_at (x : FVec Ideal S4x8192x512 .f32) (b : Fin 4) (r : Fin 8192) (i : Fin 512) :
    scaled512 x (ix3 b r i) = x (ix3 b r i) * (((Real.sqrt 64)⁻¹ * (Real.log 2)⁻¹ : ℝ) : EReal) := by
  rw [← scaled _ 64 (by norm_num), ← width64, ← two]
  pointwise [scaled512]

/-- Rows of 1024 columns over the root of 192 and over the logarithm of two. -/
def scaled1024 (x : FVec Ideal S4x8192x1024 .f32) : FVec Ideal S4x8192x1024 .bf16 :=
  truncf .bf16 (Host.divf (Host.divf x (broadcastInDim S4x8192x1024 ![] bcast_S_S4x8192x1024 (Host.sqrt (constant S_ .f32 0x43400000#32))))
    (broadcastInDim S4x8192x1024 ![] bcast_S_S4x8192x1024 (Host.log (constant S_ .f32 0x40000000#32)))) bitsLt_bf16_f32

theorem scaled1024_at (x : FVec Ideal S4x8192x1024 .f32) (b : Fin 4) (r : Fin 8192) (i : Fin 1024) :
    scaled1024 x (ix3 b r i) = x (ix3 b r i) * (((Real.sqrt 192)⁻¹ * (Real.log 2)⁻¹ : ℝ) : EReal) := by
  rw [← scaled _ 192 (by norm_num), ← width192, ← two]
  pointwise [scaled1024]

/-- The differential attention's queries. -/
def result0 (x : FVec Ideal S4x8192x1024 .f32) (g : FVec Ideal S1x1024 .f32) (s c : FVec Ideal S4x1x1024 .f32) (w : FVec Ideal S1024x1024 .bf16) (cos sin : FVec Ideal S8192x32 .f32) : FVec Ideal S4x8192x512 .bf16 :=
  scaled512 (rope8 (extractStridedSlice S4x8192x512 ![0, 0, 0] (wide (hidden x g s c) w) slices_S4x8192x1024_S4x8192x512_0_0_0) cos sin)

theorem result0_at (x : FVec Ideal S4x8192x1024 .f32) (g : FVec Ideal S1x1024 .f32) (s c : FVec Ideal S4x1x1024 .f32) (w : FVec Ideal S1024x1024 .bf16) (cos sin : FVec Ideal S8192x32 .f32) (b : Fin 4) (r : Fin 8192) (i : Fin 512) :
    result0 x g s c w cos sin (ix3 b r i) = turned (fun k : Fin 512 => ∑ d, row x g s c b r d * w (ix2 d ⟨k.val, by omega⟩)) (fun l => cos (ix2 r l)) (fun l => sin (ix2 r l)) i
      * (((Real.sqrt 64)⁻¹ * (Real.log 2)⁻¹ : ℝ) : EReal) := by
  have e : ∀ k : Fin 512, (extractStridedSlice S4x8192x512 ![0, 0, 0] (wide (hidden x g s c) w) slices_S4x8192x1024_S4x8192x512_0_0_0 : FVec Ideal S4x8192x512 .f32)
      (ix3 b r k) = wide (hidden x g s c) w (ix3 b r ⟨k.val, by omega⟩) := fun k => by pointwise
  rw [result0, scaled512_at, rope8_at]
  simp only [e, wide_at, hidden_at]

/-- The columns of 4 heads, a head's rows after another's. -/
def perHead (y : FVec Ideal S4x8192x512 .f32) : FVec Ideal S4x4x8192x128 .bf16 :=
  truncf .bf16 (transpose S4x4x8192x128 [0, 2, 1, 3] (shapeCast _ y shapeCasts_S4x8192x512_S4x8192x4x128) transposes_S4x8192x4x128_S4x4x8192x128_0_2_1_3) bitsLt_bf16_f32

theorem perHead_at (y : FVec Ideal S4x8192x512 .f32) (b : Fin 4) (r : Fin 8192) (n : Fin 4) (j : Fin 128) :
    perHead y (ix4 b n r j) = y (ix3 b r ⟨n.val * 128 + j.val, by omega⟩) := by
  pointwise [perHead]

/-- The differential attention's keys. -/
def result1 (x : FVec Ideal S4x8192x1024 .f32) (g : FVec Ideal S1x1024 .f32) (s c : FVec Ideal S4x1x1024 .f32) (w : FVec Ideal S1024x1024 .bf16) (cos sin : FVec Ideal S8192x32 .f32) : FVec Ideal S4x4x8192x128 .bf16 :=
  perHead
    (rope8 (extractStridedSlice S4x8192x512 ![0, 0, 512] (wide (hidden x g s c) w) slices_S4x8192x1024_S4x8192x512_0_0_512) cos sin)

theorem result1_at (x : FVec Ideal S4x8192x1024 .f32) (g : FVec Ideal S1x1024 .f32) (s c : FVec Ideal S4x1x1024 .f32) (w : FVec Ideal S1024x1024 .bf16) (cos sin : FVec Ideal S8192x32 .f32) (b : Fin 4) (r : Fin 8192) (n : Fin 4) (j : Fin 128) :
    result1 x g s c w cos sin (ix4 b n r j) = turned (fun k : Fin 512 => ∑ d, row x g s c b r d * w (ix2 d ⟨512 + k.val, by omega⟩)) (fun l => cos (ix2 r l)) (fun l => sin (ix2 r l)) ⟨n.val * 128 + j.val, by omega⟩ := by
  have e : ∀ k : Fin 512, (extractStridedSlice S4x8192x512 ![0, 0, 512] (wide (hidden x g s c) w) slices_S4x8192x1024_S4x8192x512_0_0_512 : FVec Ideal S4x8192x512 .f32)
      (ix3 b r k) = wide (hidden x g s c) w (ix3 b r ⟨512 + k.val, by omega⟩) := fun k => by pointwise
  rw [result1, perHead_at, rope8_at]
  simp only [e, wide_at, hidden_at]

/-- The state-space branch's columns from 0 on. -/
def result2 (x : FVec Ideal S4x8192x1024 .f32) (g : FVec Ideal S1x1024 .f32) (s c : FVec Ideal S4x1x1024 .f32) (w : FVec Ideal S1024x1664 .bf16) : FVec Ideal S4x8192x512 .f32 :=
  extractStridedSlice S4x8192x512 ![0, 0, 0] (ssd (hidden x g s c) w) slices_S4x8192x1664_S4x8192x512_0_0_0

theorem result2_at (x : FVec Ideal S4x8192x1024 .f32) (g : FVec Ideal S1x1024 .f32) (s c : FVec Ideal S4x1x1024 .f32) (w : FVec Ideal S1024x1664 .bf16) (b : Fin 4) (r : Fin 8192) (i : Fin 512) :
    result2 x g s c w (ix3 b r i) = ∑ d, row x g s c b r d * w (ix2 d ⟨i.val, by omega⟩) := by
  have e : result2 x g s c w (ix3 b r i) = ssd (hidden x g s c) w (ix3 b r ⟨i.val, by omega⟩) := by
    pointwise [result2]
  rw [e, ssd_at]
  simp only [hidden_at]

/-- The state-space branch's columns from 512 on. -/
def result3 (x : FVec Ideal S4x8192x1024 .f32) (g : FVec Ideal S1x1024 .f32) (s c : FVec Ideal S4x1x1024 .f32) (w : FVec Ideal S1024x1664 .bf16) : FVec Ideal S4x8192x1024 .f32 :=
  extractStridedSlice S4x8192x1024 ![0, 0, 512] (ssd (hidden x g s c) w) slices_S4x8192x1664_S4x8192x1024_0_0_512

theorem result3_at (x : FVec Ideal S4x8192x1024 .f32) (g : FVec Ideal S1x1024 .f32) (s c : FVec Ideal S4x1x1024 .f32) (w : FVec Ideal S1024x1664 .bf16) (b : Fin 4) (r : Fin 8192) (i : Fin 1024) :
    result3 x g s c w (ix3 b r i) = ∑ d, row x g s c b r d * w (ix2 d ⟨512 + i.val, by omega⟩) := by
  have e : result3 x g s c w (ix3 b r i) = ssd (hidden x g s c) w (ix3 b r ⟨512 + i.val, by omega⟩) := by
    pointwise [result3]
  rw [e, ssd_at]
  simp only [hidden_at]

/-- The state-space branch's columns from 1536 on. -/
def result4 (x : FVec Ideal S4x8192x1024 .f32) (g : FVec Ideal S1x1024 .f32) (s c : FVec Ideal S4x1x1024 .f32) (w : FVec Ideal S1024x1664 .bf16) : FVec Ideal S4x8192x128 .f32 :=
  extractStridedSlice S4x8192x128 ![0, 0, 1536] (ssd (hidden x g s c) w) slices_S4x8192x1664_S4x8192x128_0_0_1536

theorem result4_at (x : FVec Ideal S4x8192x1024 .f32) (g : FVec Ideal S1x1024 .f32) (s c : FVec Ideal S4x1x1024 .f32) (w : FVec Ideal S1024x1664 .bf16) (b : Fin 4) (r : Fin 8192) (i : Fin 128) :
    result4 x g s c w (ix3 b r i) = ∑ d, row x g s c b r d * w (ix2 d ⟨1536 + i.val, by omega⟩) := by
  have e : result4 x g s c w (ix3 b r i) = ssd (hidden x g s c) w (ix3 b r ⟨1536 + i.val, by omega⟩) := by
    pointwise [result4]
  rw [e, ssd_at]
  simp only [hidden_at]

/-- The latent part of the queries. -/
def latentQ (x : FVec Ideal S4x8192x1024 .f32) (g : FVec Ideal S1x1024 .f32) (s c : FVec Ideal S4x1x1024 .f32) (w : FVec Ideal S1024x768 .bf16) (gq : FVec Ideal S1x384 .f32) : FVec Ideal S4x8192x384 .f32 :=
  normed384 (extractStridedSlice S4x8192x384 ![0, 0, 0] (latent (hidden x g s c) w) slices_S4x8192x768_S4x8192x384_0_0_0) gq

theorem latentQ_at (x : FVec Ideal S4x8192x1024 .f32) (g : FVec Ideal S1x1024 .f32) (s c : FVec Ideal S4x1x1024 .f32) (w : FVec Ideal S1024x768 .bf16) (gq : FVec Ideal S1x384 .f32) (b : Fin 4) (r : Fin 8192) (k : Fin 384) :
    latentQ x g s c w gq (ix3 b r k) = rms (Ideal.ofBits .f32 0x43C00000#32) (fun d : Fin 384 => ∑ e, row x g s c b r e * w (ix2 e ⟨d.val, by omega⟩)) (fun d => gq (ix2 0 d)) k := by
  have e : ∀ k : Fin 384, (extractStridedSlice S4x8192x384 ![0, 0, 0] (latent (hidden x g s c) w) slices_S4x8192x768_S4x8192x384_0_0_0 : FVec Ideal S4x8192x384 .f32)
      (ix3 b r k) = latent (hidden x g s c) w (ix3 b r ⟨k.val, by omega⟩) := fun k => by pointwise
  rw [latentQ, normed384_at]
  simp only [e, latent_at, hidden_at]

/-- The latent part of the keys and values. -/
def latentKv (x : FVec Ideal S4x8192x1024 .f32) (g : FVec Ideal S1x1024 .f32) (s c : FVec Ideal S4x1x1024 .f32) (w : FVec Ideal S1024x768 .bf16) (gkv : FVec Ideal S1x256 .f32) : FVec Ideal S4x8192x256 .f32 :=
  normed256 (extractStridedSlice S4x8192x256 ![0, 0, 384] (latent (hidden x g s c) w) slices_S4x8192x768_S4x8192x256_0_0_384) gkv

theorem latentKv_at (x : FVec Ideal S4x8192x1024 .f32) (g : FVec Ideal S1x1024 .f32) (s c : FVec Ideal S4x1x1024 .f32) (w : FVec Ideal S1024x768 .bf16) (gkv : FVec Ideal S1x256 .f32) (b : Fin 4) (r : Fin 8192) (k : Fin 256) :
    latentKv x g s c w gkv (ix3 b r k) = rms (Ideal.ofBits .f32 0x43800000#32) (fun d : Fin 256 => ∑ e, row x g s c b r e * w (ix2 e ⟨384 + d.val, by omega⟩)) (fun d => gkv (ix2 0 d)) k := by
  have e : ∀ k : Fin 256, (extractStridedSlice S4x8192x256 ![0, 0, 384] (latent (hidden x g s c) w) slices_S4x8192x768_S4x8192x256_0_0_384 : FVec Ideal S4x8192x256 .f32)
      (ix3 b r k) = latent (hidden x g s c) w (ix3 b r ⟨384 + k.val, by omega⟩) := fun k => by pointwise
  rw [latentKv, normed256_at]
  simp only [e, latent_at, hidden_at]

/-- The heads' last 128 columns of each 256. -/
def lasts (q : FVec Ideal S4x8192x1024 .f32) : FVec Ideal S4x8192x512 .f32 :=
  shapeCast _ (extractStridedSlice S4x8192x4x128 ![0, 0, 0, 128] (shapeCast S4x8192x4x256 q shapeCasts_S4x8192x1024_S4x8192x4x256)
    slices_S4x8192x4x256_S4x8192x4x128_0_0_0_128) shapeCasts_S4x8192x4x128_S4x8192x512

theorem lasts_at (q : FVec Ideal S4x8192x1024 .f32) (b : Fin 4) (r : Fin 8192) (k : Fin 512) :
    lasts q (ix3 b r k) = q (ix3 b r ⟨k.val / 128 * 256 + (128 + k.val % 128), by omega⟩) := by
  pointwise [lasts]

/-- The heads' first 128 columns of each 256, beside 128 other columns. -/
def beside (q : FVec Ideal S4x8192x1024 .f32) (t : FVec Ideal S4x8192x512 .f32) : FVec Ideal S4x8192x1024 .f32 :=
  shapeCast _ (concatenate S4x8192x4x256 3
    [⟨S4x8192x4x128, (extractStridedSlice S4x8192x4x128 ![0, 0, 0, 0] (shapeCast S4x8192x4x256 q shapeCasts_S4x8192x1024_S4x8192x4x256) slices_S4x8192x4x256_S4x8192x4x128_0_0_0_0)⟩,
      ⟨S4x8192x4x128, (shapeCast _ t shapeCasts_S4x8192x512_S4x8192x4x128)⟩]
    concatenates_S4x8192x4x128_S4x8192x4x128_S4x8192x4x256_d3) shapeCasts_S4x8192x4x256_S4x8192x1024

theorem beside_low (q : FVec Ideal S4x8192x1024 .f32) (t : FVec Ideal S4x8192x512 .f32) (b : Fin 4) (r : Fin 8192) (i : Fin 1024) (hi : i.val % 256 < 128) :
    beside q t (ix3 b r i) = q (ix3 b r i) := by
  pointwise [beside]
  rw [dif_pos hi]

theorem beside_high (q : FVec Ideal S4x8192x1024 .f32) (t : FVec Ideal S4x8192x512 .f32) (b : Fin 4) (r : Fin 8192) (i : Fin 1024) (hi : ¬ i.val % 256 < 128) :
    beside q t (ix3 b r i) = t (ix3 b r ⟨i.val / 256 * 128 + (i.val % 256 - 128), by omega⟩) := by
  pointwise [beside]
  rw [dif_neg hi]

/-- The heads with the last 128 columns of each turned. -/
def heads (q : FVec Ideal S4x8192x1024 .f32) (cos sin : FVec Ideal S8192x32 .f32) : FVec Ideal S4x8192x1024 .f32 := beside q (rope8 (lasts q) cos sin)

theorem turned_lasts (q : Fin 1024 → EReal) (c s : Fin 32 → EReal) (i : Fin 1024) (hi : ¬ i.val % 256 < 128) :
    turned (fun k : Fin 512 => q ⟨k.val / 128 * 256 + (128 + k.val % 128), by omega⟩) c s ⟨i.val / 256 * 128 + (i.val % 256 - 128), by omega⟩ = turned q c s i := by
  have e64 : (i.val / 256 * 128 + (i.val % 256 - 128)) % 64 = i.val % 64 := by omega
  have e32 : (i.val / 256 * 128 + (i.val % 256 - 128)) % 32 = i.val % 32 := by omega
  have e0 : (i.val / 256 * 128 + (i.val % 256 - 128)) / 128 * 256 + (128 + (i.val / 256 * 128 + (i.val % 256 - 128)) % 128) = i.val := by omega
  unfold turned
  simp only [e64, e32, e0]
  split
  · rename_i h
    have e1 : (i.val / 256 * 128 + (i.val % 256 - 128) + 32) % 512 / 128 * 256 + (128 + (i.val / 256 * 128 + (i.val % 256 - 128) + 32) % 512 % 128)
        = (i.val + 32) % 1024 := by omega
    simp only [e1]
  · rename_i h
    have e1 : (i.val / 256 * 128 + (i.val % 256 - 128) - 32) / 128 * 256 + (128 + (i.val / 256 * 128 + (i.val % 256 - 128) - 32) % 128)
        = i.val - 32 := by omega
    simp only [e1]

theorem heads_at (q : FVec Ideal S4x8192x1024 .f32) (cos sin : FVec Ideal S8192x32 .f32) (b : Fin 4) (r : Fin 8192) (i : Fin 1024) :
    heads q cos sin (ix3 b r i) = headed (fun k => q (ix3 b r k)) (fun l => cos (ix2 r l)) (fun l => sin (ix2 r l)) i := by
  unfold headed
  by_cases hi : i.val % 256 < 128
  · rw [heads, beside_low _ _ b r i hi, if_pos hi]
  · rw [heads, beside_high _ _ b r i hi, if_neg hi, rope8_at]
    simp only [lasts_at]
    exact turned_lasts (fun k => q (ix3 b r k)) _ _ i hi

/-- The latent attention's queries. -/
def result5 (x : FVec Ideal S4x8192x1024 .f32) (g : FVec Ideal S1x1024 .f32) (s c : FVec Ideal S4x1x1024 .f32) (w : FVec Ideal S1024x768 .bf16) (gq : FVec Ideal S1x384 .f32) (wq : FVec Ideal S384x1024 .bf16) (cos sin : FVec Ideal S8192x32 .f32) : FVec Ideal S4x8192x1024 .bf16 :=
  scaled1024 (heads (upQ (latentQ x g s c w gq) wq) cos sin)

theorem result5_at (x : FVec Ideal S4x8192x1024 .f32) (g : FVec Ideal S1x1024 .f32) (s c : FVec Ideal S4x1x1024 .f32) (w : FVec Ideal S1024x768 .bf16) (gq : FVec Ideal S1x384 .f32) (wq : FVec Ideal S384x1024 .bf16) (cos sin : FVec Ideal S8192x32 .f32) (b : Fin 4) (r : Fin 8192) (i : Fin 1024) :
    result5 x g s c w gq wq cos sin (ix3 b r i) = headed (fun k : Fin 1024 => ∑ d, rms (Ideal.ofBits .f32 0x43C00000#32)
      (fun d : Fin 384 => ∑ e, row x g s c b r e * w (ix2 e ⟨d.val, by omega⟩)) (fun d => gq (ix2 0 d)) d * wq (ix2 d k)) (fun l => cos (ix2 r l)) (fun l => sin (ix2 r l)) i
      * (((Real.sqrt 192)⁻¹ * (Real.log 2)⁻¹ : ℝ) : EReal) := by
  rw [result5, scaled1024_at, heads_at]
  simp only [upQ_at, latentQ_at]

/-- The keys' turned part, which the heads share. -/
def shared (x : FVec Ideal S4x8192x1024 .f32) (g : FVec Ideal S1x1024 .f32) (s c : FVec Ideal S4x1x1024 .f32) (w : FVec Ideal S1024x768 .bf16) (cos sin : FVec Ideal S8192x32 .f32) : FVec Ideal S4x8192x128 .f32 :=
  rope2 (extractStridedSlice S4x8192x128 ![0, 0, 640] (latent (hidden x g s c) w) slices_S4x8192x768_S4x8192x128_0_0_640) cos sin

theorem shared_at (x : FVec Ideal S4x8192x1024 .f32) (g : FVec Ideal S1x1024 .f32) (s c : FVec Ideal S4x1x1024 .f32) (w : FVec Ideal S1024x768 .bf16) (cos sin : FVec Ideal S8192x32 .f32) (b : Fin 4) (r : Fin 8192) (j : Fin 128) :
    shared x g s c w cos sin (ix3 b r j) = turned (fun k : Fin 768 => ∑ d, row x g s c b r d * w (ix2 d k)) (fun l => cos (ix2 r l)) (fun l => sin (ix2 r l)) ⟨640 + j.val, by omega⟩ := by
  have e : ∀ k : Fin 128, (extractStridedSlice S4x8192x128 ![0, 0, 640] (latent (hidden x g s c) w) slices_S4x8192x768_S4x8192x128_0_0_640 : FVec Ideal S4x8192x128 .f32)
      (ix3 b r k) = latent (hidden x g s c) w (ix3 b r ⟨640 + k.val, by omega⟩) := fun k => by pointwise
  rw [shared, rope2_at, ← turned_part (fun k : Fin 768 => ∑ d, row x g s c b r d * w (ix2 d k)) _ _ 640 (by decide) (by decide) j]
  simp only [e, latent_at, hidden_at]

/-- Each head's own columns, beside the columns which the heads share. -/
def withShared (y : FVec Ideal S4x8192x512 .f32) (t : FVec Ideal S4x8192x128 .f32) : FVec Ideal S4x4x8192x256 .bf16 :=
  truncf .bf16 (concatenate S4x4x8192x256 3
    [⟨S4x4x8192x128, (transpose S4x4x8192x128 [0, 2, 1, 3] (shapeCast _ y shapeCasts_S4x8192x512_S4x8192x4x128)
        transposes_S4x8192x4x128_S4x4x8192x128_0_2_1_3)⟩,
      ⟨S4x4x8192x128, (broadcastInDim S4x4x8192x128 ![0, 1, 2, 3] bcast_S4x1x8192x128_S4x4x8192x128_0_1_2_3
        (broadcastInDim S4x1x8192x128 ![0, 2, 3] bcast_S4x8192x128_S4x1x8192x128_0_2_3 t))⟩]
    concatenates_S4x4x8192x128_S4x4x8192x128_S4x4x8192x256_d3) bitsLt_bf16_f32

theorem withShared_low (y : FVec Ideal S4x8192x512 .f32) (t : FVec Ideal S4x8192x128 .f32) (b : Fin 4) (r : Fin 8192) (n : Fin 4) (j : Fin 256) (hj : j.val < 128) :
    withShared y t (ix4 b n r j) = y (ix3 b r ⟨n.val * 128 + j.val, by omega⟩) := by
  pointwise [withShared]
  rw [dif_pos hj]

theorem withShared_high (y : FVec Ideal S4x8192x512 .f32) (t : FVec Ideal S4x8192x128 .f32) (b : Fin 4) (r : Fin 8192) (n : Fin 4) (j : Fin 256) (hj : ¬ j.val < 128) :
    withShared y t (ix4 b n r j) = t (ix3 b r ⟨j.val - 128, by omega⟩) := by
  pointwise [withShared]
  rw [dif_neg hj]

/-- The latent attention's keys. -/
def result6 (x : FVec Ideal S4x8192x1024 .f32) (g : FVec Ideal S1x1024 .f32) (s c : FVec Ideal S4x1x1024 .f32) (w : FVec Ideal S1024x768 .bf16) (gkv : FVec Ideal S1x256 .f32) (wk : FVec Ideal S256x512 .bf16) (cos sin : FVec Ideal S8192x32 .f32) : FVec Ideal S4x4x8192x256 .bf16 :=
  withShared (upK (latentKv x g s c w gkv) wk) (shared x g s c w cos sin)

theorem result6_at (x : FVec Ideal S4x8192x1024 .f32) (g : FVec Ideal S1x1024 .f32) (s c : FVec Ideal S4x1x1024 .f32) (w : FVec Ideal S1024x768 .bf16) (gkv : FVec Ideal S1x256 .f32) (wk : FVec Ideal S256x512 .bf16) (cos sin : FVec Ideal S8192x32 .f32) (b : Fin 4) (r : Fin 8192) (n : Fin 4) (j : Fin 256) :
    result6 x g s c w gkv wk cos sin (ix4 b n r j) = joined (fun k : Fin 512 => ∑ d, rms (Ideal.ofBits .f32 0x43800000#32)
      (fun d : Fin 256 => ∑ e, row x g s c b r e * w (ix2 e ⟨384 + d.val, by omega⟩)) (fun d => gkv (ix2 0 d)) d * wk (ix2 d k))
      (fun k : Fin 768 => ∑ d, row x g s c b r d * w (ix2 d k)) (fun l => cos (ix2 r l)) (fun l => sin (ix2 r l)) n j := by
  unfold joined
  by_cases hj : j.val < 128
  · rw [result6, withShared_low _ _ b r n j hj, dif_pos hj, upK_at]
    simp only [latentKv_at]
  · rw [result6, withShared_high _ _ b r n j hj, dif_neg hj, shared_at]
    exact congrArg (turned _ _ _ ·) (Fin.ext (by dsimp only; omega))

/-- The convolution branch's columns. -/
def result7 (x : FVec Ideal S4x8192x1024 .f32) (g : FVec Ideal S1x1024 .f32) (s c : FVec Ideal S4x1x1024 .f32) (w : FVec Ideal S1024x1536 .bf16) : FVec Ideal S4x8192x1536 .f32 := hyena (hidden x g s c) w

theorem result7_at (x : FVec Ideal S4x8192x1024 .f32) (g : FVec Ideal S1x1024 .f32) (s c : FVec Ideal S4x1x1024 .f32) (w : FVec Ideal S1024x1536 .bf16) (b : Fin 4) (r : Fin 8192) (i : Fin 1536) :
    result7 x g s c w (ix3 b r i) = ∑ d, row x g s c b r d * w (ix2 d i) := by
  rw [result7, hyena_at]
  simp only [hidden_at]

/-- The differential attention's values. -/
def result8 (x : FVec Ideal S4x8192x1024 .f32) (g : FVec Ideal S1x1024 .f32) (s c : FVec Ideal S4x1x1024 .f32) (w : FVec Ideal S512x1024 .bf16) : FVec Ideal S4x512x8192 .bf16 := valuesT (hidden x g s c) w

theorem result8_at (x : FVec Ideal S4x8192x1024 .f32) (g : FVec Ideal S1x1024 .f32) (s c : FVec Ideal S4x1x1024 .f32) (w : FVec Ideal S512x1024 .bf16) (b : Fin 4) (r : Fin 8192) (e : Fin 512) :
    result8 x g s c w (ix3 b e r) = ∑ d, w (ix2 e d) * row x g s c b r d := by
  rw [result8, valuesT_at]
  simp only [hidden_at]

/-- The latent attention's values. -/
def result9 (x : FVec Ideal S4x8192x1024 .f32) (g : FVec Ideal S1x1024 .f32) (s c : FVec Ideal S4x1x1024 .f32) (w : FVec Ideal S1024x768 .bf16) (gkv : FVec Ideal S1x256 .f32) (wv : FVec Ideal S512x256 .bf16) : FVec Ideal S4x512x8192 .bf16 :=
  latentT (latentKv x g s c w gkv) wv

theorem result9_at (x : FVec Ideal S4x8192x1024 .f32) (g : FVec Ideal S1x1024 .f32) (s c : FVec Ideal S4x1x1024 .f32) (w : FVec Ideal S1024x768 .bf16) (gkv : FVec Ideal S1x256 .f32) (wv : FVec Ideal S512x256 .bf16) (b : Fin 4) (r : Fin 8192) (e : Fin 512) :
    result9 x g s c w gkv wv (ix3 b e r) = ∑ d, wv (ix2 e d) * rms (Ideal.ofBits .f32 0x43800000#32)
      (fun d : Fin 256 => ∑ e, row x g s c b r e * w (ix2 e ⟨384 + d.val, by omega⟩)) (fun d => gkv (ix2 0 d)) d := by
  rw [result9, latentT_at]
  simp only [latentKv_at]

end Cert.InprojRefIdeal.Value

end
-- ==== Proof.InprojIdealValue.lean ====
/- The input projection's result arrays: at every index the reference's results. -/
module

public import proofs.«01_k».proof.Proof.InprojIdealOut
public import proofs.«01_k».proof.Proof.InprojRefIdealValue
public import proofs.«01_k».proof.Proof.Gen.InprojIdeal.Value
public import Idealize.ShloMosaic.Lib.Pointwise
public import Idealize.ShloMosaic.Lib.Pipeline.ValueKit

@[expose] public section

set_option maxRecDepth 16384

noncomputable section

namespace Cert.InprojIdeal.Hand

open Cert.InprojIdeal Cert.InprojIdeal.Gen Cert.Rows Cert.Projection
open Idealize.ShloMosaic Idealize.ShloMosaic.TcCoe

variable (m : (ℓ : Loc nD τ sig) → Buf (Elt Ideal) ℓ)

theorem lead (t : Fin cfg0.N) : t.val / 16 < 4 := by
  have h : t.val < 64 := Nat.lt_of_lt_of_eq t.isLt N_0
  omega

theorem index0 (t : Fin cfg0.N) : win0_0.index t = ![t.val / 16, t.val % 16, 0] :=
  (by decide +kernel : ∀ t : Fin grid0.N, win0_0.index t = ![t.val / 16, t.val % 16, 0]) t

theorem index1 (t : Fin cfg0.N) : win0_1.index t = ![0, 0] :=
  (by decide +kernel : ∀ t : Fin grid0.N, win0_1.index t = ![0, 0]) t

theorem index2 (t : Fin cfg0.N) : win0_2.index t = ![t.val / 16, 0, 0] :=
  (by decide +kernel : ∀ t : Fin grid0.N, win0_2.index t = ![t.val / 16, 0, 0]) t

theorem index3 (t : Fin cfg0.N) : win0_3.index t = ![t.val / 16, 0, 0] :=
  (by decide +kernel : ∀ t : Fin grid0.N, win0_3.index t = ![t.val / 16, 0, 0]) t

theorem index4 (t : Fin cfg0.N) : win0_4.index t = ![0, 0] :=
  (by decide +kernel : ∀ t : Fin grid0.N, win0_4.index t = ![0, 0]) t

theorem index5 (t : Fin cfg0.N) : win0_5.index t = ![0, 0] :=
  (by decide +kernel : ∀ t : Fin grid0.N, win0_5.index t = ![0, 0]) t

theorem index6 (t : Fin cfg0.N) : win0_6.index t = ![0, 0] :=
  (by decide +kernel : ∀ t : Fin grid0.N, win0_6.index t = ![0, 0]) t

theorem index7 (t : Fin cfg0.N) : win0_7.index t = ![0, 0] :=
  (by decide +kernel : ∀ t : Fin grid0.N, win0_7.index t = ![0, 0]) t

theorem index8 (t : Fin cfg0.N) : win0_8.index t = ![0, 0] :=
  (by decide +kernel : ∀ t : Fin grid0.N, win0_8.index t = ![0, 0]) t

theorem index9 (t : Fin cfg0.N) : win0_9.index t = ![0, 0] :=
  (by decide +kernel : ∀ t : Fin grid0.N, win0_9.index t = ![0, 0]) t

theorem index10 (t : Fin cfg0.N) : win0_10.index t = ![0, 0] :=
  (by decide +kernel : ∀ t : Fin grid0.N, win0_10.index t = ![0, 0]) t

theorem index11 (t : Fin cfg0.N) : win0_11.index t = ![0, 0] :=
  (by decide +kernel : ∀ t : Fin grid0.N, win0_11.index t = ![0, 0]) t

theorem index12 (t : Fin cfg0.N) : win0_12.index t = ![0, 0] :=
  (by decide +kernel : ∀ t : Fin grid0.N, win0_12.index t = ![0, 0]) t

theorem index13 (t : Fin cfg0.N) : win0_13.index t = ![0, 0] :=
  (by decide +kernel : ∀ t : Fin grid0.N, win0_13.index t = ![0, 0]) t

theorem index14 (t : Fin cfg0.N) : win0_14.index t = ![t.val % 16, 0] :=
  (by decide +kernel : ∀ t : Fin grid0.N, win0_14.index t = ![t.val % 16, 0]) t

theorem index15 (t : Fin cfg0.N) : win0_15.index t = ![t.val % 16, 0] :=
  (by decide +kernel : ∀ t : Fin grid0.N, win0_15.index t = ![t.val % 16, 0]) t

theorem index16 (t : Fin cfg0.N) : win0_16.index t = ![t.val / 16, t.val % 16, 0] :=
  (by decide +kernel : ∀ t : Fin grid0.N, win0_16.index t = ![t.val / 16, t.val % 16, 0]) t

theorem index17 (t : Fin cfg0.N) : win0_17.index t = ![t.val / 16, 0, t.val % 16, 0] :=
  (by decide +kernel : ∀ t : Fin grid0.N, win0_17.index t = ![t.val / 16, 0, t.val % 16, 0]) t

theorem index18 (t : Fin cfg0.N) : win0_18.index t = ![t.val / 16, t.val % 16, 0] :=
  (by decide +kernel : ∀ t : Fin grid0.N, win0_18.index t = ![t.val / 16, t.val % 16, 0]) t

theorem index19 (t : Fin cfg0.N) : win0_19.index t = ![t.val / 16, t.val % 16, 0] :=
  (by decide +kernel : ∀ t : Fin grid0.N, win0_19.index t = ![t.val / 16, t.val % 16, 0]) t

theorem index20 (t : Fin cfg0.N) : win0_20.index t = ![t.val / 16, t.val % 16, 0] :=
  (by decide +kernel : ∀ t : Fin grid0.N, win0_20.index t = ![t.val / 16, t.val % 16, 0]) t

theorem index21 (t : Fin cfg0.N) : win0_21.index t = ![t.val / 16, t.val % 16, 0] :=
  (by decide +kernel : ∀ t : Fin grid0.N, win0_21.index t = ![t.val / 16, t.val % 16, 0]) t

theorem index22 (t : Fin cfg0.N) : win0_22.index t = ![t.val / 16, 0, t.val % 16, 0] :=
  (by decide +kernel : ∀ t : Fin grid0.N, win0_22.index t = ![t.val / 16, 0, t.val % 16, 0]) t

theorem index23 (t : Fin cfg0.N) : win0_23.index t = ![t.val / 16, t.val % 16, 0] :=
  (by decide +kernel : ∀ t : Fin grid0.N, win0_23.index t = ![t.val / 16, t.val % 16, 0]) t

theorem index24 (t : Fin cfg0.N) : win0_24.index t = ![t.val / 16, 0, t.val % 16] :=
  (by decide +kernel : ∀ t : Fin grid0.N, win0_24.index t = ![t.val / 16, 0, t.val % 16]) t

theorem index25 (t : Fin cfg0.N) : win0_25.index t = ![t.val / 16, 0, t.val % 16] :=
  (by decide +kernel : ∀ t : Fin grid0.N, win0_25.index t = ![t.val / 16, 0, t.val % 16]) t

theorem iblk0_at (c : Dev nD) (t : Fin cfg0.N) (r : Fin 512) (i : Fin 1024) :
    (iblk m c 0 t : Vec Ideal S1x512x1024 .f32) (ix3 0 r i) = (m ((c : Thread nD τ).loc main_arg0) : Vec Ideal S4x8192x1024 .f32) (ix3 ⟨t.val / 16, lead t⟩ ⟨t.val % 16 * 512 + r.val, by omega⟩ i) := by
  rw [← V_main_arg0 m c]; blk_ext [iblk, index0 t]

theorem iblk2_at (c : Dev nD) (t : Fin cfg0.N) (i : Fin 1024) :
    (iblk m c 2 t : Vec Ideal S1x1x1024 .f32) (ix3 0 0 i) = (m ((c : Thread nD τ).loc main_arg2) : Vec Ideal S4x1x1024 .f32) (ix3 ⟨t.val / 16, lead t⟩ 0 i) := by
  rw [← V_main_arg2 m c]; blk_ext [iblk, index2 t]

theorem iblk3_at (c : Dev nD) (t : Fin cfg0.N) (i : Fin 1024) :
    (iblk m c 3 t : Vec Ideal S1x1x1024 .f32) (ix3 0 0 i) = (m ((c : Thread nD τ).loc main_arg3) : Vec Ideal S4x1x1024 .f32) (ix3 ⟨t.val / 16, lead t⟩ 0 i) := by
  rw [← V_main_arg3 m c]; blk_ext [iblk, index3 t]

theorem iblk1_at (c : Dev nD) (t : Fin cfg0.N) (r : Fin 1) (i : Fin 1024) :
    (iblk m c 1 t : Vec Ideal S1x1024 .f32) (ix2 r i) = (m ((c : Thread nD τ).loc main_arg1) : Vec Ideal S1x1024 .f32) (ix2 r i) := by
  rw [← V_main_arg1 m c]; blk_ext [iblk, index1 t]

theorem iblk4_at (c : Dev nD) (t : Fin cfg0.N) (r : Fin 1024) (i : Fin 1024) :
    (iblk m c 4 t : Vec Ideal S1024x1024 .bf16) (ix2 r i) = (m ((c : Thread nD τ).loc main_arg4) : Vec Ideal S1024x1024 .bf16) (ix2 r i) := by
  rw [← V_main_arg4 m c]; blk_ext [iblk, index4 t]

theorem iblk5_at (c : Dev nD) (t : Fin cfg0.N) (r : Fin 512) (i : Fin 1024) :
    (iblk m c 5 t : Vec Ideal S512x1024 .bf16) (ix2 r i) = (m ((c : Thread nD τ).loc main_arg5) : Vec Ideal S512x1024 .bf16) (ix2 r i) := by
  rw [← V_main_arg5 m c]; blk_ext [iblk, index5 t]

theorem iblk6_at (c : Dev nD) (t : Fin cfg0.N) (r : Fin 1024) (i : Fin 1664) :
    (iblk m c 6 t : Vec Ideal S1024x1664 .bf16) (ix2 r i) = (m ((c : Thread nD τ).loc main_arg6) : Vec Ideal S1024x1664 .bf16) (ix2 r i) := by
  rw [← V_main_arg6 m c]; blk_ext [iblk, index6 t]

theorem iblk7_at (c : Dev nD) (t : Fin cfg0.N) (r : Fin 1024) (i : Fin 768) :
    (iblk m c 7 t : Vec Ideal S1024x768 .bf16) (ix2 r i) = (m ((c : Thread nD τ).loc main_arg7) : Vec Ideal S1024x768 .bf16) (ix2 r i) := by
  rw [← V_main_arg7 m c]; blk_ext [iblk, index7 t]

theorem iblk8_at (c : Dev nD) (t : Fin cfg0.N) (r : Fin 1) (i : Fin 384) :
    (iblk m c 8 t : Vec Ideal S1x384 .f32) (ix2 r i) = (m ((c : Thread nD τ).loc main_arg8) : Vec Ideal S1x384 .f32) (ix2 r i) := by
  rw [← V_main_arg8 m c]; blk_ext [iblk, index8 t]

theorem iblk9_at (c : Dev nD) (t : Fin cfg0.N) (r : Fin 384) (i : Fin 1024) :
    (iblk m c 9 t : Vec Ideal S384x1024 .bf16) (ix2 r i) = (m ((c : Thread nD τ).loc main_arg9) : Vec Ideal S384x1024 .bf16) (ix2 r i) := by
  rw [← V_main_arg9 m c]; blk_ext [iblk, index9 t]

theorem iblk10_at (c : Dev nD) (t : Fin cfg0.N) (r : Fin 1) (i : Fin 256) :
    (iblk m c 10 t : Vec Ideal S1x256 .f32) (ix2 r i) = (m ((c : Thread nD τ).loc main_arg10) : Vec Ideal S1x256 .f32) (ix2 r i) := by
  rw [← V_main_arg10 m c]; blk_ext [iblk, index10 t]

theorem iblk11_at (c : Dev nD) (t : Fin cfg0.N) (r : Fin 256) (i : Fin 512) :
    (iblk m c 11 t : Vec Ideal S256x512 .bf16) (ix2 r i) = (m ((c : Thread nD τ).loc main_arg11) : Vec Ideal S256x512 .bf16) (ix2 r i) := by
  rw [← V_main_arg11 m c]; blk_ext [iblk, index11 t]

theorem iblk12_at (c : Dev nD) (t : Fin cfg0.N) (r : Fin 512) (i : Fin 256) :
    (iblk m c 12 t : Vec Ideal S512x256 .bf16) (ix2 r i) = (m ((c : Thread nD τ).loc main_arg12) : Vec Ideal S512x256 .bf16) (ix2 r i) := by
  rw [← V_main_arg12 m c]; blk_ext [iblk, index12 t]

theorem iblk13_at (c : Dev nD) (t : Fin cfg0.N) (r : Fin 1024) (i : Fin 1536) :
    (iblk m c 13 t : Vec Ideal S1024x1536 .bf16) (ix2 r i) = (m ((c : Thread nD τ).loc main_arg13) : Vec Ideal S1024x1536 .bf16) (ix2 r i) := by
  rw [← V_main_arg13 m c]; blk_ext [iblk, index13 t]

/-- The table of cosines: each token's, four times over. -/
def cosines (a : FVec Ideal S8192x32 .f32) : FVec Ideal S8192x128 .f32 :=
  shapeCast _ (broadcastInDim S1x8192x4x32 ![0, 1, 2, 3] bcast_S1x8192x1x32_S1x8192x4x32_0_1_2_3 (shapeCast S1x8192x1x32 a shapeCasts_S8192x32_S1x8192x1x32))
    shapeCasts_S1x8192x4x32_S8192x128

theorem cosines_at (a : FVec Ideal S8192x32 .f32) (r : Fin 8192) (i : Fin 128) :
    cosines a (ix2 r i) = a (ix2 r ⟨i.val % 32, Nat.mod_lt _ (by decide)⟩) := by
  pointwise [cosines]

theorem iblk14_at (c : Dev nD) (t : Fin cfg0.N) (r : Fin 512) (i : Fin 128) :
    (iblk m c 14 t : Vec Ideal S512x128 .f32) (ix2 r i) = (m ((c : Thread nD τ).loc main_arg14) : Vec Ideal S8192x32 .f32) (ix2 ⟨t.val % 16 * 512 + r.val, by omega⟩ ⟨i.val % 32, Nat.mod_lt _ (by decide)⟩) := by
  have h : (iblk m c 14 t : Vec Ideal S512x128 .f32) (ix2 r i) = (V m c main_v2 : Vec Ideal S8192x128 .f32) (ix2 ⟨t.val % 16 * 512 + r.val, by omega⟩ i) := by
    blk_ext [iblk, index14 t]
  rw [h]
  entry_read
  exact cosines_at _ _ _

/-- The table of sines: each token's, negated and as they are, twice over. -/
def sines (a : FVec Ideal S8192x32 .f32) : FVec Ideal S8192x128 .f32 :=
  shapeCast _ (broadcastInDim S1x8192x2x64 ![0, 1, 2, 3] bcast_S1x8192x1x64_S1x8192x2x64_0_1_2_3
    (shapeCast S1x8192x1x64 (concatenate S8192x64 1 [⟨S8192x32, Host.negf a⟩, ⟨S8192x32, a⟩] concatenates_S8192x32_S8192x32_S8192x64_d1)
      shapeCasts_S8192x64_S1x8192x1x64)) shapeCasts_S1x8192x2x64_S8192x128

/-- A token's sine at a column of the table. -/
def signed (a : FVec Ideal S8192x32 .f32) (r : Fin 8192) (i : Fin 128) : EReal :=
  if i.val % 64 < 32 then -a (ix2 r ⟨i.val % 32, Nat.mod_lt _ (by decide)⟩) else a (ix2 r ⟨i.val % 32, Nat.mod_lt _ (by decide)⟩)

theorem sines_at (a : FVec Ideal S8192x32 .f32) (r : Fin 8192) (i : Fin 128) : sines a (ix2 r i) = signed a r i := by
  unfold signed
  by_cases h : i.val % 64 < 32
  · rw [if_pos h]
    pointwise [sines]
    rw [dif_pos h]
    congr 3
    exact Fin.ext (by show i.val % 64 = i.val % 32; omega)
  · rw [if_neg h]
    pointwise [sines]
    rw [dif_neg h]
    congr 2
    exact Fin.ext (by show i.val % 64 - 32 = i.val % 32; omega)

theorem iblk15_at (c : Dev nD) (t : Fin cfg0.N) (r : Fin 512) (i : Fin 128) :
    (iblk m c 15 t : Vec Ideal S512x128 .f32) (ix2 r i) = signed (m ((c : Thread nD τ).loc main_arg15)) ⟨t.val % 16 * 512 + r.val, by omega⟩ i := by
  have h : (iblk m c 15 t : Vec Ideal S512x128 .f32) (ix2 r i) = (V m c main_v7 : Vec Ideal S8192x128 .f32) (ix2 ⟨t.val % 16 * 512 + r.val, by omega⟩ i) := by
    blk_ext [iblk, index15 t]
  rw [h]
  entry_read
  exact sines_at _ _ _

/-- The reference's modulated row of the kernel's arrays. -/
theorem row_eq (c : Dev nD) (t : Fin cfg0.N) (r : Fin 512) :
    row (iblk m c 0 t) (iblk m c 1 t) (iblk m c 2 t) (iblk m c 3 t) r = InprojRefIdeal.Value.row (m ((c : Thread nD τ).loc main_arg0)) (m ((c : Thread nD τ).loc main_arg1)) (m ((c : Thread nD τ).loc main_arg2)) (m ((c : Thread nD τ).loc main_arg3)) ⟨t.val / 16, lead t⟩ ⟨t.val % 16 * 512 + r.val, by omega⟩ := by
  unfold row InprojRefIdeal.Value.row
  simp only [iblk0_at, iblk1_at, iblk2_at, iblk3_at]

theorem tables_at (c : Dev nD) (t : Fin cfg0.N) (r : Fin 512) : Tables (k0_pay53 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (iblk m c 14 t) r0_0) (k0_pay51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
    (fun l => (m ((c : Thread nD τ).loc main_arg14) : Vec Ideal S8192x32 .f32) (ix2 ⟨t.val % 16 * 512 + r.val, by omega⟩ l)) (fun l => (m ((c : Thread nD τ).loc main_arg15) : Vec Ideal S8192x32 .f32) (ix2 ⟨t.val % 16 * 512 + r.val, by omega⟩ l)) r :=
  tables (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun i => iblk14_at m c t r i) (fun i => iblk15_at m c t r i)

theorem tables_at' (c : Dev nD) (t : Fin cfg0.N) (r : Fin 512) : Tables (k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (iblk m c 14 t) r0_0) (k0_pay51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
    (fun l => (m ((c : Thread nD τ).loc main_arg14) : Vec Ideal S8192x32 .f32) (ix2 ⟨t.val % 16 * 512 + r.val, by omega⟩ l)) (fun l => (m ((c : Thread nD τ).loc main_arg15) : Vec Ideal S8192x32 .f32) (ix2 ⟨t.val % 16 * 512 + r.val, by omega⟩ l)) r :=
  tables' (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun i => iblk14_at m c t r i) (fun i => iblk15_at m c t r i)

/-- The reference's result 0 of the kernel's arrays. -/
abbrev target16 (c : Dev nD) : FVec Ideal S4x8192x512 .bf16 :=
  InprojRefIdeal.Value.result0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))

theorem place16_at (c : Dev nD) (t : Fin cfg0.N) (r : Fin 512) (i : Fin 512) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r i) = target16 m c (ix3 ⟨t.val / 16, lead t⟩ ⟨t.val % 16 * 512 + r.val, by omega⟩ i) := by
  unfold target16
  rw [out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r i (tables_at m c t r), InprojRefIdeal.Value.result0_at]
  unfold kda
  simp only [row_eq, iblk4_at]

theorem block16_at (c : Dev nD) (t : Fin cfg0.N) (y : S1x512x512.Idx) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target16 m c ((win0_16.blk t).view.emb y) := by
  idx_vars y
  obtain rfl : y0 = 0 := Subsingleton.elim _ _
  rw [place16_at m c t y1 y2]
  blk_ext [index16 t]

theorem out16_eq (c : Dev nD) : (dats m 0 c).arrAt 16 cfg0.N = target16 m c := by
  refine (dats m 0 c).arrAt_eq_of_covers 16 _ (by decide +kernel) fun t hf y => ?_
  blk_simp
  rw [after0_16]
  exact block16_at m c t y

/-- The reference's result 1 of the kernel's arrays. -/
abbrev target17 (c : Dev nD) : FVec Ideal S4x4x8192x128 .bf16 :=
  InprojRefIdeal.Value.result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))

theorem place17_at (c : Dev nD) (t : Fin cfg0.N) (n : Fin 4) (r : Fin 512) (j : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 0 n r j) = target17 m c (ix4 ⟨t.val / 16, lead t⟩ n ⟨t.val % 16 * 512 + r.val, by omega⟩ j) := by
  unfold target17
  rw [out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) n r j (tables_at m c t r), InprojRefIdeal.Value.result1_at]
  simp only [row_eq, iblk4_at]

theorem block17_at (c : Dev nD) (t : Fin cfg0.N) (y : S1x4x512x128.Idx) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target17 m c ((win0_17.blk t).view.emb y) := by
  idx_vars y
  obtain rfl : y0 = 0 := Subsingleton.elim _ _
  rw [place17_at m c t y1 y2 y3]
  blk_ext [index17 t]

theorem out17_eq (c : Dev nD) : (dats m 0 c).arrAt 17 cfg0.N = target17 m c := by
  refine (dats m 0 c).arrAt_eq_of_covers 17 _ (by decide +kernel) fun t hf y => ?_
  blk_simp
  rw [after0_17]
  exact block17_at m c t y

/-- The reference's result 2 of the kernel's arrays. -/
abbrev target18 (c : Dev nD) : FVec Ideal S4x8192x512 .f32 :=
  InprojRefIdeal.Value.result2 (m ((c : Thread nD τ).loc main_arg0)) (m ((c : Thread nD τ).loc main_arg1)) (m ((c : Thread nD τ).loc main_arg2)) (m ((c : Thread nD τ).loc main_arg3)) (m ((c : Thread nD τ).loc main_arg6))

theorem place18_at (c : Dev nD) (t : Fin cfg0.N) (r : Fin 512) (i : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r i) = target18 m c (ix3 ⟨t.val / 16, lead t⟩ ⟨t.val % 16 * 512 + r.val, by omega⟩ i) := by
  unfold target18
  rw [out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r i , InprojRefIdeal.Value.result2_at]
  simp only [row_eq, iblk6_at]

theorem block18_at (c : Dev nD) (t : Fin cfg0.N) (y : S1x512x512.Idx) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target18 m c ((win0_18.blk t).view.emb y) := by
  idx_vars y
  obtain rfl : y0 = 0 := Subsingleton.elim _ _
  rw [place18_at m c t y1 y2]
  blk_ext [index18 t]

theorem out18_eq (c : Dev nD) : (dats m 0 c).arrAt 18 cfg0.N = target18 m c := by
  refine (dats m 0 c).arrAt_eq_of_covers 18 _ (by decide +kernel) fun t hf y => ?_
  blk_simp
  rw [after0_18]
  exact block18_at m c t y

/-- The reference's result 3 of the kernel's arrays. -/
abbrev target19 (c : Dev nD) : FVec Ideal S4x8192x1024 .f32 :=
  InprojRefIdeal.Value.result3 (m ((c : Thread nD τ).loc main_arg0)) (m ((c : Thread nD τ).loc main_arg1)) (m ((c : Thread nD τ).loc main_arg2)) (m ((c : Thread nD τ).loc main_arg3)) (m ((c : Thread nD τ).loc main_arg6))

theorem place19_at (c : Dev nD) (t : Fin cfg0.N) (r : Fin 512) (i : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r i) = target19 m c (ix3 ⟨t.val / 16, lead t⟩ ⟨t.val % 16 * 512 + r.val, by omega⟩ i) := by
  unfold target19
  rw [out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r i , InprojRefIdeal.Value.result3_at]
  simp only [row_eq, iblk6_at]

theorem block19_at (c : Dev nD) (t : Fin cfg0.N) (y : S1x512x1024.Idx) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target19 m c ((win0_19.blk t).view.emb y) := by
  idx_vars y
  obtain rfl : y0 = 0 := Subsingleton.elim _ _
  rw [place19_at m c t y1 y2]
  blk_ext [index19 t]

theorem out19_eq (c : Dev nD) : (dats m 0 c).arrAt 19 cfg0.N = target19 m c := by
  refine (dats m 0 c).arrAt_eq_of_covers 19 _ (by decide +kernel) fun t hf y => ?_
  blk_simp
  rw [after0_19]
  exact block19_at m c t y

/-- The reference's result 4 of the kernel's arrays. -/
abbrev target20 (c : Dev nD) : FVec Ideal S4x8192x128 .f32 :=
  InprojRefIdeal.Value.result4 (m ((c : Thread nD τ).loc main_arg0)) (m ((c : Thread nD τ).loc main_arg1)) (m ((c : Thread nD τ).loc main_arg2)) (m ((c : Thread nD τ).loc main_arg3)) (m ((c : Thread nD τ).loc main_arg6))

theorem place20_at (c : Dev nD) (t : Fin cfg0.N) (r : Fin 512) (i : Fin 128) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r i) = target20 m c (ix3 ⟨t.val / 16, lead t⟩ ⟨t.val % 16 * 512 + r.val, by omega⟩ i) := by
  unfold target20
  rw [out20_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r i , InprojRefIdeal.Value.result4_at]
  simp only [row_eq, iblk6_at]

theorem block20_at (c : Dev nD) (t : Fin cfg0.N) (y : S1x512x128.Idx) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target20 m c ((win0_20.blk t).view.emb y) := by
  idx_vars y
  obtain rfl : y0 = 0 := Subsingleton.elim _ _
  rw [place20_at m c t y1 y2]
  blk_ext [index20 t]

theorem out20_eq (c : Dev nD) : (dats m 0 c).arrAt 20 cfg0.N = target20 m c := by
  refine (dats m 0 c).arrAt_eq_of_covers 20 _ (by decide +kernel) fun t hf y => ?_
  blk_simp
  rw [after0_20]
  exact block20_at m c t y

/-- The reference's result 5 of the kernel's arrays. -/
abbrev target21 (c : Dev nD) : FVec Ideal S4x8192x1024 .bf16 :=
  InprojRefIdeal.Value.result5 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15))

theorem place21_at (c : Dev nD) (t : Fin cfg0.N) (r : Fin 512) (i : Fin 1024) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r i) = target21 m c (ix3 ⟨t.val / 16, lead t⟩ ⟨t.val % 16 * 512 + r.val, by omega⟩ i) := by
  unfold target21
  rw [out21_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r i (tables_at' m c t r), InprojRefIdeal.Value.result5_at]
  unfold latentQ kmla
  simp only [row_eq, iblk7_at, iblk8_at, iblk9_at]

theorem block21_at (c : Dev nD) (t : Fin cfg0.N) (y : S1x512x1024.Idx) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target21 m c ((win0_21.blk t).view.emb y) := by
  idx_vars y
  obtain rfl : y0 = 0 := Subsingleton.elim _ _
  rw [place21_at m c t y1 y2]
  blk_ext [index21 t]

theorem out21_eq (c : Dev nD) : (dats m 0 c).arrAt 21 cfg0.N = target21 m c := by
  refine (dats m 0 c).arrAt_eq_of_covers 21 _ (by decide +kernel) fun t hf y => ?_
  blk_simp
  rw [after0_21]
  exact block21_at m c t y

/-- The reference's result 6 of the kernel's arrays. -/
abbrev target22 (c : Dev nD) : FVec Ideal S4x4x8192x256 .bf16 :=
  InprojRefIdeal.Value.result6 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg11)) (m ((c : Thread nD τ).loc main_arg14)) (m ((c : Thread nD τ).loc main_arg15))

theorem place22_at (c : Dev nD) (t : Fin cfg0.N) (n : Fin 4) (r : Fin 512) (j : Fin 256) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix4 0 n r j) = target22 m c (ix4 ⟨t.val / 16, lead t⟩ n ⟨t.val % 16 * 512 + r.val, by omega⟩ j) := by
  unfold target22
  rw [out22_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) n r j (tables_at' m c t r), InprojRefIdeal.Value.result6_at]
  unfold latentKv
  simp only [row_eq, iblk7_at, iblk10_at, iblk11_at]

theorem block22_at (c : Dev nD) (t : Fin cfg0.N) (y : S1x4x512x256.Idx) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target22 m c ((win0_22.blk t).view.emb y) := by
  idx_vars y
  obtain rfl : y0 = 0 := Subsingleton.elim _ _
  rw [place22_at m c t y1 y2 y3]
  blk_ext [index22 t]

theorem out22_eq (c : Dev nD) : (dats m 0 c).arrAt 22 cfg0.N = target22 m c := by
  refine (dats m 0 c).arrAt_eq_of_covers 22 _ (by decide +kernel) fun t hf y => ?_
  blk_simp
  rw [after0_22]
  exact block22_at m c t y

/-- The reference's result 7 of the kernel's arrays. -/
abbrev target23 (c : Dev nD) : FVec Ideal S4x8192x1536 .f32 :=
  InprojRefIdeal.Value.result7 (m ((c : Thread nD τ).loc main_arg0)) (m ((c : Thread nD τ).loc main_arg1)) (m ((c : Thread nD τ).loc main_arg2)) (m ((c : Thread nD τ).loc main_arg3)) (m ((c : Thread nD τ).loc main_arg13))

theorem place23_at (c : Dev nD) (t : Fin cfg0.N) (r : Fin 512) (i : Fin 1536) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r i) = target23 m c (ix3 ⟨t.val / 16, lead t⟩ ⟨t.val % 16 * 512 + r.val, by omega⟩ i) := by
  unfold target23
  rw [out23_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r i , InprojRefIdeal.Value.result7_at]
  simp only [row_eq, iblk13_at]

theorem block23_at (c : Dev nD) (t : Fin cfg0.N) (y : S1x512x1536.Idx) : out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target23 m c ((win0_23.blk t).view.emb y) := by
  idx_vars y
  obtain rfl : y0 = 0 := Subsingleton.elim _ _
  rw [place23_at m c t y1 y2]
  blk_ext [index23 t]

theorem out23_eq (c : Dev nD) : (dats m 0 c).arrAt 23 cfg0.N = target23 m c := by
  refine (dats m 0 c).arrAt_eq_of_covers 23 _ (by decide +kernel) fun t hf y => ?_
  blk_simp
  rw [after0_23]
  exact block23_at m c t y

/-- The reference's result 8 of the kernel's arrays. -/
abbrev target24 (c : Dev nD) : FVec Ideal S4x512x8192 .bf16 :=
  InprojRefIdeal.Value.result8 (m ((c : Thread nD τ).loc main_arg0)) (m ((c : Thread nD τ).loc main_arg1)) (m ((c : Thread nD τ).loc main_arg2)) (m ((c : Thread nD τ).loc main_arg3)) (m ((c : Thread nD τ).loc main_arg5))

theorem place24_at (c : Dev nD) (t : Fin cfg0.N) (e r : Fin 512) :
    out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 e r) = target24 m c (ix3 ⟨t.val / 16, lead t⟩ e ⟨t.val % 16 * 512 + r.val, by omega⟩) := by
  unfold target24
  rw [out24_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) e r, InprojRefIdeal.Value.result8_at]
  simp only [row_eq, iblk5_at]

theorem block24_at (c : Dev nD) (t : Fin cfg0.N) (y : S1x512x512.Idx) : out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target24 m c ((win0_24.blk t).view.emb y) := by
  idx_vars y
  obtain rfl : y0 = 0 := Subsingleton.elim _ _
  rw [place24_at m c t y1 y2]
  blk_ext [index24 t]

theorem out24_eq (c : Dev nD) : (dats m 0 c).arrAt 24 cfg0.N = target24 m c := by
  refine (dats m 0 c).arrAt_eq_of_covers 24 _ (by decide +kernel) fun t hf y => ?_
  blk_simp
  rw [after0_24]
  exact block24_at m c t y

/-- The reference's result 9 of the kernel's arrays. -/
abbrev target25 (c : Dev nD) : FVec Ideal S4x512x8192 .bf16 :=
  InprojRefIdeal.Value.result9 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg12))

theorem place25_at (c : Dev nD) (t : Fin cfg0.N) (e r : Fin 512) :
    out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 e r) = target25 m c (ix3 ⟨t.val / 16, lead t⟩ e ⟨t.val % 16 * 512 + r.val, by omega⟩) := by
  unfold target25
  rw [out25_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) e r, InprojRefIdeal.Value.result9_at]
  unfold latentKv
  simp only [row_eq, iblk7_at, iblk10_at, iblk12_at]

theorem block25_at (c : Dev nD) (t : Fin cfg0.N) (y : S1x512x512.Idx) : out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = target25 m c ((win0_25.blk t).view.emb y) := by
  idx_vars y
  obtain rfl : y0 = 0 := Subsingleton.elim _ _
  rw [place25_at m c t y1 y2]
  blk_ext [index25 t]

theorem out25_eq (c : Dev nD) : (dats m 0 c).arrAt 25 cfg0.N = target25 m c := by
  refine (dats m 0 c).arrAt_eq_of_covers 25 _ (by decide +kernel) fun t hf y => ?_
  blk_simp
  rw [after0_25]
  exact block25_at m c t y

end Cert.InprojIdeal.Hand

end
-- ==== Proof.InprojClaims.lean ====
/- The claims about the input projection's kernel: frames, the constants it names, and its ten results against the reference's. -/
module

public import proofs.«01_k».proof.Defs
public import proofs.«01_k».proof.Proof.Gen.Inproj
public import proofs.«01_k».proof.Proof.Gen.Inproj.Frame
public import proofs.«01_k».proof.Proof.InprojIdealValue
public import Idealize.ShloMosaic.Lib.Quiescent

@[expose] public section

set_option maxRecDepth 16384

noncomputable section

namespace Cert.InprojClaims

open Idealize.ShloMosaic Idealize.ShloMosaic.TcCoe Idealize.SL.Sem

theorem inproj : Cert.quiescent_Inproj (hInproj := Cert.Inproj.Gen.facts) := fun m g _ => Cert.Inproj.Gen.frame m g

theorem inprojIdeal : Cert.quiescent_InprojIdeal (hInprojIdeal := Cert.InprojIdeal.Gen.facts) := fun m g _ => Cert.InprojIdeal.Gen.frame m g

theorem inprojRefIdeal : Cert.quiescent_InprojRefIdeal (hInprojRefIdeal := Cert.InprojRefIdeal.Gen.facts) := fun m g _ =>
  (θ_run _ _ _).mono (fun r h => ⟨fun c => (h c).2.2.2.2.2.2.2.2.2.2, sem_eq_zero_of_no_sems (by decide) _⟩) (Cert.InprojRefIdeal.Value.run m g)

/-- The two constants the kernel names lie at their float words. -/
theorem preserves : Cert.preserves_Inproj_InprojIdeal :=
  ⟨IdealRules.named_const.statement Cert.InprojIdeal.κ "da_scale" .f32 0x3E38AA3B#32 _ rfl,
   IdealRules.named_const.statement Cert.InprojIdeal.κ "mla_scale" .f32 0x3DD53B95#32 _ rfl⟩

theorem algebraic : Cert.algebraic_InprojIdeal_InprojRefIdeal (hInprojIdeal := Cert.InprojIdeal.Gen.facts) (hInprojRefIdeal := Cert.InprojRefIdeal.Gen.facts) := by
  intro m g m' g' _ hargs
  refine ⟨fun c => Cert.InprojIdeal.Hand.target16 m c,
    fun c => Cert.InprojIdeal.Hand.target17 m c,
    fun c => Cert.InprojIdeal.Hand.target18 m c,
    fun c => Cert.InprojIdeal.Hand.target19 m c,
    fun c => Cert.InprojIdeal.Hand.target20 m c,
    fun c => Cert.InprojIdeal.Hand.target21 m c,
    fun c => Cert.InprojIdeal.Hand.target22 m c,
    fun c => Cert.InprojIdeal.Hand.target23 m c,
    fun c => Cert.InprojIdeal.Hand.target24 m c,
    fun c => Cert.InprojIdeal.Hand.target25 m c, ?_, ?_⟩
  · refine (θ_run _ _ _).mono (fun r h c => ?_) (Cert.InprojIdeal.Value.run_blocks m g)
    obtain ⟨e0, e1, e2, e3, e4, e5, e6, e7, e8, e9, k⟩ := h c
    exact ⟨e0.trans (Cert.InprojIdeal.Hand.out16_eq m c),
      e1.trans (Cert.InprojIdeal.Hand.out17_eq m c),
      e2.trans (Cert.InprojIdeal.Hand.out18_eq m c),
      e3.trans (Cert.InprojIdeal.Hand.out19_eq m c),
      e4.trans (Cert.InprojIdeal.Hand.out20_eq m c),
      e5.trans (Cert.InprojIdeal.Hand.out21_eq m c),
      e6.trans (Cert.InprojIdeal.Hand.out22_eq m c),
      e7.trans (Cert.InprojIdeal.Hand.out23_eq m c),
      e8.trans (Cert.InprojIdeal.Hand.out24_eq m c),
      e9.trans (Cert.InprojIdeal.Hand.out25_eq m c), k⟩
  · refine (θ_run _ _ _).mono (fun r h c => ?_) (Cert.InprojRefIdeal.Value.run m' g')
    obtain ⟨h0, h1, h2, h3, h4, h5, h6, h7, h8, h9, h10, h11, h12, h13, h14, h15⟩ := hargs c
    obtain ⟨e0, e1, e2, e3, e4, e5, e6, e7, e8, e9, k⟩ := h c
    refine ⟨?_, ?_, ?_, ?_, ?_, ?_, ?_, ?_, ?_, ?_, k⟩
    · refine (e0.trans (show _ = Cert.InprojRefIdeal.Value.result0 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) (m' ((c.tc : Thread Cert.InprojRefIdeal.nD Cert.InprojRefIdeal.τ).loc Cert.InprojRefIdeal.main_arg14)) (m' ((c.tc : Thread Cert.InprojRefIdeal.nD Cert.InprojRefIdeal.τ).loc Cert.InprojRefIdeal.main_arg15)) from rfl)).trans ?_
      rw [h0, h1, h2, h3, h4, h14, h15]
    · refine (e1.trans (show _ = Cert.InprojRefIdeal.Value.result1 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) (m' ((c.tc : Thread Cert.InprojRefIdeal.nD Cert.InprojRefIdeal.τ).loc Cert.InprojRefIdeal.main_arg14)) (m' ((c.tc : Thread Cert.InprojRefIdeal.nD Cert.InprojRefIdeal.τ).loc Cert.InprojRefIdeal.main_arg15)) from rfl)).trans ?_
      rw [h0, h1, h2, h3, h4, h14, h15]
    · refine (e2.trans (show _ = Cert.InprojRefIdeal.Value.result2 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg6)) from rfl)).trans ?_
      rw [h0, h1, h2, h3, h6]
    · refine (e3.trans (show _ = Cert.InprojRefIdeal.Value.result3 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg6)) from rfl)).trans ?_
      rw [h0, h1, h2, h3, h6]
    · refine (e4.trans (show _ = Cert.InprojRefIdeal.Value.result4 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg6)) from rfl)).trans ?_
      rw [h0, h1, h2, h3, h6]
    · refine (e5.trans (show _ = Cert.InprojRefIdeal.Value.result5 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg7)) (m' ((c.tc : Thread Cert.InprojRefIdeal.nD Cert.InprojRefIdeal.τ).loc Cert.InprojRefIdeal.main_arg8)) (m' ((c.tc : Thread Cert.InprojRefIdeal.nD Cert.InprojRefIdeal.τ).loc Cert.InprojRefIdeal.main_arg9)) (m' ((c.tc : Thread Cert.InprojRefIdeal.nD Cert.InprojRefIdeal.τ).loc Cert.InprojRefIdeal.main_arg14)) (m' ((c.tc : Thread Cert.InprojRefIdeal.nD Cert.InprojRefIdeal.τ).loc Cert.InprojRefIdeal.main_arg15)) from rfl)).trans ?_
      rw [h0, h1, h2, h3, h7, h8, h9, h14, h15]
    · refine (e6.trans (show _ = Cert.InprojRefIdeal.Value.result6 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg7)) (m' ((c.tc : Thread Cert.InprojRefIdeal.nD Cert.InprojRefIdeal.τ).loc Cert.InprojRefIdeal.main_arg10)) (m' ((c.tc : Thread Cert.InprojRefIdeal.nD Cert.InprojRefIdeal.τ).loc Cert.InprojRefIdeal.main_arg11)) (m' ((c.tc : Thread Cert.InprojRefIdeal.nD Cert.InprojRefIdeal.τ).loc Cert.InprojRefIdeal.main_arg14)) (m' ((c.tc : Thread Cert.InprojRefIdeal.nD Cert.InprojRefIdeal.τ).loc Cert.InprojRefIdeal.main_arg15)) from rfl)).trans ?_
      rw [h0, h1, h2, h3, h7, h10, h11, h14, h15]
    · refine (e7.trans (show _ = Cert.InprojRefIdeal.Value.result7 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg13)) from rfl)).trans ?_
      rw [h0, h1, h2, h3, h13]
    · refine (e8.trans (show _ = Cert.InprojRefIdeal.Value.result8 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg5)) from rfl)).trans ?_
      rw [h0, h1, h2, h3, h5]
    · refine (e9.trans (show _ = Cert.InprojRefIdeal.Value.result9 (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg7)) (m' ((c.tc : Thread Cert.InprojRefIdeal.nD Cert.InprojRefIdeal.τ).loc Cert.InprojRefIdeal.main_arg10)) (m' ((c.tc : Thread Cert.InprojRefIdeal.nD Cert.InprojRefIdeal.τ).loc Cert.InprojRefIdeal.main_arg12)) from rfl)).trans ?_
      rw [h0, h1, h2, h3, h7, h10, h12]

end Cert.InprojClaims

end
-- ==== Proof.lean ====
module

public import proofs.«01_k».proof.Proof.Gen.Inproj.Frame
public import proofs.«01_k».proof.Proof.Gen.InprojIdeal.Value
public import proofs.«01_k».proof.Proof.Gen.InprojIdeal.Frame
public import proofs.«01_k».proof.Proof.Gen.InprojRefIdeal.Run
public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRefIdeal.Run
public import proofs.«01_k».proof.Proof.Gen.MlaRef.Run
public import proofs.«01_k».proof.Proof.Gen.MlaRef
public import proofs.«01_k».proof.Proof.MlaClaims
public import proofs.«01_k».proof.Proof.FfnClaims
public import proofs.«01_k».proof.Proof.MergeClaims
public import proofs.«01_k».proof.Proof.DaClaims
public import proofs.«01_k».proof.Proof.InprojClaims
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.DaRefIdeal.Run
public import proofs.«01_k».proof.Proof.Gen.DaRef.Run
public import proofs.«01_k».proof.Proof.Gen.DaRef
public import Idealize.ShloMosaic.Adequacy
public import Idealize.ShloMosaic.Init

@[expose] public section

noncomputable section

namespace Cert.Proof

open Idealize.ShloMosaic Idealize.SL.Sem Cert.Mla

theorem claim : Cert.Claim :=
  ⟨Cert.Mla.Gen.facts, Cert.MlaIdeal.Gen.facts, Cert.MlaRefIdeal.Gen.facts, Cert.MlaRef.Gen.facts,
   Cert.Ffn.Gen.facts, Cert.FfnIdeal.Gen.facts, Cert.FfnRefIdeal.Gen.facts, Cert.Merge.Gen.facts, Cert.MergeIdeal.Gen.facts, Cert.MergeRefIdeal.Gen.facts,
   Cert.Da.Gen.facts, Cert.DaIdeal.Gen.facts, Cert.DaRefIdeal.Gen.facts, Cert.DaRef.Gen.facts,
   Cert.Inproj.Gen.facts, Cert.InprojIdeal.Gen.facts, Cert.InprojRefIdeal.Gen.facts, Cert.Pre_mla_finite.facts, Cert.Pre_da_finite.facts,
   MlaClaims.mla, MlaClaims.mlaIdeal, MlaClaims.mlaIdeal_finite, MlaClaims.mlaRefIdeal, MlaClaims.mlaRefIdeal_finite, MlaClaims.mlaRef,
   FfnClaims.ffn, FfnClaims.ffnIdeal, FfnClaims.ffnRefIdeal, MergeClaims.merge, MergeClaims.mergeIdeal, MergeClaims.mergeRefIdeal,
   DaClaims.da, DaClaims.daIdeal, DaClaims.daIdeal_finite, DaClaims.daRefIdeal, DaClaims.daRefIdeal_finite, DaClaims.daRef,
   InprojClaims.inproj, InprojClaims.inprojIdeal, InprojClaims.inprojRefIdeal,
   trivial, trivial, MlaClaims.algebraic, trivial, FfnClaims.algebraic, trivial, MergeClaims.algebraic,
   trivial, trivial, DaClaims.algebraic, InprojClaims.preserves, InprojClaims.algebraic⟩

end Cert.Proof

end
